-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_rows_named : Cert.Pre_rows_named.Facts] (m : (ℓ : Loc Cert.Reference.nD Cert.Reference.τ Cert.Reference.sig) → Buf (Elt Bits) ℓ) : Prop :=
  ∀ c : Dev Cert.Reference.nD,
    (Cert.Pre_rows_named.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_above_mask [hPre_above_mask : Cert.Pre_above_mask.Facts] (m : (ℓ : Loc Cert.SelectIdeal.nD Cert.SelectIdeal.τ Cert.SelectIdeal.sig) → Buf (Elt Ideal) ℓ) : Prop :=
  ∀ c : Dev Cert.SelectIdeal.nD,
    (Cert.Pre_above_mask.fn (F := Ideal) (m ((c.tc : Thread Cert.SelectIdeal.nD Cert.SelectIdeal.τ).loc Cert.SelectIdeal.main_arg0))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_above_mask [hPre_above_mask : Cert.Pre_above_mask.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_above_mask.fn (F := Ideal) (m ((c.tc : Thread Cert.SelectReferenceIdeal.nD Cert.SelectReferenceIdeal.τ).loc Cert.SelectReferenceIdeal.main_arg0))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_rows_named : Cert.Pre_rows_named.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_above_mask [hSelectIdeal : Cert.SelectIdeal.Facts] [hPre_above_mask : Cert.Pre_above_mask.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_above_mask m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_SelectReferenceIdeal_pre_above_mask [hSelectReferenceIdeal : Cert.SelectReferenceIdeal.Facts] [hPre_above_mask : Cert.Pre_above_mask.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_above_mask m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6)
      ∧ r.2.mem ((c.tc : Thread Cert.Attend.nD Cert.Attend.τ).loc Cert.Attend.main_arg7) = m ((c.tc : Thread Cert.Attend.nD Cert.Attend.τ).loc Cert.Attend.main_arg7)
      ∧ r.2.mem ((c.tc : Thread Cert.Attend.nD Cert.Attend.τ).loc Cert.Attend.main_arg8) = m ((c.tc : Thread Cert.Attend.nD Cert.Attend.τ).loc Cert.Attend.main_arg8)
      ∧ r.2.mem ((c.tc : Thread Cert.Attend.nD Cert.Attend.τ).loc Cert.Attend.main_arg9) = m ((c.tc : Thread Cert.Attend.nD Cert.Attend.τ).loc Cert.Attend.main_arg9))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
      ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7)
      ∧ r.2.mem ((c.tc : Thread Cert.AttendIdeal.nD Cert.AttendIdeal.τ).loc Cert.AttendIdeal.main_arg8) = m ((c.tc : Thread Cert.AttendIdeal.nD Cert.AttendIdeal.τ).loc Cert.AttendIdeal.main_arg8)
      ∧ r.2.mem ((c.tc : Thread Cert.AttendIdeal.nD Cert.AttendIdeal.τ).loc Cert.AttendIdeal.main_arg9) = m ((c.tc : Thread Cert.AttendIdeal.nD Cert.AttendIdeal.τ).loc Cert.AttendIdeal.main_arg9))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4)
      ∧ r.2.mem ((c.tc : Thread Cert.AttendReferenceIdeal.nD Cert.AttendReferenceIdeal.τ).loc Cert.AttendReferenceIdeal.main_arg5) = m ((c.tc : Thread Cert.AttendReferenceIdeal.nD Cert.AttendReferenceIdeal.τ).loc Cert.AttendReferenceIdeal.main_arg5)
      ∧ r.2.mem ((c.tc : Thread Cert.AttendReferenceIdeal.nD Cert.AttendReferenceIdeal.τ).loc Cert.AttendReferenceIdeal.main_arg6) = m ((c.tc : Thread Cert.AttendReferenceIdeal.nD Cert.AttendReferenceIdeal.τ).loc Cert.AttendReferenceIdeal.main_arg6)
      ∧ r.2.mem ((c.tc : Thread Cert.AttendReferenceIdeal.nD Cert.AttendReferenceIdeal.τ).loc Cert.AttendReferenceIdeal.main_arg7) = m ((c.tc : Thread Cert.AttendReferenceIdeal.nD Cert.AttendReferenceIdeal.τ).loc Cert.AttendReferenceIdeal.main_arg7)
      ∧ r.2.mem ((c.tc : Thread Cert.AttendReferenceIdeal.nD Cert.AttendReferenceIdeal.τ).loc Cert.AttendReferenceIdeal.main_arg8) = m ((c.tc : Thread Cert.AttendReferenceIdeal.nD Cert.AttendReferenceIdeal.τ).loc Cert.AttendReferenceIdeal.main_arg8)
      ∧ r.2.mem ((c.tc : Thread Cert.AttendReferenceIdeal.nD Cert.AttendReferenceIdeal.τ).loc Cert.AttendReferenceIdeal.main_arg9) = m ((c.tc : Thread Cert.AttendReferenceIdeal.nD Cert.AttendReferenceIdeal.τ).loc Cert.AttendReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v23)) (v1 : (c : Dev Cert.Kernel.nD) → Buf (Elt Bits) ((c.tc : Thread Cert.Kernel.nD Cert.Kernel.τ).loc Cert.Kernel.main_v24)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v23) = v0 c
          ∧ r.2.mem ((c.tc : Thread Cert.Kernel.nD Cert.Kernel.τ).loc Cert.Kernel.main_v24) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v3_0)) (v1 : (c : Dev Cert.CompressIdeal.nD) → Buf (Elt Ideal) ((c.tc : Thread Cert.CompressIdeal.nD Cert.CompressIdeal.τ).loc Cert.CompressIdeal.main_v3_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v3_0) = v0 c
          ∧ r.2.mem ((c.tc : Thread Cert.CompressIdeal.nD Cert.CompressIdeal.τ).loc Cert.CompressIdeal.main_v3_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v8) = v0 c
          ∧ r.2.mem ((c.tc : Thread Cert.CompressReferenceIdeal.nD Cert.CompressReferenceIdeal.τ).loc Cert.CompressReferenceIdeal.main_v13) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v5_0)) (v1 : (c : Dev Cert.ProjectIdeal.nD) → Buf (Elt Ideal) ((c.tc : Thread Cert.ProjectIdeal.nD Cert.ProjectIdeal.τ).loc Cert.ProjectIdeal.main_v5_1)) (v2 : (c : Dev Cert.ProjectIdeal.nD) → Buf (Elt Ideal) ((c.tc : Thread Cert.ProjectIdeal.nD Cert.ProjectIdeal.τ).loc Cert.ProjectIdeal.main_v5_2)) (v3 : (c : Dev Cert.ProjectIdeal.nD) → Buf (Elt Ideal) ((c.tc : Thread Cert.ProjectIdeal.nD Cert.ProjectIdeal.τ).loc Cert.ProjectIdeal.main_v5_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v5_0) = v0 c
          ∧ r.2.mem ((c.tc : Thread Cert.ProjectIdeal.nD Cert.ProjectIdeal.τ).loc Cert.ProjectIdeal.main_v5_1) = v1 c
          ∧ r.2.mem ((c.tc : Thread Cert.ProjectIdeal.nD Cert.ProjectIdeal.τ).loc Cert.ProjectIdeal.main_v5_2) = v2 c
          ∧ r.2.mem ((c.tc : Thread Cert.ProjectIdeal.nD Cert.ProjectIdeal.τ).loc Cert.ProjectIdeal.main_v5_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v29) = v0 c
          ∧ r.2.mem ((c.tc : Thread Cert.ProjectReferenceIdeal.nD Cert.ProjectReferenceIdeal.τ).loc Cert.ProjectReferenceIdeal.main_v30) = v1 c
          ∧ r.2.mem ((c.tc : Thread Cert.ProjectReferenceIdeal.nD Cert.ProjectReferenceIdeal.τ).loc Cert.ProjectReferenceIdeal.main_v31) = v2 c
          ∧ r.2.mem ((c.tc : Thread Cert.ProjectReferenceIdeal.nD Cert.ProjectReferenceIdeal.τ).loc Cert.ProjectReferenceIdeal.main_v26) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def preserves_Select_SelectIdeal : Prop :=
  True

def algebraic_SelectIdeal_SelectReferenceIdeal_pre_above_mask [hSelectIdeal : Cert.SelectIdeal.Facts] [hSelectReferenceIdeal : Cert.SelectReferenceIdeal.Facts] [hPre_above_mask : Cert.Pre_above_mask.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_above_mask m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v0)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v6) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def preserves_Attend_AttendIdeal : Prop :=
  IdealRules.named_const.Statement Cert.AttendIdeal.κ "mask" .f32 0xF149F2CA#32 ⊥

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)
      ∧ m' ((c.tc : Thread Cert.AttendReferenceIdeal.nD Cert.AttendReferenceIdeal.τ).loc Cert.AttendReferenceIdeal.main_arg5) = m ((c.tc : Thread Cert.AttendIdeal.nD Cert.AttendIdeal.τ).loc Cert.AttendIdeal.main_arg5)
      ∧ m' ((c.tc : Thread Cert.AttendReferenceIdeal.nD Cert.AttendReferenceIdeal.τ).loc Cert.AttendReferenceIdeal.main_arg6) = m ((c.tc : Thread Cert.AttendIdeal.nD Cert.AttendIdeal.τ).loc Cert.AttendIdeal.main_arg6)
      ∧ m' ((c.tc : Thread Cert.AttendReferenceIdeal.nD Cert.AttendReferenceIdeal.τ).loc Cert.AttendReferenceIdeal.main_arg7) = m ((c.tc : Thread Cert.AttendIdeal.nD Cert.AttendIdeal.τ).loc Cert.AttendIdeal.main_arg7)
      ∧ m' ((c.tc : Thread Cert.AttendReferenceIdeal.nD Cert.AttendReferenceIdeal.τ).loc Cert.AttendReferenceIdeal.main_arg8) = m ((c.tc : Thread Cert.AttendIdeal.nD Cert.AttendIdeal.τ).loc Cert.AttendIdeal.main_arg8)
      ∧ m' ((c.tc : Thread Cert.AttendReferenceIdeal.nD Cert.AttendReferenceIdeal.τ).loc Cert.AttendReferenceIdeal.main_arg9) = m ((c.tc : Thread Cert.AttendIdeal.nD Cert.AttendIdeal.τ).loc Cert.AttendIdeal.main_arg9)) →
    ∃ (v0 : (c : Dev Cert.AttendIdeal.nD) → Buf (Elt Ideal) ((c.tc : Thread Cert.AttendIdeal.nD Cert.AttendIdeal.τ).loc Cert.AttendIdeal.main_v2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v2) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
          ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7)
          ∧ r.2.mem ((c.tc : Thread Cert.AttendIdeal.nD Cert.AttendIdeal.τ).loc Cert.AttendIdeal.main_arg8) = m ((c.tc : Thread Cert.AttendIdeal.nD Cert.AttendIdeal.τ).loc Cert.AttendIdeal.main_arg8)
          ∧ r.2.mem ((c.tc : Thread Cert.AttendIdeal.nD Cert.AttendIdeal.τ).loc Cert.AttendIdeal.main_arg9) = m ((c.tc : Thread Cert.AttendIdeal.nD Cert.AttendIdeal.τ).loc Cert.AttendIdeal.main_arg9))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v125) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4)
          ∧ r.2.mem ((c.tc : Thread Cert.AttendReferenceIdeal.nD Cert.AttendReferenceIdeal.τ).loc Cert.AttendReferenceIdeal.main_arg5) = m' ((c.tc : Thread Cert.AttendReferenceIdeal.nD Cert.AttendReferenceIdeal.τ).loc Cert.AttendReferenceIdeal.main_arg5)
          ∧ r.2.mem ((c.tc : Thread Cert.AttendReferenceIdeal.nD Cert.AttendReferenceIdeal.τ).loc Cert.AttendReferenceIdeal.main_arg6) = m' ((c.tc : Thread Cert.AttendReferenceIdeal.nD Cert.AttendReferenceIdeal.τ).loc Cert.AttendReferenceIdeal.main_arg6)
          ∧ r.2.mem ((c.tc : Thread Cert.AttendReferenceIdeal.nD Cert.AttendReferenceIdeal.τ).loc Cert.AttendReferenceIdeal.main_arg7) = m' ((c.tc : Thread Cert.AttendReferenceIdeal.nD Cert.AttendReferenceIdeal.τ).loc Cert.AttendReferenceIdeal.main_arg7)
          ∧ r.2.mem ((c.tc : Thread Cert.AttendReferenceIdeal.nD Cert.AttendReferenceIdeal.τ).loc Cert.AttendReferenceIdeal.main_arg8) = m' ((c.tc : Thread Cert.AttendReferenceIdeal.nD Cert.AttendReferenceIdeal.τ).loc Cert.AttendReferenceIdeal.main_arg8)
          ∧ r.2.mem ((c.tc : Thread Cert.AttendReferenceIdeal.nD Cert.AttendReferenceIdeal.τ).loc Cert.AttendReferenceIdeal.main_arg9) = m' ((c.tc : Thread Cert.AttendReferenceIdeal.nD Cert.AttendReferenceIdeal.τ).loc Cert.AttendReferenceIdeal.main_arg9))

def Claim : Prop :=
  ∃ (hKernel : Cert.Kernel.Facts) (hKernelIdeal : Cert.KernelIdeal.Facts) (hReferenceIdeal : Cert.ReferenceIdeal.Facts) (hReference : Cert.Reference.Facts) (hCompress : Cert.Compress.Facts) (hCompressIdeal : Cert.CompressIdeal.Facts) (hCompressReferenceIdeal : Cert.CompressReferenceIdeal.Facts) (hProject : Cert.Project.Facts) (hProjectIdeal : Cert.ProjectIdeal.Facts) (hProjectReferenceIdeal : Cert.ProjectReferenceIdeal.Facts) (hSelect : Cert.Select.Facts) (hSelectIdeal : Cert.SelectIdeal.Facts) (hSelectReferenceIdeal : Cert.SelectReferenceIdeal.Facts) (hAttend : Cert.Attend.Facts) (hAttendIdeal : Cert.AttendIdeal.Facts) (hAttendReferenceIdeal : Cert.AttendReferenceIdeal.Facts) (hPre_rows_named : Cert.Pre_rows_named.Facts) (hPre_above_mask : Cert.Pre_above_mask.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ quiescent_Reference (hReference := hReference) (hPre_rows_named := hPre_rows_named)
    ∧ quiescent_Compress (hCompress := hCompress)
    ∧ quiescent_CompressIdeal (hCompressIdeal := hCompressIdeal)
    ∧ quiescent_CompressReferenceIdeal (hCompressReferenceIdeal := hCompressReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Select (hSelect := hSelect)
    ∧ quiescent_SelectIdeal (hSelectIdeal := hSelectIdeal)
    ∧ quiescent_SelectIdeal_pre_above_mask (hSelectIdeal := hSelectIdeal) (hPre_above_mask := hPre_above_mask)
    ∧ quiescent_SelectReferenceIdeal (hSelectReferenceIdeal := hSelectReferenceIdeal)
    ∧ quiescent_SelectReferenceIdeal_pre_above_mask (hSelectReferenceIdeal := hSelectReferenceIdeal) (hPre_above_mask := hPre_above_mask)
    ∧ quiescent_Attend (hAttend := hAttend)
    ∧ quiescent_AttendIdeal (hAttendIdeal := hAttendIdeal)
    ∧ quiescent_AttendReferenceIdeal (hAttendReferenceIdeal := hAttendReferenceIdeal)
    ∧ preserves_Kernel_KernelIdeal
    ∧ algebraic_KernelIdeal_ReferenceIdeal (hKernelIdeal := hKernelIdeal) (hReferenceIdeal := hReferenceIdeal) (hPre_rows_named := hPre_rows_named)
    ∧ bitexact_Kernel_Reference (hKernel := hKernel) (hReference := hReference) (hPre_rows_named := hPre_rows_named)
    ∧ preserves_Compress_CompressIdeal
    ∧ algebraic_CompressIdeal_CompressReferenceIdeal (hCompressIdeal := hCompressIdeal) (hCompressReferenceIdeal := hCompressReferenceIdeal)
    ∧ preserves_Project_ProjectIdeal
    ∧ algebraic_ProjectIdeal_ProjectReferenceIdeal (hProjectIdeal := hProjectIdeal) (hProjectReferenceIdeal := hProjectReferenceIdeal)
    ∧ preserves_Select_SelectIdeal
    ∧ algebraic_SelectIdeal_SelectReferenceIdeal_pre_above_mask (hSelectIdeal := hSelectIdeal) (hSelectReferenceIdeal := hSelectReferenceIdeal) (hPre_above_mask := hPre_above_mask)
    ∧ preserves_Attend_AttendIdeal
    ∧ algebraic_AttendIdeal_AttendReferenceIdeal (hAttendIdeal := hAttendIdeal) (hAttendReferenceIdeal := hAttendReferenceIdeal)
-- ==== Pre_above_mask.lean ====
abbrev S128x64 : Shape := ⟨2, ![128, 64]⟩
abbrev S_ : Shape := ⟨0, ![]⟩

class Facts : Prop where
  bcast_S_S128x64 : S_.BroadcastsInDim S128x64 (![] : Fin 0 → Fin S128x64.rank)

variable [Facts]

def fn {F : FTy → Type} [FloatOps F] (main_arg0 : FVec F S128x64 .f32) : IVec S128x64 1 :=
  let main_cst : FVec F S_ .f32 := constant S_ .f32 0xF149F2CA#32
  let main_v0 : FVec F S128x64 .f32 := broadcastInDim S128x64 ![] bcast_S_S128x64 main_cst
  let main_v1 : IVec S128x64 1 := cmpf .ogt main_arg0 main_v0
  main_v1
-- ==== Pre_rows_named.lean ====
abbrev S4096x512 : Shape := ⟨2, ![4096, 512]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S4096x512 32) (main_arg1 : IVec S4096x512 32) (main_arg2 : IVec S1024 32) (main_arg3 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 32 := constantI S_ 32 4096#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 32 := constantI S_ 32 0#32
  let main_v5 : IVec S1024 32 := broadcastInDim S1024 ![] bcast_S_S1024 main_c_1
  let main_v6 : IVec S1024 1 := cmpi .sge main_arg3 main_v5
  let main_v7 : IVec S1024 1 := andi main_v4 main_v6
  let main_c_2 : IVec S_ 32 := constantI S_ 32 4096#32
  let main_v8 : IVec S1024 32 := broadcastInDim S1024 ![] bcast_S_S1024 main_c_2
  let main_v9 : IVec S1024 1 := cmpi .slt main_arg3 main_v8
  let main_v10 : IVec S1024 1 := andi main_v7 main_v9
  main_v10
-- ==== Kernel.lean ====
abbrev S4096x512 : Shape := ⟨2, ![4096, 512]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S1x2048 : Shape := ⟨2, ![1, 2048]⟩
abbrev S8192x2x128 : Shape := ⟨3, ![8192, 2, 128]⟩
abbrev S2048x2x128 : Shape := ⟨3, ![2048, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S1x128x2x128 : Shape := ⟨4, ![1, 128, 2, 128]⟩
abbrev S128x2x128 : Shape := ⟨3, ![128, 2, 128]⟩
abbrev S128 : Shape := ⟨1, ![128]⟩
abbrev S1024x512 : Shape := ⟨2, ![1024, 512]⟩

abbrev nBuf : Table → Nat
  | .hbm => 36
  | .local .scVector .vmem => 4
  | _ => 0

abbrev bufTy : (tb : Table) → Fin (nBuf tb) → BufTy
  | .hbm, ⟨0, _⟩ => ⟨S4096x512, .i32⟩
  | .hbm, ⟨1, _⟩ => ⟨S4096x512, .i32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x1, .i32⟩
  | .hbm, ⟨15, _⟩ => ⟨S1024x2, .i32⟩
  | .hbm, ⟨16, _⟩ => ⟨S1x2048, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1, .i32⟩
  | .hbm, ⟨28, _⟩ => ⟨S1024x2, .i32⟩
  | .hbm, ⟨29, _⟩ => ⟨S1x2048, .i32⟩
  | .hbm, ⟨30, _⟩ => ⟨S8192x2x128, .i32⟩
  | .hbm, ⟨31, _⟩ => ⟨S8192x2x128, .i32⟩
  | .hbm, ⟨32, _⟩ => ⟨S2048x2x128, .i32⟩
  | .hbm, ⟨33, _⟩ => ⟨S2048x2x128, .i32⟩
  | .hbm, ⟨34, _⟩ => ⟨S1024x512, .i32⟩
  | .hbm, ⟨35, _⟩ => ⟨S1024x512, .i32⟩
  | .local .scVector .vmem, ⟨0, _⟩ => ⟨S2x1x128, .i32⟩
  | .local .scVector .vmem, ⟨1, _⟩ => ⟨S2x128x2x128, .i32⟩
  | .local .scVector .vmem, ⟨2, _⟩ => ⟨S2x1x128, .i32⟩
  | .local .scVector .vmem, ⟨3, _⟩ => ⟨S2x128x2x128, .i32⟩
  | _, _ => ⟨S4096x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_v20_scv : Ref sig .scVector := ⟨.hbm, 30, rfl⟩
abbrev main_v21_scv : Ref sig .scVector := ⟨.hbm, 31, rfl⟩
abbrev main_v9_scv : Ref sig .scVector := ⟨.hbm, 16, rfl⟩
abbrev main_v19_scv : Ref sig .scVector := ⟨.hbm, 29, rfl⟩
abbrev main_v22_0_scv : Ref sig .scVector := ⟨.hbm, 32, rfl⟩
abbrev main_v22_1_scv : Ref sig .scVector := ⟨.hbm, 33, rfl⟩
abbrev cc0_scoped0 : Ref sig .scVector := ⟨.vmem, 0, rfl⟩
abbrev cc0_scoped2 : Ref sig .scVector := ⟨.vmem, 1, rfl⟩
abbrev cc0_scoped5 : Ref sig .scVector := ⟨.vmem, 2, rfl⟩
abbrev cc0_scoped7 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_18_r0 : BitVec 32 := 0#32
  let c2_i32_r0 : BitVec 32 := 2#32
  let v17_r0 : BitVec 32 := Scalar.remui c0_i32_18_r0 c2_i32_r0
  let c0_i32_19_r0 : BitVec 32 := 0#32
  let c0_i32_20_r0 : BitVec 32 := 0#32
  ![v17_r0.toNat, 0, 0]
def k0_off2 (i : grid0.Coords) : Fin 2 → Nat :=
  let c0_i32_21_r0 : BitVec 32 := 0#32
  let c128_i32_r0 : BitVec 32 := 128#32
  let c0_i32_r0 : BitVec 32 := 0#32
  let arg1 : BitVec 32 := BitVec.ofNat 32 (i 1).val
  let c1_i32 : BitVec 32 := 1#32
  let v0 : BitVec 32 := Scalar.muli arg1 c1_i32
  let v4_r0 : BitVec 32 := Scalar.addi c0_i32_r0 v0
  let v18_r0 : BitVec 32 := Scalar.muli c128_i32_r0 v4_r0
  ![0, v18_r0.toNat]
def k0_off3 : Fin 1 → Nat :=
  let c0_i32_18_r0 : BitVec 32 := 0#32
  let c2_i32_r0 : BitVec 32 := 2#32
  let v17_r0 : BitVec 32 := Scalar.remui c0_i32_18_r0 c2_i32_r0
  ![v17_r0.toNat]
def k0_cond1 (i : grid0.Coords) : BitVec 1 :=
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let c0_i32_46_r0 : BitVec 32 := 0#32
  let v38_r0 : BitVec 32 := Scalar.addi c0_i32_46_r0 v0
  let v43_r0 : BitVec 1 := Scalar.cmpi .ne v30_r0 v38_r0
  let c0_i32_31_r0 : BitVec 32 := 0#32
  let c0_i32_53_r0 : BitVec 32 := 0#32
  let v44_r0 : BitVec 1 := Scalar.cmpi .sge c0_i32_31_r0 c0_i32_53_r0
  let true_54_r0 : BitVec 1 := 1#1
  let v45_r0 : BitVec 1 := Scalar.xori v44_r0 true_54_r0
  let v46_r0 : BitVec 1 := Scalar.andi v43_r0 v45_r0
  let true_55_r0 : BitVec 1 := 1#1
  let v47_r0 : BitVec 1 := Scalar.andi v46_r0 true_55_r0
  let v48_r0 : BitVec 32 := Scalar.extui v47_r0
  let c0_i32_56_r0 : BitVec 32 := 0#32
  let v49_r0 : BitVec 1 := Scalar.cmpi .ne v48_r0 c0_i32_56_r0
  v49_r0

def k0_off4 : Fin 3 → Nat :=
  let c0_i32_25_r0 : BitVec 32 := 0#32
  let c1_i32_26_r0 : BitVec 32 := 1#32
  let v27_r0 : BitVec 32 := Scalar.addi c0_i32_25_r0 c1_i32_26_r0
  let c2_i32_122_r0 : BitVec 32 := 2#32
  let v131_r0 : BitVec 32 := Scalar.remui v27_r0 c2_i32_122_r0
  let c0_i32_124_r0 : BitVec 32 := 0#32
  let c0_i32_125_r0 : BitVec 32 := 0#32
  ![v131_r0.toNat, 0, 0]
def k0_off5 (i : grid0.Coords) : Fin 2 → Nat :=
  let c0_i32_126_r0 : BitVec 32 := 0#32
  let c128_i32_123_r0 : BitVec 32 := 128#32
  let c0_i32_46_r0 : BitVec 32 := 0#32
  let arg1 : BitVec 32 := BitVec.ofNat 32 (i 1).val
  let c1_i32 : BitVec 32 := 1#32
  let v0 : BitVec 32 := Scalar.muli arg1 c1_i32
  let v38_r0 : BitVec 32 := Scalar.addi c0_i32_46_r0 v0
  let v132_r0 : BitVec 32 := Scalar.muli c128_i32_123_r0 v38_r0
  ![0, v132_r0.toNat]
def k0_off6 : Fin 1 → Nat :=
  let c0_i32_25_r0 : BitVec 32 := 0#32
  let c1_i32_26_r0 : BitVec 32 := 1#32
  let v27_r0 : BitVec 32 := Scalar.addi c0_i32_25_r0 c1_i32_26_r0
  let c2_i32_122_r0 : BitVec 32 := 2#32
  let v131_r0 : BitVec 32 := Scalar.remui v27_r0 c2_i32_122_r0
  ![v131_r0.toNat]
def k0_cond2 (i : grid0.Coords) : BitVec 1 :=
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let c0_i32_40_r0 : BitVec 32 := 0#32
  let v34_r0 : BitVec 32 := Scalar.addi c0_i32_40_r0 v0
  let v57_r0 : BitVec 1 := Scalar.cmpi .ne v30_r0 v34_r0
  let c0_i32_31_r0 : BitVec 32 := 0#32
  let c0_i32_32_r0 : BitVec 32 := 0#32
  let v28_r0 : BitVec 1 := Scalar.cmpi .eq c0_i32_31_r0 c0_i32_32_r0
  let v58_r0 : BitVec 1 := Scalar.ori v57_r0 v28_r0
  let c0_i32_61_r0 : BitVec 32 := 0#32
  let v59_r0 : BitVec 1 := Scalar.cmpi .sge c0_i32_31_r0 c0_i32_61_r0
  let v60_r0 : BitVec 1 := Scalar.andi v58_r0 v59_r0
  let v61_r0 : BitVec 32 := Scalar.extui v60_r0
  let c0_i32_62_r0 : BitVec 32 := 0#32
  let v62_r0 : BitVec 1 := Scalar.cmpi .ne v61_r0 c0_i32_62_r0
  v62_r0

def k0_off7 : Fin 3 → Nat :=
  let c0_i32_27_r0 : BitVec 32 := 0#32
  let c2_i32_123_r0 : BitVec 32 := 2#32
  let v132_r0 : BitVec 32 := Scalar.remui c0_i32_27_r0 c2_i32_123_r0
  let c0_i32_124_r0 : BitVec 32 := 0#32
  let c0_i32_125_r0 : BitVec 32 := 0#32
  ![v132_r0.toNat, 0, 0]
def k0_off8 (i : grid0.Coords) : Fin 2 → Nat :=
  let c0_i32_126_r0 : BitVec 32 := 0#32
  let c128_i32_122_r0 : BitVec 32 := 128#32
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let v131_r0 : BitVec 32 := Scalar.muli c128_i32_122_r0 v30_r0
  ![0, v131_r0.toNat]
def k0_off9 : Fin 1 → Nat :=
  let c0_i32_27_r0 : BitVec 32 := 0#32
  let c2_i32_123_r0 : BitVec 32 := 2#32
  let v132_r0 : BitVec 32 := Scalar.remui c0_i32_27_r0 c2_i32_123_r0
  ![v132_r0.toNat]
def k0_off10 : Fin 4 → Nat :=
  let c0_i32_28_r0 : BitVec 32 := 0#32
  let c2_i32_66_r0 : BitVec 32 := 2#32
  let v70_r0 : BitVec 32 := Scalar.remui c0_i32_28_r0 c2_i32_66_r0
  let c0_i32_122_r1 : BitVec 32 := 0#32
  let c0_i32_123_r1 : BitVec 32 := 0#32
  let c0_i32_124_r1 : BitVec 32 := 0#32
  ![v70_r0.toNat, 0, 0, 0]
def k0_cond5 (i : grid0.Coords) : BitVec 1 :=
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let c0_i32_46_r0 : BitVec 32 := 0#32
  let v38_r0 : BitVec 32 := Scalar.addi c0_i32_46_r0 v0
  let v76_r0 : BitVec 1 := Scalar.cmpi .ne v30_r0 v38_r0
  let c0_i32_31_r0 : BitVec 32 := 0#32
  let c0_i32_33_r0 : BitVec 32 := 0#32
  let v29_r0 : BitVec 1 := Scalar.cmpi .eq c0_i32_31_r0 c0_i32_33_r0
  let v77_r0 : BitVec 1 := Scalar.ori v76_r0 v29_r0
  let v78_r0 : BitVec 32 := Scalar.extui v77_r0
  let c0_i32_69_r0 : BitVec 32 := 0#32
  let v79_r0 : BitVec 1 := Scalar.cmpi .ne v78_r0 c0_i32_69_r0
  v79_r0

def k0_off11 : Fin 4 → Nat :=
  let c0_i32_28_r0 : BitVec 32 := 0#32
  let c2_i32_122_r0 : BitVec 32 := 2#32
  let v131_r0 : BitVec 32 := Scalar.remui c0_i32_28_r0 c2_i32_122_r0
  let c0_i32_124_r0 : BitVec 32 := 0#32
  let c0_i32_125_r0 : BitVec 32 := 0#32
  let c0_i32_126_r0 : BitVec 32 := 0#32
  ![v131_r0.toNat, 0, 0, 0]
def k0_off12 (i : grid0.Coords) : Fin 3 → Nat :=
  let c128_i32_123_r0 : BitVec 32 := 128#32
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let v132_r0 : BitVec 32 := Scalar.muli c128_i32_123_r0 v30_r0
  let c0_i32_127_r0 : BitVec 32 := 0#32
  let c0_i32_128_r0 : BitVec 32 := 0#32
  ![v132_r0.toNat, 0, 0]
def k0_off13 : Fin 1 → Nat :=
  let c0_i32_28_r0 : BitVec 32 := 0#32
  let c2_i32_122_r0 : BitVec 32 := 2#32
  let v131_r0 : BitVec 32 := Scalar.remui c0_i32_28_r0 c2_i32_122_r0
  ![v131_r0.toNat]
def k0_cond7 (i : grid0.Coords) : BitVec 1 :=
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let c0_i32_40_r0 : BitVec 32 := 0#32
  let v34_r0 : BitVec 32 := Scalar.addi c0_i32_40_r0 v0
  let v89_r0 : BitVec 1 := Scalar.cmpi .ne v30_r0 v34_r0
  let c0_i32_31_r0 : BitVec 32 := 0#32
  let c0_i32_32_r0 : BitVec 32 := 0#32
  let v28_r0 : BitVec 1 := Scalar.cmpi .eq c0_i32_31_r0 c0_i32_32_r0
  let true_75_r0 : BitVec 1 := 1#1
  let v90_r0 : BitVec 1 := Scalar.xori v28_r0 true_75_r0
  let v91_r0 : BitVec 1 := Scalar.andi v89_r0 v90_r0
  let v92_r0 : BitVec 32 := Scalar.extui v91_r0
  let c0_i32_76_r0 : BitVec 32 := 0#32
  let v93_r0 : BitVec 1 := Scalar.cmpi .ne v92_r0 c0_i32_76_r0
  v93_r0

def k0_off14 : Fin 4 → Nat :=
  let c0_i32_29_r0 : BitVec 32 := 0#32
  let c2_i32_122_r0 : BitVec 32 := 2#32
  let v131_r0 : BitVec 32 := Scalar.remui c0_i32_29_r0 c2_i32_122_r0
  let c0_i32_124_r0 : BitVec 32 := 0#32
  let c0_i32_125_r0 : BitVec 32 := 0#32
  let c0_i32_126_r0 : BitVec 32 := 0#32
  ![v131_r0.toNat, 0, 0, 0]
def k0_off15 (i : grid0.Coords) : Fin 3 → Nat :=
  let c128_i32_123_r0 : BitVec 32 := 128#32
  let c0_i32_40_r0 : BitVec 32 := 0#32
  let arg1 : BitVec 32 := BitVec.ofNat 32 (i 1).val
  let c1_i32 : BitVec 32 := 1#32
  let v0 : BitVec 32 := Scalar.muli arg1 c1_i32
  let v34_r0 : BitVec 32 := Scalar.addi c0_i32_40_r0 v0
  let v132_r0 : BitVec 32 := Scalar.muli c128_i32_123_r0 v34_r0
  let c0_i32_127_r0 : BitVec 32 := 0#32
  let c0_i32_128_r0 : BitVec 32 := 0#32
  ![v132_r0.toNat, 0, 0]
def k0_off16 : Fin 1 → Nat :=
  let c0_i32_29_r0 : BitVec 32 := 0#32
  let c2_i32_122_r0 : BitVec 32 := 2#32
  let v131_r0 : BitVec 32 := Scalar.remui c0_i32_29_r0 c2_i32_122_r0
  ![v131_r0.toNat]
def k0_off17 (i : grid0.Coords) : Fin 4 → Nat :=
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let c0_i32_40_r0 : BitVec 32 := 0#32
  let v34_r0 : BitVec 32 := Scalar.addi c0_i32_40_r0 v0
  let v89_r0 : BitVec 1 := Scalar.cmpi .ne v30_r0 v34_r0
  let c0_i32_31_r0 : BitVec 32 := 0#32
  let c0_i32_32_r0 : BitVec 32 := 0#32
  let v28_r0 : BitVec 1 := Scalar.cmpi .eq c0_i32_31_r0 c0_i32_32_r0
  let true_75_r0 : BitVec 1 := 1#1
  let v90_r0 : BitVec 1 := Scalar.xori v28_r0 true_75_r0
  let v91_r0 : BitVec 1 := Scalar.andi v89_r0 v90_r0
  let true_77_r0 : BitVec 1 := 1#1
  let v94_r0 : BitVec 1 := Scalar.andi v91_r0 true_77_r0
  let c0_i32_29_r0 : BitVec 32 := 0#32
  let c1_i32_78_r0 : BitVec 32 := 1#32
  let v95_r0 : BitVec 32 := Scalar.addi c0_i32_29_r0 c1_i32_78_r0
  let v96_r0 : BitVec 32 := Scalar.select v94_r0 v95_r0 c0_i32_29_r0
  let c2_i32_110_r0 : BitVec 32 := 2#32
  let v121_r0 : BitVec 32 := Scalar.remui v96_r0 c2_i32_110_r0
  let c0_i32_112_r0 : BitVec 32 := 0#32
  let c0_i32_113_r0 : BitVec 32 := 0#32
  let c0_i32_114_r0 : BitVec 32 := 0#32
  ![v121_r0.toNat, 0, 0, 0]
def k0_off18 (i : grid0.Coords) : Fin 3 → Nat :=
  let c128_i32_111_r0 : BitVec 32 := 128#32
  let c0_i32_91_r0 : BitVec 32 := 0#32
  let arg1 : BitVec 32 := BitVec.ofNat 32 (i 1).val
  let c1_i32 : BitVec 32 := 1#32
  let v0 : BitVec 32 := Scalar.muli arg1 c1_i32
  let v108_r0 : BitVec 32 := Scalar.addi c0_i32_91_r0 v0
  let v122_r0 : BitVec 32 := Scalar.muli c128_i32_111_r0 v108_r0
  let c0_i32_115_r0 : BitVec 32 := 0#32
  let c0_i32_116_r0 : BitVec 32 := 0#32
  ![v122_r0.toNat, 0, 0]
def k0_off19 (i : grid0.Coords) : Fin 1 → Nat :=
  let c0_i32_34_r0 : BitVec 32 := 0#32
  let arg1 : BitVec 32 := BitVec.ofNat 32 (i 1).val
  let c1_i32 : BitVec 32 := 1#32
  let v0 : BitVec 32 := Scalar.muli arg1 c1_i32
  let v30_r0 : BitVec 32 := Scalar.addi c0_i32_34_r0 v0
  let c0_i32_40_r0 : BitVec 32 := 0#32
  let v34_r0 : BitVec 32 := Scalar.addi c0_i32_40_r0 v0
  let v89_r0 : BitVec 1 := Scalar.cmpi .ne v30_r0 v34_r0
  let c0_i32_31_r0 : BitVec 32 := 0#32
  let c0_i32_32_r0 : BitVec 32 := 0#32
  let v28_r0 : BitVec 1 := Scalar.cmpi .eq c0_i32_31_r0 c0_i32_32_r0
  let true_75_r0 : BitVec 1 := 1#1
  let v90_r0 : BitVec 1 := Scalar.xori v28_r0 true_75_r0
  let v91_r0 : BitVec 1 := Scalar.andi v89_r0 v90_r0
  let true_77_r0 : BitVec 1 := 1#1
  let v94_r0 : BitVec 1 := Scalar.andi v91_r0 true_77_r0
  let c0_i32_29_r0 : BitVec 32 := 0#32
  let c1_i32_78_r0 : BitVec 32 := 1#32
  let v95_r0 : BitVec 32 := Scalar.addi c0_i32_29_r0 c1_i32_78_r0
  let v96_r0 : BitVec 32 := Scalar.select v94_r0 v95_r0 c0_i32_29_r0
  let c2_i32_110_r0 : BitVec 32 := 2#32
  let v121_r0 : BitVec 32 := Scalar.remui v96_r0 c2_i32_110_r0
  ![v121_r0.toNat]
def k0_cond8 (i : grid0.Coords) : BitVec 1 :=
  let c0_i32_34_r2 : BitVec 32 := 0#32
  let arg1 : BitVec 32 := BitVec.ofNat 32 (i 1).val
  let c1_i32_0 : BitVec 32 := 1#32
  let v1 : BitVec 32 := Scalar.muli arg1 c1_i32_0
  let v30_r2 : BitVec 32 := Scalar.addi c0_i32_34_r2 v1
  let c0_i32_46_r2 : BitVec 32 := 0#32
  let v38_r2 : BitVec 32 := Scalar.addi c0_i32_46_r2 v1
  let v43_r2 : BitVec 1 := Scalar.cmpi .ne v30_r2 v38_r2
  let c0_i32_31_r2 : BitVec 32 := 0#32
  let c0_i32_53_r2 : BitVec 32 := 0#32
  let v44_r2 : BitVec 1 := Scalar.cmpi .sge c0_i32_31_r2 c0_i32_53_r2
  let true_54_r2 : BitVec 1 := 1#1
  let v45_r2 : BitVec 1 := Scalar.xori v44_r2 true_54_r2
  let v46_r2 : BitVec 1 := Scalar.andi v43_r2 v45_r2
  let true_55_r2 : BitVec 1 := 1#1
  let v47_r2 : BitVec 1 := Scalar.andi v46_r2 true_55_r2
  let v48_r2 : BitVec 32 := Scalar.extui v47_r2
  let c0_i32_56_r2 : BitVec 32 := 0#32
  let v49_r2 : BitVec 1 := Scalar.cmpi .ne v48_r2 c0_i32_56_r2
  v49_r2

def k0_off20 : Fin 3 → Nat :=
  let c0_i32_25_r2 : BitVec 32 := 0#32
  let c1_i32_26_r2 : BitVec 32 := 1#32
  let v27_r2 : BitVec 32 := Scalar.addi c0_i32_25_r2 c1_i32_26_r2
  let c2_i32_122_r2 : BitVec 32 := 2#32
  let v131_r2 : BitVec 32 := Scalar.remui v27_r2 c2_i32_122_r2
  let c0_i32_124_r2 : BitVec 32 := 0#32
  let c0_i32_125_r2 : BitVec 32 := 0#32
  ![v131_r2.toNat, 0, 0]
def k0_off21 (i : grid0.Coords) : Fin 2 → Nat :=
  let c0_i32_126_r2 : BitVec 32 := 0#32
  let c128_i32_123_r2 : BitVec 32 := 128#32
  let c0_i32_46_r2 : BitVec 32 := 0#32
  let arg1 : BitVec 32 := BitVec.ofNat 32 (i 1).val
  let c1_i32_0 : BitVec 32 := 1#32
  let v1 : BitVec 32 := Scalar.muli arg1 c1_i32_0
  let v38_r2 : BitVec 32 := Scalar.addi c0_i32_46_r2 v1
  let v132_r2 : BitVec 32 := Scalar.muli c128_i32_123_r2 v38_r2
  ![0, v132_r2.toNat]
def k0_off22 : Fin 1 → Nat :=
  let c0_i32_25_r2 : BitVec 32 := 0#32
  let c1_i32_26_r2 : BitVec 32 := 1#32
  let v27_r2 : BitVec 32 := Scalar.addi c0_i32_25_r2 c1_i32_26_r2
  let c2_i32_122_r2 : BitVec 32 := 2#32
  let v131_r2 : BitVec 32 := Scalar.remui v27_r2 c2_i32_122_r2
  ![v131_r2.toNat]
def k0_cond9 (i : grid0.Coords) : BitVec 1 :=
  let c0_i32_34_r2 : BitVec 32 := 0#32
  let arg1 : BitVec 32 := BitVec.ofNat 32 (i 1).val
  let c1_i32_0 : BitVec 32 := 1#32
  let v1 : BitVec 32 := Scalar.muli arg1 c1_i32_0
  let v30_r2 : BitVec 32 := Scalar.addi c0_i32_34_r2 v1
  let c0_i32_40_r2 : BitVec 32 := 0#32
  let v34_r2 : BitVec 32 := Scalar.addi c0_i32_40_r2 v1
  let v57_r2 : BitVec 1 := Scalar.cmpi .ne v30_r2 v34_r2
  let c0_i32_31_r2 : BitVec 32 := 0#32
  let c0_i32_32_r2 : BitVec 32 := 0#32
  let v28_r2 : BitVec 1 := Scalar.cmpi .eq c0_i32_31_r2 c0_i32_32_r2
  let v58_r2 : BitVec 1 := Scalar.ori v57_r2 v28_r2
  let c0_i32_61_r2 : BitVec 32 := 0#32
  let v59_r2 : BitVec 1 := Scalar.cmpi .sge c0_i32_31_r2 c0_i32_61_r2
  let v60_r2 : BitVec 1 := Scalar.andi v58_r2 v59_r2
  let v61_r2 : BitVec 32 := Scalar.extui v60_r2
  let c0_i32_62_r2 : BitVec 32 := 0#32
  let v62_r2 : BitVec 1 := Scalar.cmpi .ne v61_r2 c0_i32_62_r2
  v62_r2

def k0_off23 : Fin 3 → Nat :=
  let c0_i32_27_r2 : BitVec 32 := 0#32
  let c2_i32_123_r2 : BitVec 32 := 2#32
  let v132_r2 : BitVec 32 := Scalar.remui c0_i32_27_r2 c2_i32_123_r2
  let c0_i32_124_r2 : BitVec 32 := 0#32
  let c0_i32_125_r2 : BitVec 32 := 0#32
  ![v132_r2.toNat, 0, 0]
def k0_off24 (i : grid0.Coords) : Fin 2 → Nat :=
  let c0_i32_126_r2 : BitVec 32 := 0#32
  let c128_i32_122_r2 : BitVec 32 := 128#32
  let c0_i32_34_r2 : BitVec 32 := 0#32
  let arg1 : BitVec 32 := BitVec.ofNat 32 (i 1).val
  let c1_i32_0 : BitVec 32 := 1#32
  let v1 : BitVec 32 := Scalar.muli arg1 c1_i32_0
  let v30_r2 : BitVec 32 := Scalar.addi c0_i32_34_r2 v1
  let v131_r2 : BitVec 32 := Scalar.muli c128_i32_122_r2 v30_r2
  ![0, v131_r2.toNat]
def k0_off25 : Fin 1 → Nat :=
  let c0_i32_27_r2 : BitVec 32 := 0#32
  let c2_i32_123_r2 : BitVec 32 := 2#32
  let v132_r2 : BitVec 32 := Scalar.remui c0_i32_27_r2 c2_i32_123_r2
  ![v132_r2.toNat]
def k0_cond12 (i : grid0.Coords) : BitVec 1 :=
  let c0_i32_34_r2 : BitVec 32 := 0#32
  let arg1 : BitVec 32 := BitVec.ofNat 32 (i 1).val
  let c1_i32_0 : BitVec 32 := 1#32
  let v1 : BitVec 32 := Scalar.muli arg1 c1_i32_0
  let v30_r2 : BitVec 32 := Scalar.addi c0_i32_34_r2 v1
  let c0_i32_46_r2 : BitVec 32 := 0#32
  let v38_r2 : BitVec 32 := Scalar.addi c0_i32_46_r2 v1
  let v76_r2 : BitVec 1 := Scalar.cmpi .ne v30_r2 v38_r2
  let c0_i32_31_r2 : BitVec 32 := 0#32
  let c0_i32_33_r2 : BitVec 32 := 0#32
  let v29_r2 : BitVec 1 := Scalar.cmpi .eq c0_i32_31_r2 c0_i32_33_r2
  let v77_r2 : BitVec 1 := Scalar.ori v76_r2 v29_r2
  let v78_r2 : BitVec 32 := Scalar.extui v77_r2
  let c0_i32_69_r2 : BitVec 32 := 0#32
  let v79_r2 : BitVec 1 := Scalar.cmpi .ne v78_r2 c0_i32_69_r2
  v79_r2

def k0_off26 : Fin 4 → Nat :=
  let c0_i32_28_r2 : BitVec 32 := 0#32
  let c2_i32_122_r2 : BitVec 32 := 2#32
  let v131_r2 : BitVec 32 := Scalar.remui c0_i32_28_r2 c2_i32_122_r2
  let c0_i32_124_r2 : BitVec 32 := 0#32
  let c0_i32_125_r2 : BitVec 32 := 0#32
  let c0_i32_126_r2 : BitVec 32 := 0#32
  ![v131_r2.toNat, 0, 0, 0]
def k0_off27 (i : grid0.Coords) : Fin 3 → Nat :=
  let c128_i32_123_r2 : BitVec 32 := 128#32
  let c0_i32_34_r2 : BitVec 32 := 0#32
  let arg1 : BitVec 32 := BitVec.ofNat 32 (i 1).val
  let c1_i32_0 : BitVec 32 := 1#32
  let v1 : BitVec 32 := Scalar.muli arg1 c1_i32_0
  let v30_r2 : BitVec 32 := Scalar.addi c0_i32_34_r2 v1
  let v132_r2 : BitVec 32 := Scalar.muli c128_i32_123_r2 v30_r2
  let c0_i32_127_r2 : BitVec 32 := 0#32
  let c0_i32_128_r2 : BitVec 32 := 0#32
  ![v132_r2.toNat, 0, 0]
def k0_off28 : Fin 1 → Nat :=
  let c0_i32_28_r2 : BitVec 32 := 0#32
  let c2_i32_122_r2 : BitVec 32 := 2#32
  let v131_r2 : BitVec 32 := Scalar.remui c0_i32_28_r2 c2_i32_122_r2
  ![v131_r2.toNat]
def k0_cond14 (i : grid0.Coords) : BitVec 1 :=
  let c0_i32_34_r2 : BitVec 32 := 0#32
  let arg1 : BitVec 32 := BitVec.ofNat 32 (i 1).val
  let c1_i32_0 : BitVec 32 := 1#32
  let v1 : BitVec 32 := Scalar.muli arg1 c1_i32_0
  let v30_r2 : BitVec 32 := Scalar.addi c0_i32_34_r2 v1
  let c0_i32_40_r2 : BitVec 32 := 0#32
  let v34_r2 : BitVec 32 := Scalar.addi c0_i32_40_r2 v1
  let v89_r2 : BitVec 1 := Scalar.cmpi .ne v30_r2 v34_r2
  let c0_i32_31_r2 : BitVec 32 := 0#32
  let c0_i32_32_r2 : BitVec 32 := 0#32
  let v28_r2 : BitVec 1 := Scalar.cmpi .eq c0_i32_31_r2 c0_i32_32_r2
  let true_75_r2 : BitVec 1 := 1#1
  let v90_r2 : BitVec 1 := Scalar.xori v28_r2 true_75_r2
  let v91_r2 : BitVec 1 := Scalar.andi v89_r2 v90_r2
  let v92_r2 : BitVec 32 := Scalar.extui v91_r2
  let c0_i32_76_r2 : BitVec 32 := 0#32
  let v93_r2 : BitVec 1 := Scalar.cmpi .ne v92_r2 c0_i32_76_r2
  v93_r2

def k0_off29 : Fin 4 → Nat :=
  let c0_i32_29_r2 : BitVec 32 := 0#32
  let c2_i32_122_r2 : BitVec 32 := 2#32
  let v131_r2 : BitVec 32 := Scalar.remui c0_i32_29_r2 c2_i32_122_r2
  let c0_i32_124_r2 : BitVec 32 := 0#32
  let c0_i32_125_r2 : BitVec 32 := 0#32
  let c0_i32_126_r2 : BitVec 32 := 0#32
  ![v131_r2.toNat, 0, 0, 0]
def k0_off30 (i : grid0.Coords) : Fin 3 → Nat :=
  let c128_i32_123_r2 : BitVec 32 := 128#32
  let c0_i32_40_r2 : BitVec 32 := 0#32
  let arg1 : BitVec 32 := BitVec.ofNat 32 (i 1).val
  let c1_i32_0 : BitVec 32 := 1#32
  let v1 : BitVec 32 := Scalar.muli arg1 c1_i32_0
  let v34_r2 : BitVec 32 := Scalar.addi c0_i32_40_r2 v1
  let v132_r2 : BitVec 32 := Scalar.muli c128_i32_123_r2 v34_r2
  let c0_i32_127_r2 : BitVec 32 := 0#32
  let c0_i32_128_r2 : BitVec 32 := 0#32
  ![v132_r2.toNat, 0, 0]
def k0_off31 : Fin 1 → Nat :=
  let c0_i32_29_r2 : BitVec 32 := 0#32
  let c2_i32_122_r2 : BitVec 32 := 2#32
  let v131_r2 : BitVec 32 := Scalar.remui c0_i32_29_r2 c2_i32_122_r2
  ![v131_r2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x512 : Shape := ⟨2, ![4096, 512]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x512 : Shape := ⟨2, ![1024, 512]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .i32⟩
  | .hbm, ⟨1, _⟩ => ⟨S4096x512, .i32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x512, .i32⟩
  | .hbm, ⟨23, _⟩ => ⟨S1024x512, .i1⟩
  | .hbm, ⟨24, _⟩ => ⟨S_, .i32⟩
  | .hbm, ⟨25, _⟩ => ⟨S1024x512, .i32⟩
  | .hbm, ⟨26, _⟩ => ⟨S1024x512, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S1x1, .i32⟩
  | .hbm, ⟨40, _⟩ => ⟨S1024x1, .i32⟩
  | .hbm, ⟨41, _⟩ => ⟨S1024x1, .i1⟩
  | .hbm, ⟨42, _⟩ => ⟨S1024x1, .i1⟩
  | .hbm, ⟨43, _⟩ => ⟨S_, .i1⟩
  | .hbm, ⟨44, _⟩ => ⟨S1024, .i1⟩
  | .hbm, ⟨45, _⟩ => ⟨S1024x512, .i32⟩
  | .hbm, ⟨46, _⟩ => ⟨S1024x512, .i1⟩
  | .hbm, ⟨47, _⟩ => ⟨S_, .i32⟩
  | .hbm, ⟨48, _⟩ => ⟨S1024x512, .i32⟩
  | .hbm, ⟨49, _⟩ => ⟨S1024x512, .i32⟩
  | _, _ => ⟨S4096x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_c_4 : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Compress.lean ====
abbrev S4096x1024 : Shape := ⟨2, ![4096, 1024]⟩
abbrev S1024x32768 : Shape := ⟨2, ![1024, 32768]⟩
abbrev S1024 : Shape := ⟨1, ![1024]⟩
abbrev S128x32768 : Shape := ⟨2, ![128, 32768]⟩
abbrev S1x1024 : Shape := ⟨2, ![1, 1024]⟩
abbrev S128x1024 : Shape := ⟨2, ![128, 1024]⟩
abbrev S128x2048 : Shape := ⟨2, ![128, 2048]⟩
abbrev S1024x2048 : Shape := ⟨2, ![1024, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x32768, .f32⟩
  | .hbm, ⟨3, _⟩ => ⟨S1024, .f32⟩
  | .hbm, ⟨4, _⟩ => ⟨S128x32768, .bf16⟩
  | .hbm, ⟨5, _⟩ => ⟨S128x32768, .bf16⟩
  | .hbm, ⟨6, _⟩ => ⟨S1x1024, .f32⟩
  | .hbm, ⟨7, _⟩ => ⟨S128x1024, .f32⟩
  | .hbm, ⟨8, _⟩ => ⟨S128x1024, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S1024x2048, .f32⟩
  | .local _ .vmem, ⟨5, _⟩ => ⟨S1024x2048, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_6 : BitVec 32 := 0#32
  let v10 : BitVec 1 := Scalar.cmpi .ne v9 c0_i32_6
  v10

def k0_cond2 (i : grid0.Coords) : BitVec 1 :=
  let arg0 : BitVec 32 := BitVec.ofNat 32 (i 0).val
  let c0_i32_7 : BitVec 32 := 0#32
  let v11 : BitVec 1 := Scalar.cmpi .sgt arg0 c0_i32_7
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c15_i32 : BitVec 32 := 15#32
  let v14 : BitVec 1 := Scalar.cmpi .eq arg0 c15_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== CompressReferenceIdeal.lean ====
abbrev S4096x1024 : Shape := ⟨2, ![4096, 1024]⟩
abbrev S1024x32768 : Shape := ⟨2, ![1024, 32768]⟩
abbrev S1024 : Shape := ⟨1, ![1024]⟩
abbrev S128x32768 : Shape := ⟨2, ![128, 32768]⟩
abbrev S32768x1024 : Shape := ⟨2, ![32768, 1024]⟩
abbrev S128x1024 : Shape := ⟨2, ![128, 1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x32768, .f32⟩
  | .hbm, ⟨3, _⟩ => ⟨S1024, .f32⟩
  | .hbm, ⟨4, _⟩ => ⟨S4096x1024, .f32⟩
  | .hbm, ⟨5, _⟩ => ⟨S128x32768, .f32⟩
  | .hbm, ⟨6, _⟩ => ⟨S4096x1024, .f32⟩
  | .hbm, ⟨7, _⟩ => ⟨S128x32768, .f32⟩
  | .hbm, ⟨8, _⟩ => ⟨S32768x1024, .f32⟩
  | .hbm, ⟨9, _⟩ => ⟨S128x1024, .f32⟩
  | .hbm, ⟨10, _⟩ => ⟨S1x1024, .f32⟩
  | .hbm, ⟨11, _⟩ => ⟨S128x1024, .f32⟩
  | .hbm, ⟨12, _⟩ => ⟨S128x1024, .f32⟩
  | .hbm, ⟨13, _⟩ => ⟨S32768x1024, .f32⟩
  | .hbm, ⟨14, _⟩ => ⟨S128x1024, .f32⟩
  | .hbm, ⟨15, _⟩ => ⟨S1x1024, .f32⟩
  | .hbm, ⟨16, _⟩ => ⟨S128x1024, .f32⟩
  | .hbm, ⟨17, _⟩ => ⟨S128x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Project.lean ====
abbrev S2x2048x1024 : Shape := ⟨3, ![2, 2048, 1024]⟩
abbrev S3072x1024 : Shape := ⟨2, ![3072, 1024]⟩
abbrev S3072 : Shape := ⟨1, ![3072]⟩
abbrev S1x1024 : Shape := ⟨2, ![1, 1024]⟩
abbrev S3x1024 : Shape := ⟨2, ![3, 1024]⟩
abbrev S3 : Shape := ⟨1, ![3]⟩
abbrev S4096x1024 : Shape := ⟨2, ![4096, 1024]⟩
abbrev S1x3072 : Shape := ⟨2, ![1, 3072]⟩
abbrev S1024x3 : Shape := ⟨2, ![1024, 3]⟩
abbrev S1x3 : Shape := ⟨2, ![1, 3]⟩
abbrev S4096x8 : Shape := ⟨2, ![4096, 8]⟩
abbrev S512x1024 : Shape := ⟨2, ![512, 1024]⟩
abbrev S512x8 : Shape := ⟨2, ![512, 8]⟩
abbrev S512x3072 : Shape := ⟨2, ![512, 3072]⟩
abbrev S512 : Shape := ⟨1, ![512]⟩
abbrev S512x1 : Shape := ⟨2, ![512, 1]⟩
abbrev S512x3 : Shape := ⟨2, ![512, 3]⟩

abbrev nBuf : Space → Nat
  | .hbm => 15
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1x1024, .f32⟩
  | .hbm, ⟨4, _⟩ => ⟨S3x1024, .f32⟩
  | .hbm, ⟨5, _⟩ => ⟨S3, .f32⟩
  | .hbm, ⟨6, _⟩ => ⟨S4096x1024, .f32⟩
  | .hbm, ⟨7, _⟩ => ⟨S3072x1024, .bf16⟩
  | .hbm, ⟨8, _⟩ => ⟨S1x3072, .f32⟩
  | .hbm, ⟨9, _⟩ => ⟨S1024x3, .f32⟩
  | .hbm, ⟨10, _⟩ => ⟨S1x3, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x8, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S1024x3, .f32⟩
  | .local _ .vmem, ⟨5, _⟩ => ⟨S1x3, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x8, .f32⟩
  | .local _ .vmem, ⟨14, _⟩ => ⟨S512x8, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectReferenceIdeal.lean ====
abbrev S2x2048x1024 : Shape := ⟨3, ![2, 2048, 1024]⟩
abbrev S3072x1024 : Shape := ⟨2, ![3072, 1024]⟩
abbrev S3072 : Shape := ⟨1, ![3072]⟩
abbrev S1x1024 : Shape := ⟨2, ![1, 1024]⟩
abbrev S3x1024 : Shape := ⟨2, ![3, 1024]⟩
abbrev S3 : Shape := ⟨1, ![3]⟩
abbrev S4096x1024 : Shape := ⟨2, ![4096, 1024]⟩
abbrev S1024x3072 : Shape := ⟨2, ![1024, 3072]⟩
abbrev S4096x3072 : Shape := ⟨2, ![4096, 3072]⟩
abbrev S1x3072 : Shape := ⟨2, ![1, 3072]⟩
abbrev S1024x3 : Shape := ⟨2, ![1024, 3]⟩
abbrev S4096x3 : Shape := ⟨2, ![4096, 3]⟩
abbrev S1x3 : Shape := ⟨2, ![1, 3]⟩
abbrev S_ : Shape := ⟨0, ![]⟩
abbrev S1024x1 : Shape := ⟨2, ![1024, 1]⟩
abbrev S4096x1 : Shape := ⟨2, ![4096, 1]⟩
abbrev S4096x8 : Shape := ⟨2, ![4096, 8]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1x1024, .f32⟩
  | .hbm, ⟨4, _⟩ => ⟨S3x1024, .f32⟩
  | .hbm, ⟨5, _⟩ => ⟨S3, .f32⟩
  | .hbm, ⟨6, _⟩ => ⟨S4096x1024, .f32⟩
  | .hbm, ⟨7, _⟩ => ⟨S1024x3072, .f32⟩
  | .hbm, ⟨8, _⟩ => ⟨S4096x3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024x3, .f32⟩
  | .hbm, ⟨17, _⟩ => ⟨S4096x3, .f32⟩
  | .hbm, ⟨18, _⟩ => ⟨S1x3, .f32⟩
  | .hbm, ⟨19, _⟩ => ⟨S4096x3, .f32⟩
  | .hbm, ⟨20, _⟩ => ⟨S4096x3, .f32⟩
  | .hbm, ⟨21, _⟩ => ⟨S4096x3, .f32⟩
  | .hbm, ⟨22, _⟩ => ⟨S4096x3, .f32⟩
  | .hbm, ⟨23, _⟩ => ⟨S_, .f32⟩
  | .hbm, ⟨24, _⟩ => ⟨S4096x3, .f32⟩
  | .hbm, ⟨25, _⟩ => ⟨S4096x3, .f32⟩
  | .hbm, ⟨26, _⟩ => ⟨S_, .f32⟩
  | .hbm, ⟨27, _⟩ => ⟨S4096x3, .f32⟩
  | .hbm, ⟨28, _⟩ => ⟨S4096x3, .f32⟩
  | .hbm, ⟨29, _⟩ => ⟨S1024x1, .f32⟩
  | .hbm, ⟨30, _⟩ => ⟨S4096x1, .f32⟩
  | .hbm, ⟨31, _⟩ => ⟨S1024x1, .f32⟩
  | .hbm, ⟨32, _⟩ => ⟨S4096x1, .f32⟩
  | .hbm, ⟨33, _⟩ => ⟨S_, .f32⟩
  | .hbm, ⟨34, _⟩ => ⟨S4096x3, .f32⟩
  | .hbm, ⟨35, _⟩ => ⟨S4096x8, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .bf16⟩
  | .hbm, ⟨41, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Select.lean ====
abbrev S128x64 : Shape := ⟨2, ![128, 64]⟩
abbrev S128x16 : Shape := ⟨2, ![128, 16]⟩
abbrev S128x1 : Shape := ⟨2, ![128, 1]⟩
abbrev S128 : Shape := ⟨1, ![128]⟩

abbrev nBuf : Space → Nat
  | .hbm => 2
  | .vmem => 2
  | .smem => 0
  | _ => 0

abbrev bufTy : (tb : Table) → Fin (tcTables nBuf tb) → BufTy
  | .hbm, ⟨0, _⟩ => ⟨S128x64, .f32⟩
  | .hbm, ⟨1, _⟩ => ⟨S128x16, .i32⟩
  | .local _ .vmem, ⟨0, _⟩ => ⟨S128x64, .f32⟩
  | .local _ .vmem, ⟨1, _⟩ => ⟨S128x16, .i32⟩
  | _, _ => ⟨S128x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SelectReferenceIdeal.lean ====
abbrev S128x64 : Shape := ⟨2, ![128, 64]⟩
abbrev S128x16 : Shape := ⟨2, ![128, 16]⟩
abbrev S128 : Shape := ⟨1, ![128]⟩
abbrev S128x1 : Shape := ⟨2, ![128, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x16, .f32⟩
  | .hbm, ⟨2, _⟩ => ⟨S128x16, .i32⟩
  | .hbm, ⟨3, _⟩ => ⟨S128, .i32⟩
  | .hbm, ⟨4, _⟩ => ⟨S128x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S_, .i32⟩
  | .hbm, ⟨20, _⟩ => ⟨S_, .i1⟩
  | .hbm, ⟨21, _⟩ => ⟨S128x1, .i1⟩
  | .hbm, ⟨22, _⟩ => ⟨S128x1, .i1⟩
  | .hbm, ⟨23, _⟩ => ⟨S128x1, .i1⟩
  | .hbm, ⟨24, _⟩ => ⟨S128x1, .i32⟩
  | .hbm, ⟨25, _⟩ => ⟨S128x1, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x16, .i32⟩
  | .hbm, ⟨31, _⟩ => ⟨S128x16, .i32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Attend.lean ====
abbrev S4096x1024 : Shape := ⟨2, ![4096, 1024]⟩
abbrev S4096x8 : Shape := ⟨2, ![4096, 8]⟩
abbrev S1024x1024 : Shape := ⟨2, ![1024, 1024]⟩
abbrev S128x1024 : Shape := ⟨2, ![128, 1024]⟩
abbrev S1024 : Shape := ⟨1, ![1024]⟩
abbrev S1x1024 : Shape := ⟨2, ![1, 1024]⟩
abbrev S64x1024 : Shape := ⟨2, ![64, 1024]⟩
abbrev S128x8 : Shape := ⟨2, ![128, 8]⟩
abbrev S128x1 : Shape := ⟨2, ![128, 1]⟩
abbrev S1x128 : Shape := ⟨2, ![1, 128]⟩
abbrev S128x128 : Shape := ⟨2, ![128, 128]⟩
abbrev S128x384 : Shape := ⟨2, ![128, 384]⟩
abbrev S128 : Shape := ⟨1, ![128]⟩
abbrev S384x1024 : Shape := ⟨2, ![384, 1024]⟩
abbrev S1x64 : Shape := ⟨2, ![1, 64]⟩
abbrev S128x64 : Shape := ⟨2, ![128, 64]⟩

abbrev nBuf : Space → Nat
  | .hbm => 13
  | .vmem => 37
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S1024x1024, .bf16⟩
  | .hbm, ⟨5, _⟩ => ⟨S1024x1024, .bf16⟩
  | .hbm, ⟨6, _⟩ => ⟨S128x1024, .f32⟩
  | .hbm, ⟨7, _⟩ => ⟨S128x1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S4096x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S128x8, .f32⟩
  | .local _ .vmem, ⟨31, _⟩ => ⟨S128x8, .f32⟩
  | .local _ .vmem, ⟨32, _⟩ => ⟨S1024x1024, .bf16⟩
  | .local _ .vmem, ⟨33, _⟩ => ⟨S1x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c_m1_i32 : BitVec 32 := 4294967295#32
  let v1 : BitVec 32 := Scalar.addi arg1 c_m1_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi arg1 c0_i32
  let c0_i32_0 : BitVec 32 := 0#32
  let c3_i32 : BitVec 32 := 3#32
  let v2 : BitVec 32 := Scalar.maxsi c0_i32_0 v1
  let v3 : BitVec 32 := Scalar.minsi c3_i32 v2
  let v4 : BitVec 32 := Scalar.addi v0 v3
  let c0_i32_1 : BitVec 32 := 0#32
  let c0_i32_2 : BitVec 32 := 0#32
  ![v4.toNat, c0_i32_1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi arg1 c1_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c_m1_i32 : BitVec 32 := 4294967295#32
  let v1 : BitVec 32 := Scalar.addi arg1 c_m1_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi arg1 c0_i32
  let c0_i32_0 : BitVec 32 := 0#32
  let c3_i32 : BitVec 32 := 3#32
  let v2 : BitVec 32 := Scalar.maxsi c0_i32_0 v1
  let v3 : BitVec 32 := Scalar.minsi c3_i32 v2
  let v4 : BitVec 32 := Scalar.addi v0 v3
  let c0_i32_1 : BitVec 32 := 0#32
  let c0_i32_2 : BitVec 32 := 0#32
  ![v4.toNat, c0_i32_1.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi arg1 c1_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== AttendIdeal.lean ====
variable {F : FTy → Type} [FloatOps F] [Named F]
def κ : String → Option EReal := fun
  | "mask" => some ⊥
  | _ => none
-- ==== AttendReferenceIdeal.lean ====
abbrev S4096x1024 : Shape := ⟨2, ![4096, 1024]⟩
abbrev S4096x8 : Shape := ⟨2, ![4096, 8]⟩
abbrev S1024x1024 : Shape := ⟨2, ![1024, 1024]⟩
abbrev S128x1024 : Shape := ⟨2, ![128, 1024]⟩
abbrev S1024 : Shape := ⟨1, ![1024]⟩
abbrev S2x2048x1024 : Shape := ⟨3, ![2, 2048, 1024]⟩
abbrev S2x512x1024 : Shape := ⟨3, ![2, 512, 1024]⟩
abbrev S2x64x1024 : Shape := ⟨3, ![2, 64, 1024]⟩
abbrev S2x2048x8 : Shape := ⟨3, ![2, 2048, 8]⟩
abbrev S2x2048x1 : Shape := ⟨3, ![2, 2048, 1]⟩
abbrev S2x2048x64 : Shape := ⟨3, ![2, 2048, 64]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S_ : Shape := ⟨0, ![]⟩
abbrev S2048x64 : Shape := ⟨2, ![2048, 64]⟩
abbrev S1x2048x64 : Shape := ⟨3, ![1, 2048, 64]⟩
abbrev S2x2048 : Shape := ⟨2, ![2, 2048]⟩
abbrev S2x2048x512 : Shape := ⟨3, ![2, 2048, 512]⟩
abbrev S512 : Shape := ⟨1, ![512]⟩
abbrev S1x512 : Shape := ⟨2, ![1, 512]⟩
abbrev S2048x512 : Shape := ⟨2, ![2048, 512]⟩
abbrev S1x2048x512 : Shape := ⟨3, ![1, 2048, 512]⟩
abbrev S2x2048x2048 : Shape := ⟨3, ![2, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S1x1024 : Shape := ⟨2, ![1, 1024]⟩

abbrev nBuf : Space → Nat
  | .hbm => 175
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x8, .f32⟩
  | 4 => ⟨S1024x1024, .bf16⟩
  | 5 => ⟨S1024x1024, .bf16⟩
  | 6 => ⟨S128x1024, .f32⟩
  | 7 => ⟨S128x1024, .f32⟩
  | 8 => ⟨S1024x1024, .f32⟩
  | 9 => ⟨S1024, .f32⟩
  | 10 => ⟨S4096x1024, .f32⟩
  | 11 => ⟨S2x2048x1024, .f32⟩
  | 12 => ⟨S4096x1024, .f32⟩
  | 13 => ⟨S2x2048x1024, .f32⟩
  | 14 => ⟨S4096x1024, .f32⟩
  | 15 => ⟨S2x2048x1024, .f32⟩
  | 16 => ⟨S1024x1024, .f32⟩
  | 17 => ⟨S2x512x1024, .f32⟩
  | 18 => ⟨S1024x1024, .f32⟩
  | 19 => ⟨S2x512x1024, .f32⟩
  | 20 => ⟨S2x64x1024, .f32⟩
  | 21 => ⟨S2x64x1024, .f32⟩
  | 22 => ⟨S2x2048x8, .f32⟩
  | 23 => ⟨S2x2048x1, .f32⟩
  | 24 => ⟨S2x2048x64, .f32⟩
  | 25 => ⟨S2048, .i32⟩
  | 26 => ⟨S2048x1, .i32⟩
  | 27 => ⟨S64, .i32⟩
  | 28 => ⟨S1x64, .i32⟩
  | 29 => ⟨S_, .i32⟩
  | 30 => ⟨S2048x1, .i32⟩
  | 31 => ⟨S2048x1, .i32⟩
  | 32 => ⟨S2048x64, .i32⟩
  | 33 => ⟨S2048x64, .i32⟩
  | 34 => ⟨S2048x64, .i1⟩
  | 35 => ⟨S_, .i32⟩
  | 36 => ⟨S2048x1, .i32⟩
  | 37 => ⟨S2048x1, .i32⟩
  | 38 => ⟨S2048x64, .i32⟩
  | 39 => ⟨S2048x64, .i32⟩
  | 40 => ⟨S2048x64, .i1⟩
  | 41 => ⟨S2048x64, .i1⟩
  | 42 => ⟨S1x2048x64, .i1⟩
  | 43 => ⟨S_, .f32⟩
  | 44 => ⟨S_, .f32⟩
  | 45 => ⟨S2x2048x64, .i1⟩
  | 46 => ⟨S2x2048x64, .f32⟩
  | 47 => ⟨S2x2048x64, .f32⟩
  | 48 => ⟨S1x2048x64, .i1⟩
  | 49 => ⟨S_, .f32⟩
  | 50 => ⟨S2x2048, .f32⟩
  | 51 => ⟨S_, .f32⟩
  | 52 => ⟨S2x2048, .f32⟩
  | 53 => ⟨S2x2048, .f32⟩
  | 54 => ⟨S2x2048x1, .f32⟩
  | 55 => ⟨S2x2048x64, .f32⟩
  | 56 => ⟨S2x2048x64, .f32⟩
  | 57 => ⟨S2x2048x64, .f32⟩
  | 58 => ⟨S_, .f32⟩
  | 59 => ⟨S2x2048, .f32⟩
  | 60 => ⟨S2x2048x1, .f32⟩
  | 61 => ⟨S2x2048x64, .f32⟩
  | 62 => ⟨S2x2048x64, .f32⟩
  | 63 => ⟨S_, .f32⟩
  | 64 => ⟨S_, .f32⟩
  | 65 => ⟨S2x2048x64, .i1⟩
  | 66 => ⟨S2x2048x64, .f32⟩
  | 67 => ⟨S2x2048x64, .f32⟩
  | 68 => ⟨S2x2048x1024, .f32⟩
  | 69 => ⟨S2x2048x1024, .f32⟩
  | 70 => ⟨S2x2048x1024, .f32⟩
  | 71 => ⟨S2x2048x1, .f32⟩
  | 72 => ⟨S2x2048x512, .f32⟩
  | 73 => ⟨S2048, .i32⟩
  | 74 => ⟨S2048x1, .i32⟩
  | 75 => ⟨S512, .i32⟩
  | 76 => ⟨S1x512, .i32⟩
  | 77 => ⟨S_, .i32⟩
  | 78 => ⟨S2048x1, .i32⟩
  | 79 => ⟨S2048x1, .i32⟩
  | 80 => ⟨S2048x512, .i32⟩
  | 81 => ⟨S2048x512, .i32⟩
  | 82 => ⟨S2048x512, .i1⟩
  | 83 => ⟨S_, .i32⟩
  | 84 => ⟨S2048x1, .i32⟩
  | 85 => ⟨S2048x1, .i32⟩
  | 86 => ⟨S2048x512, .i32⟩
  | 87 => ⟨S2048x512, .i32⟩
  | 88 => ⟨S2048x512, .i1⟩
  | 89 => ⟨S2048x512, .i1⟩
  | 90 => ⟨S1x2048x512, .i1⟩
  | 91 => ⟨S_, .f32⟩
  | 92 => ⟨S_, .f32⟩
  | 93 => ⟨S2x2048x512, .i1⟩
  | 94 => ⟨S2x2048x512, .f32⟩
  | 95 => ⟨S2x2048x512, .f32⟩
  | 96 => ⟨S1x2048x512, .i1⟩
  | 97 => ⟨S_, .f32⟩
  | 98 => ⟨S2x2048, .f32⟩
  | 99 => ⟨S_, .f32⟩
  | 100 => ⟨S2x2048, .f32⟩
  | 101 => ⟨S2x2048, .f32⟩
  | 102 => ⟨S2x2048x1, .f32⟩
  | 103 => ⟨S2x2048x512, .f32⟩
  | 104 => ⟨S2x2048x512, .f32⟩
  | 105 => ⟨S2x2048x512, .f32⟩
  | 106 => ⟨S_, .f32⟩
  | 107 => ⟨S2x2048, .f32⟩
  | 108 => ⟨S2x2048x1, .f32⟩
  | 109 => ⟨S2x2048x512, .f32⟩
  | 110 => ⟨S2x2048x512, .f32⟩
  | 111 => ⟨S_, .f32⟩
  | 112 => ⟨S_, .f32⟩
  | 113 => ⟨S2x2048x512, .i1⟩
  | 114 => ⟨S2x2048x512, .f32⟩
  | 115 => ⟨S2x2048x512, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1, .f32⟩
  | 121 => ⟨S2x2048x2048, .f32⟩
  | 122 => ⟨S2048, .i32⟩
  | 123 => ⟨S2048x1, .i32⟩
  | 124 => ⟨S2048, .i32⟩
  | 125 => ⟨S1x2048, .i32⟩
  | 126 => ⟨S_, .i32⟩
  | 127 => ⟨S2048x1, .i32⟩
  | _ => ⟨S4096x1024, .bf16⟩

abbrev hbmTy0_1 (i : Nat) : BufTy := match i % 128 with
  | 0 => ⟨S2048x1, .i32⟩
  | 1 => ⟨S2048x2048, .i32⟩
  | 2 => ⟨S2048x2048, .i32⟩
  | 3 => ⟨S2048x2048, .i1⟩
  | 4 => ⟨S_, .i32⟩
  | 5 => ⟨S2048x1, .i32⟩
  | 6 => ⟨S2048x1, .i32⟩
  | 7 => ⟨S2048x2048, .i32⟩
  | 8 => ⟨S2048x2048, .i32⟩
  | 9 => ⟨S2048x2048, .i1⟩
  | 10 => ⟨S2048x2048, .i1⟩
  | 11 => ⟨S1x2048x2048, .i1⟩
  | 12 => ⟨S_, .f32⟩
  | 13 => ⟨S_, .f32⟩
  | 14 => ⟨S2x2048x2048, .i1⟩
  | 15 => ⟨S2x2048x2048, .f32⟩
  | 16 => ⟨S2x2048x2048, .f32⟩
  | 17 => ⟨S1x2048x2048, .i1⟩
  | 18 => ⟨S_, .f32⟩
  | 19 => ⟨S2x2048, .f32⟩
  | 20 => ⟨S_, .f32⟩
  | 21 => ⟨S2x2048, .f32⟩
  | 22 => ⟨S2x2048, .f32⟩
  | 23 => ⟨S2x2048x1, .f32⟩
  | 24 => ⟨S2x2048x2048, .f32⟩
  | 25 => ⟨S2x2048x2048, .f32⟩
  | 26 => ⟨S2x2048x2048, .f32⟩
  | 27 => ⟨S_, .f32⟩
  | 28 => ⟨S2x2048, .f32⟩
  | 29 => ⟨S2x2048x1, .f32⟩
  | 30 => ⟨S2x2048x2048, .f32⟩
  | 31 => ⟨S2x2048x2048, .f32⟩
  | 32 => ⟨S_, .f32⟩
  | 33 => ⟨S_, .f32⟩
  | 34 => ⟨S2x2048x2048, .i1⟩
  | 35 => ⟨S2x2048x2048, .f32⟩
  | 36 => ⟨S2x2048x2048, .f32⟩
  | 37 => ⟨S2x2048x1024, .f32⟩
  | 38 => ⟨S2x2048x1024, .f32⟩
  | 39 => ⟨S2x2048x1024, .f32⟩
  | 40 => ⟨S2x2048x1024, .f32⟩
  | 41 => ⟨S4096x1024, .f32⟩
  | 42 => ⟨S1024x1024, .f32⟩
  | 43 => ⟨S4096x1024, .f32⟩
  | 44 => ⟨S1x1024, .f32⟩
  | 45 => ⟨S4096x1024, .f32⟩
  | 46 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_11 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_12 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_13 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_14 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_v102 : Ref sig .tc := ⟨.hbm, 144, rfl⟩
abbrev main_v103 : Ref sig .tc := ⟨.hbm, 145, rfl⟩
abbrev main_cst_15 : Ref sig .tc := ⟨.hbm, 146, rfl⟩
abbrev main_v104 : Ref sig .tc := ⟨.hbm, 147, rfl⟩
abbrev main_cst_16 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_17 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_18 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩

abbrev nD : Nat := 1
abbrev τ : Topo := Topo.v7x

variable {F : FTy → Type} [FloatOps F]
-- ==== Proof.Setup.lean ====
/-
  What the parts of the proof share: the program as the launch theorem sees it, the ghost state (the handshakes' rounds,
  the write mode of the two gathered arrays, the transfers' counters), and the names of the arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WriteMode
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernel's labels, lifted through an empty family of pipelines. -/
abbrev ΛP : Labels := Pipeline.Sig Λ₀ (Fin 0) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The kernel's bodies, lifted. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, -/
abbrev UH : Type := URounds (GSem nD τ sig) ℕ
/-- with the write mode's algebra and the transfers' counters beside them. -/
abbrev UU (F : FTy → Type) : Type := UH × (WmRA nD τ sig (Elt F) × Counters)

/-- The machine's algebra of this proof. -/
abbrev MM (F : FTy → Type) : Type := MT nD τ sig (HIx 1) (Elt F) ℕ (UU F) ℕ

/-- Where the handshakes' rounds sit, -/
abbrev EH : Emb UH (MM F) := embL
/-- and where write mode does. -/
abbrev EW : UEmb (WmRA nD τ sig (Elt F)) (UU F) := UEmb.trans UEmb.inl UEmb.inr

/-- The write-mode invariant at some name. -/
abbrev someWm : sProp (MM F) := iprop(∃ ι : ℕ, wmInv EW ι)

/-- The elements `I` of an array in write mode at share `q`: they held `f`, will hold `g`, and those in `W` do. -/
abbrev toBe (ℓ : Loc nD τ sig) (I : Finset (Idx ℓ)) (q : PosShare TreeShare) (f g : Buf (Elt F) ℓ) (W : Finset (Idx ℓ)) : sProp (MM F) :=
  willBeTo EW ℓ I q f (fun i => some (g i)) W

/-! ## The arrays -/

/-- The TensorCore's names of the two tables and the two index lists the call takes, and of the two arrays it writes. -/
abbrev tabKLoc (d : Dev nD) : Loc nD τ sig := (SparseCore.T d).loc main_v20
abbrev tabVLoc (d : Dev nD) : Loc nD τ sig := (SparseCore.T d).loc main_v21
abbrev idxKLoc (d : Dev nD) : Loc nD τ sig := (SparseCore.T d).loc main_v9
abbrev idxVLoc (d : Dev nD) : Loc nD τ sig := (SparseCore.T d).loc main_v19
abbrev outKLoc (d : Dev nD) : Loc nD τ sig := (SparseCore.T d).loc main_v22_0
abbrev outVLoc (d : Dev nD) : Loc nD τ sig := (SparseCore.T d).loc main_v22_1

/-- The row a word names; every word names one. -/
def rowAt (w : BitVec 32) : Fin 8192 := Fin.ofNat 8192 w.toNat

theorem rowAt_of_lt {w : BitVec 32} (h : w.toNat < 8192) : (rowAt w).val = w.toNat := Nat.mod_eq_of_lt h

/-- The index of a table at row `a`, half `b`, lane `c`; of an index list at word `a`. -/
def tabIx (a : Fin 8192) (b : Fin 2) (c : Fin 128) : S8192x2x128.Idx :=
  fun | 0 => a | 1 => b | 2 => c | ⟨_ + 3, h⟩ => absurd h (Nat.not_lt.2 (Nat.le_add_left _ _))
def listIx (a : Fin 2048) : S1x2048.Idx :=
  fun | 0 => (0 : Fin 1) | 1 => a | ⟨_ + 2, h⟩ => absurd h (Nat.not_lt.2 (Nat.le_add_left _ _))

/-- Row `x 0` of what a table's gather leaves: the table's row the list's word `x 0` names. -/
def rowsOut (tab : S8192x2x128.Idx → Elt F .i32) (ix : S1x2048.Idx → Elt F .i32) : S2048x2x128.Idx → Elt F .i32 :=
  fun x => tab (tabIx (rowAt (ix (listIx (x 0)))) (x 1) (x 2))

end Cert.Proof.Rows

end
-- ==== Proof.Table.lean ====
/-
  One table's share of a task, as a program: fetch the task's 128 words of the index list into the first slot of the
  scratch, gather the rows they name into the first slot of the row scratch, copy that slot to the task's block of the
  output. The kernel's body is this program for one table and then for the other: its pipelines run one step per task,
  so every guard on a further step is constant.
-/
module

public import proofs.«01_k».proof.Proof.Setup

@[expose] public section

noncomputable section

namespace Cert.Proof.Rows

open Cert.KernelIdeal Cert.KernelIdeal.Gen

open Idealize.ShloMosaic
open Idealize.SL Idealize.SL.Sem

variable {F : FTy → Type}

/-! ## The windows -/

theorem inb_words (L : grid0.Coords) : ∀ a, (![0, 128 * (L 1).val] : Fin 2 → Nat) a + S1x128.size a ≤ S1x2048.size a := by
  have h : (L 1).val < 16 := (L 1).isLt
  intro a; fin_cases a <;> simp; omega
theorem inb_listSlot : ∀ a, (![0, 0, 0] : Fin 3 → Nat) a + S1x1x128.size a ≤ S2x1x128.size a := by decide
theorem inb_rowSlot : ∀ a, (![0, 0, 0, 0] : Fin 4 → Nat) a + S1x128x2x128.size a ≤ S2x128x2x128.size a := by decide
theorem inb_semSlot : ∀ a, (![0] : Fin 1 → Nat) a + S1.size a ≤ S2.size a := by decide
theorem inb_block (L : grid0.Coords) : ∀ a, (![128 * (L 1).val, 0, 0] : Fin 3 → Nat) a + S128x2x128.size a ≤ S2048x2x128.size a := by
  have h : (L 1).val < 16 := (L 1).isLt
  intro a; fin_cases a <;> simp; omega

/-- The task's words of an index list, -/
abbrev words (L : grid0.Coords) (ix : Memref sig .scVector .hbm S1x2048 .i32) : Memref sig .scVector .hbm S1x128 .i32 :=
  ix.slice (Rect.unit (s := S1x2048) ![0, 128 * (L 1).val] S1x128.size (inb_words L)) (fun _ => rfl)
/-- the first slot of the list scratch, -/
abbrev listSlot (al : Memref sig .scVector .vmem S2x1x128 .i32) : Memref sig .scVector .vmem S1x128 .i32 :=
  (al.slice (Rect.unit (s := S2x1x128) ![0, 0, 0] S1x1x128.size inb_listSlot) (fun _ => rfl)).squeeze S1x128 squeezes_S1x1x128_S1x128
/-- and the slot as a list of 128 words; -/
abbrev listOf (al : Memref sig .scVector .vmem S2x1x128 .i32) : Memref sig .scVector .vmem S128 .i32 :=
  ((listSlot al).slice (Rect.unit (s := S1x128) ![0, 0] S1x128.size inb_S1x128_S1x128_0_0) (fun _ => rfl)).squeeze S128 squeezes_S1x128_S128
/-- the first of a pair of semaphores; -/
abbrev semSlot (s : DmaSems sig S2) : DmaSems sig S_ :=
  (s.slice (Rect.unit (s := S2) ![0] S1.size inb_semSlot)).squeeze S_ squeezes_S1_S_
/-- all of a table; -/
abbrev tabAll (tab : Memref sig .scVector .hbm S8192x2x128 .i32) : Memref sig .scVector .hbm S8192x2x128 .i32 :=
  tab.slice (Rect.unit (s := S8192x2x128) ![0, 0, 0] S8192x2x128.size inb_S8192x2x128_S8192x2x128_0_0_0) (fun _ => rfl)
/-- the first slot of the row scratch; -/
abbrev rowSlot (rs : Memref sig .scVector .vmem S2x128x2x128 .i32) : Memref sig .scVector .vmem S128x2x128 .i32 :=
  (rs.slice (Rect.unit (s := S2x128x2x128) ![0, 0, 0, 0] S1x128x2x128.size inb_rowSlot) (fun _ => rfl)).squeeze S128x2x128 squeezes_S1x128x2x128_S128x2x128
/-- the task's block of an output. -/
abbrev block (L : grid0.Coords) (out : Memref sig .scVector .hbm S2048x2x128 .i32) : Memref sig .scVector .hbm S128x2x128 .i32 :=
  out.slice (Rect.unit (s := S2048x2x128) ![128 * (L 1).val, 0, 0] S128x2x128.size (inb_block L)) (fun _ => rfl)

/-! ## The program -/

variable [FloatOps F]

/-- One table's share of the task at `L`. -/
def tableProg (L : grid0.Coords) (tab : Memref sig .scVector .hbm S8192x2x128 .i32) (ix : Memref sig .scVector .hbm S1x2048 .i32)
    (out : Memref sig .scVector .hbm S2048x2x128 .i32) (al : Memref sig .scVector .vmem S2x1x128 .i32) (sI : DmaSems sig S2)
    (rs : Memref sig .scVector .vmem S2x128x2x128 .i32) (sO : DmaSems sig S2) (sG : DmaSems sig S_) :
    Prog (TpuEff nD τ sig (Elt F) Λ₀ (.scVector ((L 0).castLE hcore0) ((L 1).castLE hsub0))) PUnit := do
  Prog.lift (.enqueueDma (words L ix) (.here (listSlot al)) (.dma (semSlot sI).sem) (View.wordExact_bits rfl) ((View.wordExact_bits rfl).reshape _ _) ⟨Or.inl rfl, trivial⟩)
  Prog.lift (.waitDma2 (semSlot sI).sem (words L ix) (listSlot al) (View.wordExact_bits rfl) ((View.wordExact_bits rfl).reshape _ _))
  SparseCore.enqueueIndirectGather rfl (tabAll tab) (rowSlot rs) gathers_S8192x2x128_S128x2x128 (listOf al) rfl sG.sem (View.wordExact_bits rfl) rfl (Or.inl rfl)
  SparseCore.waitIndirectGather sG.sem (tabAll tab) (rowSlot rs) (View.wordExact_bits rfl) ((View.wordExact_bits rfl).reshape _ _)
  Prog.lift (.enqueueDma (rowSlot rs) (.here (block L out)) (.dma (semSlot sO).sem) ((View.wordExact_bits rfl).reshape _ _) (View.wordExact_bits rfl) ⟨Or.inl rfl, trivial⟩)
  Prog.lift (.waitDma2 (semSlot sO).sem (rowSlot rs) (block L out) ((View.wordExact_bits rfl).reshape _ _) (View.wordExact_bits rfl))

/-! ## The guards -/

theorem cond1 : ∀ i, k0_cond1 i = 0#1 := by decide +kernel
theorem cond2 : ∀ i, k0_cond2 i = 1#1 := by decide +kernel
theorem cond5 : ∀ i, k0_cond5 i = 1#1 := by decide +kernel
theorem cond7 : ∀ i, k0_cond7 i = 0#1 := by decide +kernel
theorem cond8 : ∀ i, k0_cond8 i = 0#1 := by decide +kernel
theorem cond9 : ∀ i, k0_cond9 i = 1#1 := by decide +kernel
theorem cond12 : ∀ i, k0_cond12 i = 1#1 := by decide +kernel
theorem cond14 : ∀ i, k0_cond14 i = 0#1 := by decide +kernel
theorem zero_ne_one : ((0#1 : BitVec 1) = 1#1) = False := by decide

/-! ## The kernel's windows are these -/

theorem words_of {L : grid0.Coords} {o : Fin 2 → Nat} (ho : o = ![0, 128 * (L 1).val]) (hb) (hs) (ix : Memref sig .scVector .hbm S1x2048 .i32) :
    (ix.slice (Rect.unit (s := S1x2048) o S1x128.size hb) hs : Memref sig .scVector .hbm S1x128 .i32) = words L ix := by subst ho; rfl
theorem listSlot_of {o : Fin 3 → Nat} (ho : o = ![0, 0, 0]) (hb) (hs) (al : Memref sig .scVector .vmem S2x1x128 .i32) :
    (al.slice (Rect.unit (s := S2x1x128) o S1x1x128.size hb) hs : Memref sig .scVector .vmem S1x1x128 .i32)
      = al.slice (Rect.unit (s := S2x1x128) ![0, 0, 0] S1x1x128.size inb_listSlot) (fun _ => rfl) := by subst ho; rfl
theorem rowSlot_of {o : Fin 4 → Nat} (ho : o = ![0, 0, 0, 0]) (hb) (hs) (rs : Memref sig .scVector .vmem S2x128x2x128 .i32) :
    (rs.slice (Rect.unit (s := S2x128x2x128) o S1x128x2x128.size hb) hs : Memref sig .scVector .vmem S1x128x2x128 .i32)
      = rs.slice (Rect.unit (s := S2x128x2x128) ![0, 0, 0, 0] S1x128x2x128.size inb_rowSlot) (fun _ => rfl) := by subst ho; rfl
theorem block_of {L : grid0.Coords} {o : Fin 3 → Nat} (ho : o = ![128 * (L 1).val, 0, 0]) (hb) (hs) (out : Memref sig .scVector .hbm S2048x2x128 .i32) :
    (out.slice (Rect.unit (s := S2048x2x128) o S128x2x128.size hb) hs : Memref sig .scVector .hbm S128x2x128 .i32) = block L out := by subst ho; rfl
theorem semSlot_of {o : Fin 1 → Nat} (ho : o = ![0]) (hb) (s : DmaSems sig S2) :
    (s.slice (Rect.unit (s := S2) o S1.size hb) : DmaSems sig S1) = s.slice (Rect.unit (s := S2) ![0] S1.size inb_semSlot) := by subst ho; rfl

set_option maxRecDepth 65536 in
set_option maxHeartbeats 4000000 in
/-- The kernel's body is one table's program and then the other's. -/
theorem kern_eq (L : grid0.Coords) (arg2 : Memref sig .scVector .hbm S8192x2x128 .i32) (harg2 : arg2.IsWhole)
    (arg3 : Memref sig .scVector .hbm S8192x2x128 .i32) (harg3 : arg3.IsWhole) (arg4 : Memref sig .scVector .hbm S1x2048 .i32) (harg4 : arg4.IsWhole)
    (arg5 : Memref sig .scVector .hbm S1x2048 .i32) (harg5 : arg5.IsWhole) (arg6 : Memref sig .scVector .hbm S2048x2x128 .i32) (harg6 : arg6.IsWhole)
    (arg7 : Memref sig .scVector .hbm S2048x2x128 .i32) (harg7 : arg7.IsWhole) (a0 : Memref sig .scVector .vmem S2x1x128 .i32) (h0 : a0.IsWhole)
    (s1 : DmaSems sig S2) (a2 : Memref sig .scVector .vmem S2x128x2x128 .i32) (h2 : a2.IsWhole) (s3 : DmaSems sig S2) (s4 : DmaSems sig S_)
    (a5 : Memref sig .scVector .vmem S2x1x128 .i32) (h5 : a5.IsWhole) (s6 : DmaSems sig S2) (a7 : Memref sig .scVector .vmem S2x128x2x128 .i32)
    (h7 : a7.IsWhole) (s8 : DmaSems sig S2) (s9 : DmaSems sig S_) :
    cc0_kern (F := F) L arg2 harg2 arg3 harg3 arg4 harg4 arg5 harg5 arg6 harg6 arg7 harg7 a0 h0 s1 a2 h2 s3 s4 a5 h5 s6 a7 h7 s8 s9
      = (do tableProg L arg2 arg4 arg6 a0 s1 a2 s3 s4; tableProg L arg3 arg5 arg7 a5 s6 a7 s8 s9) := by
  rw [cc0_kern_eq_skeleton]
  unfold cc0_kern_skel
  rw [k0_part10_eq_skeleton]; unfold k0_part10_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel tableProg
  simp only [cond1, cond2, cond5, cond7, cond8, cond9, cond12, cond14, zero_ne_one, ↓reduceDIte, dite_eq_ite, ite_self, bind_assoc, pure_bind]
  simp only [words_of (k0_off2_eq L), words_of (k0_off8_eq L), words_of (k0_off24_eq L), listSlot_of k0_off1_eq, listSlot_of k0_off7_eq,
    listSlot_of k0_off23_eq, rowSlot_of k0_off10_eq, rowSlot_of k0_off11_eq, rowSlot_of k0_off26_eq, rowSlot_of (k0_off17_eq L),
    block_of (k0_off12_eq L), block_of (k0_off18_eq L), block_of (k0_off27_eq L), semSlot_of k0_off3_eq, semSlot_of k0_off9_eq,
    semSlot_of k0_off13_eq, semSlot_of (k0_off19_eq L), semSlot_of k0_off25_eq, semSlot_of k0_off28_eq]
  rfl

end Cert.Proof.Rows

end
-- ==== Proof.Task.lean ====
/-
  One table's program run: from a share of the table, a share of the index list, the scratch, and the task's block of the
  output in write mode, the block is marked written. The target of the write mode must be what the gather reads.
-/
module

public import proofs.«01_k».proof.Proof.Table

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## A copy into an array in write mode -/

section Copy

variable {Λ : Labels} {defs : Defs nD τ sig (Elt F) Λ} (𝒱 : Variants) {α : Type} {Q : α → sProp (MM F)}

/-- A copy to elements in write mode whose targets are what it copies, on a semaphore held at zero: the copy in flight
    delivers the elements marked written, and the source back. -/
theorem wp_copy_toBe (c : Thread nD τ) (bd : Option 𝒱.V) {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q qd : PosShare TreeShare} {fs : Buf (Elt F) (src.view.loc c)}
    {fd g : Buf (Elt F) (dst.view.loc c)} {W : Finset (Idx (dst.view.loc c))} (ιwm : ℕ)
    (N : ℕ) (hN : dst.view.amount sm = N) (hN0 : 0 < N)
    (hg : ∀ x, src.view.read (Elt F) fs x = dst.view.read (Elt F) g x) :
    iprop(wmInv EW ιwm ∗ (src.view.loc c ↦[src.view.set]{q} fs) ∗ toBe (dst.view.loc c) dst.view.set qd fd g W ∗ semVal (c, sm) 0)
      ⊢ iprop((Transfers.Flight countersEmb c sm (default : HIx 1) N
            iprop((toBe (dst.view.loc c) dst.view.set qd fd g (W ∪ dst.view.set)) ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨#Hwm, Hs, Hd, Hv⟩ Hk
  imod (Transfers.flight_alloc countersEmb hN0 iprop((toBe (dst.view.loc c) dst.view.set qd fd g (W ∪ dst.view.set)) ∗ (src.view.loc c ↦[src.view.set]{q} fs))
      (g := (c, sm))) $$ Hv with ⟨%γ, %δ, %κ, #Hinv, Hγ, Hδ⟩
  iapply (wp_enqueueDma_willBeTo (emb := EW) (ιwm := ιwm) (g := fun i => some (g i)) (fs := fs) (src := src) (dst := dst) 𝒱 c bd Set.univ (default : HIx 1) N hN
    (View.admitted_some_iff.mpr fun x _ => hg x)) $$ [Hs Hd] [Hγ]
  · isplitl [Hs]; · iexact Hs
    isplitr; · iexact Hwm
    iexact Hd
  · iapply (Transfers.flight_creditUpdate countersEmb (δ := δ))
    isplitr; · iexact Hinv
    iexact Hγ
  iintro Hcred
  iapply Hk
  iapply (Transfers.flight_intro countersEmb c (κ := κ))
  isplitr; · iexact Hinv
  isplitl [Hδ] <;> iassumption

end Copy

/-! ## One table -/

section Table

variable [FloatOps F] (d : Dev nD) (L : grid0.Coords)

abbrev cV (L : grid0.Coords) : Fin τ.nSC := (L 0).castLE hcore0
abbrev jV (L : grid0.Coords) : Fin τ.nSub := (L 1).castLE hsub0
/-- The task's thread. -/
abbrev thr (d : Dev nD) (L : grid0.Coords) : Thread nD τ := V d (cV L) (jV L)

/-- Where word `x` of the list slot stands in a row of 128 words. -/
def flat (x : S128.Idx) : S1x128.Idx :=
  (Rect.unit (s := S1x128) ![0, 0] S1x128.size inb_S1x128_S1x128_0_0).emb (Shape.reshapeEquiv squeezes_S1x128_S128.numel_eq x)

variable (tab : Memref sig .scVector .hbm S8192x2x128 .i32) (ix : Memref sig .scVector .hbm S1x2048 .i32)
  (out : Memref sig .scVector .hbm S2048x2x128 .i32) (al : Memref sig .scVector .vmem S2x1x128 .i32) (sI : DmaSems sig S2)
  (rs : Memref sig .scVector .vmem S2x128x2x128 .i32) (sO : DmaSems sig S2) (sG : DmaSems sig S_)

omit [FloatOps F] in
/-- The list read from the slot just filled is what filled it. -/
theorem read_listOf (fa : Buf (Elt F) (al.view.loc (thr d L))) (w : S1x128.Idx → Elt F .i32) (x : S128.Idx) :
    (listOf al).view.read (Elt F) ((listSlot al).view.write (Elt F) fa w Finset.univ) x = w (flat x) :=
  congrFun (View.read_write_univ (v := (listSlot al).view) fa w) (flat x)

/-- What the gather reads: at `x`, the table's row named by word `x 0` of the task's words. -/
def gathered (ft : Buf (Elt F) (tab.view.loc (thr d L))) (fi : Buf (Elt F) (ix.view.loc (thr d L)))
    (hin : ∀ x, ((words L ix).view.read (Elt F) fi x).toNat < 8192) : S128x2x128.Idx → Elt F .i32 :=
  SparseCore.gatherPayload gathers_S8192x2x128_S128x2x128 ((tabAll tab).view.read (Elt F) ft)
    (SparseCore.rows (fun x => (words L ix).view.read (Elt F) fi (flat x)) rfl fun x => hin (flat x))

omit [FloatOps F] in
/-- A gather's payload depends on what the list's words are alone. -/
theorem gatherPayload_congr {f : S8192x2x128.Idx → Elt F .i32} {w w' : S128.Idx → Elt F .i32} (h : w = w')
    (hw : ∀ x, (w x).toNat < 8192) (hw' : ∀ x, (w' x).toNat < 8192) :
    SparseCore.gatherPayload gathers_S8192x2x128_S128x2x128 f (SparseCore.rows (F := F) w rfl hw)
      = SparseCore.gatherPayload gathers_S8192x2x128_S128x2x128 f (SparseCore.rows (F := F) w' rfl hw') := by
  subst h; rfl

set_option maxHeartbeats 2000000 in
/-- One table's program, run. -/
theorem wp_table {qt qi qd : PosShare TreeShare} {ft : Buf (Elt F) (tab.view.loc (thr d L))} {fi : Buf (Elt F) (ix.view.loc (thr d L))}
    {fd g : Buf (Elt F) (out.view.loc (thr d L))} {fa : Buf (Elt F) (al.view.loc (thr d L))} {fr : Buf (Elt F) (rs.view.loc (thr d L))} {ιwm : ℕ}
    {O : CellTallies nD τ sig (HIx 1)} {W : Waits sig (HIx 1)} {Q : PUnit → sProp (MM F)}
    (hN : ∑ j, ((rowSlot rs).slice (S128x2x128.rowRect gathers_S8192x2x128_S128x2x128.axis' j)
      (S128x2x128.stride_rowRect gathers_S8192x2x128_S128x2x128.axis' j)).view.dmaCredit = (rowSlot rs).view.dmaCredit)
    (hin : ∀ x, ((words L ix).view.read (Elt F) fi x).toNat < 8192)
    (hg : ∀ x, gathered d L tab ix ft fi hin x = (block L out).view.read (Elt F) g x) :
    iprop(Transfers.MayWaits (thr d L) (default : HIx 1) O ∗ wmInv EW ιwm
        ∗ (tab.view.loc (thr d L) ↦{qt} ft) ∗ (ix.view.loc (thr d L) ↦{qi} fi)
        ∗ toBe (out.view.loc (thr d L)) (block L out).view.set qd fd g ∅
        ∗ (al.view.loc (thr d L) ↦{fullShare} fa) ∗ (rs.view.loc (thr d L) ↦{fullShare} fr)
        ∗ semVal (thr d L, .dma (semSlot sI).sem) 0 ∗ semVal (thr d L, .dma (semSlot sO).sem) 0 ∗ semVal (thr d L, .dma sG.sem) 0
        ∗ owes (thr d L) O W)
      ⊢ iprop((∀ fa' fr' W', ⌜∀ p ∈ W', p ∈ W ∨ p.2 = none⌝
            -∗ (tab.view.loc (thr d L) ↦{qt} ft) -∗ (ix.view.loc (thr d L) ↦{qi} fi)
            -∗ toBe (out.view.loc (thr d L)) (block L out).view.set qd fd g (∅ ∪ (block L out).view.set)
            -∗ (al.view.loc (thr d L) ↦{fullShare} fa') -∗ (rs.view.loc (thr d L) ↦{fullShare} fr')
            -∗ semVal (thr d L, .dma (semSlot sI).sem) 0 -∗ semVal (thr d L, .dma (semSlot sO).sem) 0 -∗ semVal (thr d L, .dma sG.sem) 0
            -∗ owes (thr d L) O W' -∗ Q ⟨⟩)
        -∗ wp frame (wpE (defs₀ (F := F)) 𝒱₀ (thr d L) none) Set.univ (tableProg L tab ix out al sI rs sO sG) Q) := by
  iintro ⟨#Hmw, #Hwm, Ht, Hi, Ho, Ha, Hr, HsI, HsO, HsG, HO⟩ HQ
  unfold tableProg
  -- the task's words to the list slot
  ihave Hi' := (pointsTo_split_subset (q := qi) (f := fi) (S := Finset.univ) (Finset.subset_univ (words L ix).view.set)).1 $$ Hi
  icases Hi' with ⟨Hi, Hir⟩
  iapply (Transfers.wp_dmaLocal countersEmb 𝒱₀ (thr d L) none (src := words L ix) (via := ReadAs.same) (dst := listSlot al) (Sd := Finset.univ)
    (default : HIx 1) (listSlot al).view.dmaCredit rfl (View.dmaCredit_pos _ (by decide)) (Finset.subset_univ _)) $$ [Hi Ha HsI]
  · isplitl [Hi]; · iexact Hi
    isplitl [Ha]; · iexact Ha
    iexact HsI
  iintro Hfl
  iapply (Transfers.wp_waitLocalO countersEmb 𝒱₀ (thr d L) none (default : HIx 1) (rfl : (listSlot al).view.dmaCredit = _)) $$ [Hfl HO]
  · isplitl [Hfl]; · iexact Hfl
    isplitl [HO]; · iexact HO
    iapply (Transfers.MayWaits.elim (SemLoc.dma (semSlot sI).sem)) $$ Hmw
  iintro ⟨⟨Ha, Hi⟩, HsI, HO⟩
  ihave Hi := (pointsTo_split_subset (q := qi) (f := fi) (S := Finset.univ) (Finset.subset_univ (words L ix).view.set)).2 $$ [Hi Hir]
  · isplitl [Hi] <;> iassumption
  -- the gather, by what the list slot then reads
  have hfa := read_listOf d L al fa ((words L ix).view.read (Elt F) fi)
  generalize (listSlot al).view.write (Elt F) fa ((words L ix).view.read (Elt F) fi) Finset.univ = fa1 at hfa
  have hin' : ∀ x, ((listOf al).view.read (Elt F) fa1 x).toNat < 8192 := fun x => by rw [hfa]; exact hin _
  ihave Ha' := (pointsTo_split_subset (q := fullShare) (f := fa1) (S := Finset.univ) (Finset.subset_univ (listOf al).view.set)).1 $$ Ha
  icases Ha' with ⟨Ha, Har⟩
  ihave Hr' := (pointsTo_split_subset (q := fullShare) (f := fr) (S := Finset.univ) (Finset.subset_univ (rowSlot rs).view.set)).1 $$ Hr
  icases Hr' with ⟨Hr, Hrr⟩
  ihave Ht' := (pointsTo_split_subset (q := qt) (f := ft) (S := Finset.univ) (Finset.subset_univ (tabAll tab).view.set)).1 $$ Ht
  icases Ht' with ⟨Ht, Htr⟩
  iapply (SparseCore.wp_indirectGatherLocal countersEmb 𝒱₀ (thr d L) none (hg := gathers_S8192x2x128_S128x2x128) (hsp := Or.inl rfl) (hr := by decide) (default : HIx 1)
      (rowSlot rs).view.dmaCredit hN (by decide) hin') $$ [Ht Hr Ha HsG]
  · isplitl [Ht]; · iexact Ht
    isplitl [Hr]; · iexact Hr
    isplitl [Ha]; · iexact Ha
    iexact HsG
  iintro Hfl
  iapply (Transfers.wp_waitLocalO countersEmb 𝒱₀ (thr d L) none (default : HIx 1) (rfl : (rowSlot rs).view.dmaCredit = _)) $$ [Hfl HO]
  · isplitl [Hfl]; · iexact Hfl
    isplitl [HO]; · iexact HO
    iapply (Transfers.MayWaits.elim (SemLoc.dma sG.sem)) $$ Hmw
  iintro ⟨⟨Hr, Ht, Ha⟩, HsG, HO⟩
  ihave Ha := (pointsTo_split_subset (ℓ := al.view.loc (thr d L)) (q := fullShare) (f := fa1)
    (S := Finset.univ) (Finset.subset_univ (listOf al).view.set)).2 $$ [Ha Har]
  · isplitl [Ha] <;> iassumption
  ihave Ht := (pointsTo_split_subset (q := qt) (f := ft) (S := Finset.univ) (Finset.subset_univ (tabAll tab).view.set)).2 $$ [Ht Htr]
  · isplitl [Ht] <;> iassumption
  -- the rows to the task's block, by what the row slot then reads
  have hrs : ∀ x, (rowSlot rs).view.read (Elt F) ((rowSlot rs).view.write (Elt F) fr (SparseCore.gatherPayload gathers_S8192x2x128_S128x2x128
      ((tabAll tab).view.read (Elt F) ft) (SparseCore.rows ((listOf al).view.read (Elt F) fa1) rfl hin')) Finset.univ) x
      = (block L out).view.read (Elt F) g x := by
    intro x
    rw [View.read_write_univ, ← hg x]
    exact congrFun (gatherPayload_congr (funext hfa) _ _) x
  generalize (rowSlot rs).view.write (Elt F) fr (SparseCore.gatherPayload gathers_S8192x2x128_S128x2x128
      ((tabAll tab).view.read (Elt F) ft) (SparseCore.rows ((listOf al).view.read (Elt F) fa1) rfl hin')) Finset.univ = fr1 at hrs
  iapply (wp_copy_toBe 𝒱₀ (thr d L) none (src := rowSlot rs) (dst := block L out) (g := g) ιwm (block L out).view.dmaCredit rfl
    (View.dmaCredit_pos _ (by decide)) hrs) $$ [Hr Ho HsO]
  · isplitr; · iexact Hwm
    isplitl [Hr]; · iexact Hr
    isplitl [Ho]; · iexact Ho
    iexact HsO
  iintro Hfl
  iapply (Transfers.wp_waitLocalO countersEmb 𝒱₀ (thr d L) none (default : HIx 1) (rfl : (block L out).view.dmaCredit = _)) $$ [Hfl HO]
  · isplitl [Hfl]; · iexact Hfl
    isplitl [HO]; · iexact HO
    iapply (Transfers.MayWaits.elim (SemLoc.dma (semSlot sO).sem)) $$ Hmw
  iintro ⟨⟨Ho, Hr⟩, HsO, HO⟩
  ihave Hr := (pointsTo_join Finset.disjoint_sdiff) $$ [Hr Hrr]
  · isplitl [Hr] <;> iassumption
  rw [Finset.union_sdiff_of_subset (Finset.subset_univ (rowSlot rs).view.set)]
  rw [wp_ret]
  imodintro
  iapply HQ $$ %_ %_ %_ %?_ Ht Hi Ho Ha Hr HsI HsO HsG HO
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Table

end Cert.Proof.Rows

end
-- ==== Proof.Reads.lean ====
/-
  What a task's gather reads, at an index: the table's row its word names. So the task's block of the output, once written,
  holds those rows.
-/
module

public import proofs.«01_k».proof.Proof.Task

@[expose] public section

noncomputable section

namespace Cert.Proof.Rows

open Cert.KernelIdeal Cert.KernelIdeal.Gen

open Idealize.ShloMosaic

variable {F : FTy → Type}

/-- The row-major number of word `x` of a list is its coordinate. -/
theorem flat_rowMajor (k : Fin 128) : ((flat (S128.rowMajor.symm k)) 1).val = k.val := by
  revert k; decide

theorem words_emb (L : grid0.Coords) (k : Fin 128) (h : 128 * (L 1).val + k.val < 2048) :
    (Rect.unit (s := S1x2048) ![0, 128 * (L 1).val] S1x128.size (inb_words L)).emb (flat (S128.rowMajor.symm k))
      = listIx ⟨128 * (L 1).val + k.val, h⟩ := by
  funext a
  match a with
  | 0 => exact Subsingleton.elim (α := Fin 1) _ _
  | 1 =>
    refine Fin.ext ?_
    show 128 * (L 1).val + 1 * ((flat (S128.rowMajor.symm k)) 1).val = 128 * (L 1).val + k.val
    rw [flat_rowMajor, one_mul]

variable (d : Dev nD) (L : grid0.Coords) (tab : Memref sig .scVector .hbm S8192x2x128 .i32) (ix : Memref sig .scVector .hbm S1x2048 .i32)
  (out : Memref sig .scVector .hbm S2048x2x128 .i32)

/-- What the task gathers is its block of `rowsOut`. -/
theorem gathered_eq {tk : S8192x2x128.Idx → Elt F .i32} {ik : S1x2048.Idx → Elt F .i32} {ft : Buf (Elt F) (tab.view.loc (thr d L))}
    {fi : Buf (Elt F) (ix.view.loc (thr d L))} {g : Buf (Elt F) (out.view.loc (thr d L))} (ht : tab.view.read (Elt F) ft = tk)
    (hi : ix.view.read (Elt F) fi = ik) (hg : out.view.read (Elt F) g = rowsOut tk ik)
    (hin : ∀ x, ((words L ix).view.read (Elt F) fi x).toNat < 8192) (x : S128x2x128.Idx) :
    gathered d L tab ix ft fi hin x = (block L out).view.read (Elt F) g x := by
  have h1 : (L 1).val < 16 := (L 1).isLt
  have hx : (x 0).val < 128 := (x 0).isLt
  have hb : 128 * (L 1).val + (x 0).val < 2048 := by omega
  have hr : (block L out).view.read (Elt F) g x
      = out.view.read (Elt F) g ((Rect.unit (s := S2048x2x128) ![128 * (L 1).val, 0, 0] S128x2x128.size (inb_block L)).emb x) := rfl
  have hl : ∀ k, (words L ix).view.read (Elt F) fi k
      = ix.view.read (Elt F) fi ((Rect.unit (s := S1x2048) ![0, 128 * (L 1).val] S1x128.size (inb_words L)).emb k) := fun _ => rfl
  have hd : ∀ y, (tabAll tab).view.read (Elt F) ft y
      = tab.view.read (Elt F) ft ((Rect.unit (s := S8192x2x128) ![0, 0, 0] S8192x2x128.size inb_S8192x2x128_S8192x2x128_0_0_0).emb y) := fun _ => rfl
  rw [hr, hg]
  unfold gathered SparseCore.gatherPayload rowsOut
  rw [hd, ht]
  congr 1
  have hw := hin (flat (S128.rowMajor.symm (x 0)))
  rw [hl, hi, words_emb L (x 0) hb] at hw
  funext a
  refine Fin.ext ?_
  match a with
  | 0 =>
    show 0 + 1 * _ = (rowAt _).val
    rw [zero_add, one_mul]
    refine (congrArg Fin.val (Shape.Gathers.idx_axis gathers_S8192x2x128_S128x2x128 _ x)).trans ?_
    show ((words L ix).view.read (Elt F) fi (flat (S128.rowMajor.symm (x 0)))).toNat = _
    rw [hl, hi, words_emb L (x 0) hb]
    refine (rowAt_of_lt hw).symm.trans (congrArg (fun k => (rowAt (ik (listIx k))).val) (Fin.ext ?_))
    show 128 * (L 1).val + (x 0).val = 128 * (L 1).val + 1 * (x 0).val
    rw [one_mul]
  | 1 =>
    show 0 + 1 * (x 1).val = 0 + 1 * (x 1).val
    rfl
  | 2 =>
    show 0 + 1 * (x 2).val = 0 + 1 * (x 2).val
    rfl

end Cert.Proof.Rows

end
-- ==== Proof.Pay.lean ====
/-
  What the call's handshakes carry: a half of every array to each core, a sixteenth of that half and its own block of each
  output to each task; and how a core's half splits among its tasks and joins again.
-/
module

public import proofs.«01_k».proof.Proof.Setup

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## Shares and blocks -/

/-- Core `c`'s half. -/
def half (c : Fin 2) : PosShare TreeShare := if c = 0 then fullShare.left else fullShare.right
/-- A sixteenth of it, for task `i`. -/
def piece (c : Fin 2) (i : Fin 16) : PosShare TreeShare := pieceOf (half c) 16 (by decide) i

theorem odiv : 16 ∣ S2048x2x128.size 0 := ⟨128, rfl⟩
/-- The block of 128 rows of an output that task `i` writes. -/
def blockSet (i : Fin 16) : Finset S2048x2x128.Idx := (Rect.part (s := S2048x2x128) (a₀ := 0) odiv i).set

theorem blocks_disjoint : ∀ i ∈ (Finset.univ : Finset (Fin 16)), ∀ j ∈ (Finset.univ : Finset (Fin 16)), i ≠ j → Disjoint (blockSet i) (blockSet j) :=
  fun _ _ _ _ h => Rect.part_disjoint odiv h
theorem blocks_cover : (Finset.univ : Finset (Fin 16)).biUnion blockSet = Finset.univ := Rect.biUnion_part odiv

/-! ## Write mode, by blocks -/

section Blocks

variable {ℓ : Loc nD τ sig} {q : PosShare TreeShare} {f g : Buf (Elt F) ℓ} {W : Finset (Idx ℓ)}

/-- Elements of disjoint sets are the sets' elements, each. -/
theorem toBe_biUnion {I : Type} [DecidableEq I] (s : Finset I) (J : I → Finset (Idx ℓ)) (h : ∀ i ∈ s, ∀ j ∈ s, i ≠ j → Disjoint (J i) (J j)) :
    toBe ℓ (s.biUnion J) q f g W = (bigSep s fun i => toBe ℓ (J i) q f g W : sProp (MM F)) := by
  induction s using Finset.induction_on with
  | empty => rw [Finset.biUnion_empty, bigSep_empty]; exact Region.held_empty _
  | insert a t ha ih =>
    have hd : Disjoint (J a) (t.biUnion J) := (Finset.disjoint_biUnion_right _ _ _).mpr fun b hb =>
      h a (Finset.mem_insert_self _ _) b (Finset.mem_insert_of_mem hb) fun e => ha (e ▸ hb)
    have hu : (toBe ℓ (J a ∪ t.biUnion J) q f g W : sProp (MM F)) ⊣⊢ iprop(toBe ℓ (J a) q f g W ∗ toBe ℓ (t.biUnion J) q f g W) :=
      Region.held_union hd
    rw [Finset.biUnion_insert, bigSep_insert ha, Entails.antisymm hu.1 hu.2,
      ih fun b hb c hc => h b (Finset.mem_insert_of_mem hb) c (Finset.mem_insert_of_mem hc)]
    rfl

/-- Only the marks of the elements held count. -/
theorem toBe_marks {I W' : Finset (Idx ℓ)} (h : ∀ i ∈ I, i ∈ W ↔ i ∈ W') : toBe ℓ I q f g W = (toBe ℓ I q f g W' : sProp (MM F)) :=
  Region.willBe_congr (fun _ _ => rfl) (fun _ _ => rfl) h

/-- The two cores' halves are the whole. -/
theorem toBe_halves {I : Finset (Idx ℓ)} :
    toBe ℓ I fullShare f g W = (iprop(toBe ℓ I (half 0) f g W ∗ toBe ℓ I (half 1) f g W) : sProp (MM F)) := by
  have e : (toBe ℓ I fullShare f g W : sProp (MM F)) ⊣⊢ iprop(toBe ℓ I fullShare.left f g W ∗ toBe ℓ I fullShare.right f g W) :=
    Region.held_share (PosShare.mem_left_op_right fullShare) fun i _ => by
      have := Region.WB.mem_mk_op_mk (f i) (some (g i)) (decide (i ∈ W)) (decide (i ∈ W))
      simpa only [Bool.or_self] using this
  exact Entails.antisymm e.1 e.2

end Blocks
/-! ## What the handshakes carry -/

/-- What the arrays hold when the call starts: the two tables, the two index lists, and the two outputs' old contents. -/
structure Held (F : FTy → Type) where
  tabK : Dev nD → S8192x2x128.Idx → Elt F .i32
  tabV : Dev nD → S8192x2x128.Idx → Elt F .i32
  idxK : Dev nD → S1x2048.Idx → Elt F .i32
  idxV : Dev nD → S1x2048.Idx → Elt F .i32
  oldK : Dev nD → S2048x2x128.Idx → Elt F .i32
  oldV : Dev nD → S2048x2x128.Idx → Elt F .i32

/-- Every word of the lists names a row. -/
def Held.InRange (v : Held F) : Prop := ∀ d x, (v.idxK d x).toNat < 8192 ∧ (v.idxV d x).toNat < 8192

variable (v : Held F)

/-- The tables and the lists, at a share. -/
abbrev ins (d : Dev nD) (q : PosShare TreeShare) : sProp (MM F) :=
  iprop((tabKLoc d ↦{q} v.tabK d) ∗ (tabVLoc d ↦{q} v.tabV d) ∗ (idxKLoc d ↦{q} v.idxK d) ∗ (idxVLoc d ↦{q} v.idxV d))
/-- The elements `I` of an output, in write mode at a share, those in `W` written. -/
abbrev outK (d : Dev nD) (q : PosShare TreeShare) (I W : Finset S2048x2x128.Idx) : sProp (MM F) :=
  toBe (outKLoc d) I q (v.oldK d) (rowsOut (v.tabK d) (v.idxK d)) W
abbrev outV (d : Dev nD) (q : PosShare TreeShare) (I W : Finset S2048x2x128.Idx) : sProp (MM F) :=
  toBe (outVLoc d) I q (v.oldV d) (rowsOut (v.tabV d) (v.idxV d)) W

/-- A core's part, the elements `W` of the outputs written, -/
abbrev corePart (d : Dev nD) (c : Fin 2) (W : Finset S2048x2x128.Idx) : sProp (MM F) :=
  iprop(ins v d (half c) ∗ outK v d (half c) Finset.univ W ∗ outV v d (half c) Finset.univ W)
/-- and a task's. -/
abbrev taskPart (d : Dev nD) (c : Fin 2) (i : Fin 16) (W : Finset S2048x2x128.Idx) : sProp (MM F) :=
  iprop(ins v d (piece c i) ∗ outK v d (half c) (blockSet i) W ∗ outV v d (half c) (blockSet i) W)

def P : (K (F := F)).Pay (nD := nD) (Val := Elt F) (Name := ℕ) (U := UU F) where
  st := fun q d c => match q with | 0 => corePart v d (Fin.cast nCore_zero c) ∅
  dn := fun q d c => match q with | 0 => corePart v d (Fin.cast nCore_zero c) Finset.univ
  go := fun q d c i => match q with | 0 => taskPart v d (Fin.cast nCore_zero c) (Fin.cast nSub_zero i) ∅
  td := fun q d c i => match q with | 0 => taskPart v d (Fin.cast nCore_zero c) (Fin.cast nSub_zero i) (∅ ∪ blockSet (Fin.cast nSub_zero i))
  x := fun _ _ => someWm

instance P_storable : (P v).IsStorable where
  st q d c := match q with
    | 0 => (inferInstance : BI.Storable (upEmb : UEmb _ (MM F)) (corePart v d (Fin.cast nCore_zero c) ∅))
  dn q d c := match q with
    | 0 => (inferInstance : BI.Storable (upEmb : UEmb _ (MM F)) (corePart v d (Fin.cast nCore_zero c) Finset.univ))
  go q d c i := match q with
    | 0 => (inferInstance : BI.Storable (upEmb : UEmb _ (MM F)) (taskPart v d (Fin.cast nCore_zero c) (Fin.cast nSub_zero i) ∅))
  td q d c i := match q with
    | 0 => (inferInstance : BI.Storable (upEmb : UEmb _ (MM F))
      (taskPart v d (Fin.cast nCore_zero c) (Fin.cast nSub_zero i) (∅ ∪ blockSet (Fin.cast nSub_zero i))))

/-! ## A core's part is its tasks' -/

theorem ins_pieces (d : Dev nD) (c : Fin 2) : ins v d (half c) = bigSep Finset.univ fun i : Fin 16 => ins v d (piece c i) := by
  unfold piece
  rw [bigSep_sep', bigSep_sep', bigSep_sep']
  unfold ins
  rw [pointsTo_piecesOf (Val := Elt F) (ℓ := tabKLoc d) Finset.univ (v.tabK d) (by decide : 0 < 16) (half c),
    pointsTo_piecesOf (Val := Elt F) (ℓ := tabVLoc d) Finset.univ (v.tabV d) (by decide : 0 < 16) (half c),
    pointsTo_piecesOf (Val := Elt F) (ℓ := idxKLoc d) Finset.univ (v.idxK d) (by decide : 0 < 16) (half c),
    pointsTo_piecesOf (Val := Elt F) (ℓ := idxVLoc d) Finset.univ (v.idxV d) (by decide : 0 < 16) (half c)]

theorem outK_blocks (d : Dev nD) (q : PosShare TreeShare) (W : Finset S2048x2x128.Idx) :
    outK v d q Finset.univ W = bigSep Finset.univ fun i : Fin 16 => outK v d q (blockSet i) W := by
  have h := toBe_biUnion (F := F) (ℓ := outKLoc d) (q := q) (f := v.oldK d) (g := rowsOut (v.tabK d) (v.idxK d)) (W := W)
    Finset.univ blockSet blocks_disjoint
  rw [blocks_cover] at h; exact h
theorem outV_blocks (d : Dev nD) (q : PosShare TreeShare) (W : Finset S2048x2x128.Idx) :
    outV v d q Finset.univ W = bigSep Finset.univ fun i : Fin 16 => outV v d q (blockSet i) W := by
  have h := toBe_biUnion (F := F) (ℓ := outVLoc d) (q := q) (f := v.oldV d) (g := rowsOut (v.tabV d) (v.idxV d)) (W := W)
    Finset.univ blockSet blocks_disjoint
  rw [blocks_cover] at h; exact h

/-- A block all written is one with every mark. -/
theorem outK_written (d : Dev nD) (q : PosShare TreeShare) (i : Fin 16) :
    outK v d q (blockSet i) (∅ ∪ blockSet i) = outK v d q (blockSet i) Finset.univ :=
  toBe_marks fun x hx => by simp [hx]
theorem outV_written (d : Dev nD) (q : PosShare TreeShare) (i : Fin 16) :
    outV v d q (blockSet i) (∅ ∪ blockSet i) = outV v d q (blockSet i) Finset.univ :=
  toBe_marks fun x hx => by simp [hx]

theorem corePart_tasks (d : Dev nD) (c : Fin 2) (W : Finset S2048x2x128.Idx) :
    corePart v d c W = bigSep Finset.univ fun i : Fin 16 => taskPart v d c i W := by
  unfold corePart
  rw [ins_pieces, outK_blocks, outV_blocks, ← bigSep_sep', ← bigSep_sep']

theorem taskPart_written (d : Dev nD) (c : Fin 2) (i : Fin 16) : taskPart v d c i (∅ ∪ blockSet i) = taskPart v d c i Finset.univ := by
  unfold taskPart
  rw [outK_written, outV_written]

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P v) 0 := by
  intro d c
  show corePart v d (Fin.cast nCore_zero c) ∅ ⊢ |={Set.univ}=> iprop(
      (bigSep Finset.univ fun i : Fin ((K (F := F)).nSub 0) => taskPart v d (Fin.cast nCore_zero c) (Fin.cast nSub_zero i) ∅)
      ∗ ((bigSep Finset.univ fun i : Fin ((K (F := F)).nSub 0) =>
          taskPart v d (Fin.cast nCore_zero c) (Fin.cast nSub_zero i) (∅ ∪ blockSet (Fin.cast nSub_zero i)))
          -∗ corePart v d (Fin.cast nCore_zero c) Finset.univ))
  rw [bigSep_tasks (fun i => taskPart v d (Fin.cast nCore_zero c) i ∅),
    bigSep_tasks (fun i => taskPart v d (Fin.cast nCore_zero c) i (∅ ∪ blockSet i)), ← corePart_tasks,
    bigSep_congr fun i _ => taskPart_written v d (Fin.cast nCore_zero c) i, ← corePart_tasks]
  iintro H; imodintro
  isplitl [H]; · iexact H
  iintro H
  iexact H

end Cert.Proof.Rows

end
-- ==== Proof.Tile.lean ====
/-
  The task on a vector subcore: the two tables' programs one after the other, from what the handshake hands it.
-/
module

public import proofs.«01_k».proof.Proof.Reads
public import proofs.«01_k».proof.Proof.Pay

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] (v : Held F) (d : Dev nD) (L : grid0.Coords)

theorem bound_zero : grid0.bound 0 = 2 := rfl
theorem bound_one : grid0.bound 1 = 16 := rfl
/-- The task's core and its number on it. -/
abbrev cF (L : grid0.Coords) : Fin 2 := Fin.cast bound_zero (L 0)
abbrev jF (L : grid0.Coords) : Fin 16 := Fin.cast bound_one (L 1)

/-! ## The arrays as the task addresses them -/

abbrev tK : Memref sig .scVector .hbm S8192x2x128 .i32 := Memref.whole main_v20_scv
abbrev tV : Memref sig .scVector .hbm S8192x2x128 .i32 := Memref.whole main_v21_scv
abbrev xK : Memref sig .scVector .hbm S1x2048 .i32 := Memref.whole main_v9_scv
abbrev xV : Memref sig .scVector .hbm S1x2048 .i32 := Memref.whole main_v19_scv
abbrev oK : Memref sig .scVector .hbm S2048x2x128 .i32 := Memref.whole main_v22_0_scv
abbrev oV : Memref sig .scVector .hbm S2048x2x128 .i32 := Memref.whole main_v22_1_scv
abbrev lK : Memref sig .scVector .vmem S2x1x128 .i32 := Memref.whole cc0_scoped0
abbrev rK : Memref sig .scVector .vmem S2x128x2x128 .i32 := Memref.whole cc0_scoped2
abbrev lV : Memref sig .scVector .vmem S2x1x128 .i32 := Memref.whole cc0_scoped5
abbrev rV : Memref sig .scVector .vmem S2x128x2x128 .i32 := Memref.whole cc0_scoped7

omit [FloatOps F] in
theorem block_part : Rect.unit (s := S2048x2x128) ![128 * (L 1).val, 0, 0] S128x2x128.size (inb_block L)
    = Rect.part (s := S2048x2x128) (a₀ := 0) odiv (jF L) := by
  unfold Rect.part Rect.block
  congr 1 <;> funext a
  · match a with
    | 0 => simp [Shape.partIx, Shape.partSize, mul_comm]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_blockK : (block L oK).view.set = blockSet (jF L) := by
  show ((View.whole (main_v22_0_scv : Ref sig .scVector)).slice (Rect.unit (s := S2048x2x128) ![128 * (L 1).val, 0, 0] S128x2x128.size (inb_block L))).set = _
  rw [View.set_slice]
  exact (Finset.map_refl).trans (congrArg (fun r : Rect S2048x2x128 => r.set) (block_part L))
omit [FloatOps F] in
theorem set_blockV : (block L oV).view.set = blockSet (jF L) := by
  show ((View.whole (main_v22_1_scv : Ref sig .scVector)).slice (Rect.unit (s := S2048x2x128) ![128 * (L 1).val, 0, 0] S128x2x128.size (inb_block L))).set = _
  rw [View.set_slice]
  exact (Finset.map_refl).trans (congrArg (fun r : Rect S2048x2x128 => r.set) (block_part L))

omit [FloatOps F] in
theorem toBe_blockK (q : PosShare TreeShare) (f g : Buf (Elt F) (outKLoc d)) :
    (toBe ((block L oK).view.loc (thr d L)) (block L oK).view.set q f g ∅ : sProp (MM F)) = toBe (outKLoc d) (blockSet (jF L)) q f g ∅ := by
  rw [set_blockK]
omit [FloatOps F] in
theorem toBe_blockK' (q : PosShare TreeShare) (f g : Buf (Elt F) (outKLoc d)) :
    (toBe ((block L oK).view.loc (thr d L)) (block L oK).view.set q f g (∅ ∪ (block L oK).view.set) : sProp (MM F))
      = toBe (outKLoc d) (blockSet (jF L)) q f g (∅ ∪ blockSet (jF L)) := by
  rw [set_blockK]
omit [FloatOps F] in
theorem toBe_blockV (q : PosShare TreeShare) (f g : Buf (Elt F) (outVLoc d)) :
    (toBe ((block L oV).view.loc (thr d L)) (block L oV).view.set q f g ∅ : sProp (MM F)) = toBe (outVLoc d) (blockSet (jF L)) q f g ∅ := by
  rw [set_blockV]
omit [FloatOps F] in
theorem toBe_blockV' (q : PosShare TreeShare) (f g : Buf (Elt F) (outVLoc d)) :
    (toBe ((block L oV).view.loc (thr d L)) (block L oV).view.set q f g (∅ ∪ (block L oV).view.set) : sProp (MM F))
      = toBe (outVLoc d) (blockSet (jF L)) q f g (∅ ∪ blockSet (jF L)) := by
  rw [set_blockV]

/-! ## The task's own cells and scratch -/

abbrev cellOf (d : Dev nD) (L : grid0.Coords) (s : DmaSem sig) : GSem nD τ sig := (thr d L, .dma s)
abbrev sem1 : DmaSem sig := (semSlot cc0_scoped1).sem
abbrev sem3 : DmaSem sig := (semSlot cc0_scoped3).sem
abbrev sem4 : DmaSem sig := cc0_scoped4.sem
abbrev sem6 : DmaSem sig := (semSlot cc0_scoped6).sem
abbrev sem8 : DmaSem sig := (semSlot cc0_scoped8).sem
abbrev sem9 : DmaSem sig := cc0_scoped9.sem

omit [FloatOps F] in
theorem own_cell (s : DmaSem sig) (h : (SemLoc.dma s : SemLoc sig).isScoped .scVector = true) : cellOf d L s ∈ ownCells (thr d L) :=
  (mem_ownCells (g := cellOf d L s)).mpr ⟨rfl, h⟩
omit [FloatOps F] in
theorem cell_ne {s s' : DmaSem sig} (h : s ≠ s') : cellOf d L s ≠ cellOf d L s' := by
  intro e; apply h; simpa [cellOf] using e

omit [FloatOps F] in
theorem ownSems0_V :
    (ownSems0 (thr d L) : sProp (MM F))
      = iprop(semVal (cellOf d L sem1) 0 ∗ semVal (cellOf d L sem3) 0 ∗ semVal (cellOf d L sem4) 0 ∗ semVal (cellOf d L sem6) 0
          ∗ semVal (cellOf d L sem8) 0 ∗ semVal (cellOf d L sem9) 0
          ∗ bigSep (((((((ownCells (thr d L)).erase (cellOf d L sem1)).erase (cellOf d L sem3)).erase (cellOf d L sem4)).erase (cellOf d L sem6)).erase
              (cellOf d L sem8)).erase (cellOf d L sem9)) fun g => semVal g 0) := by
  have n13 : cellOf d L sem3 ≠ cellOf d L sem1 := cell_ne d L (by decide)
  have n14 : cellOf d L sem4 ≠ cellOf d L sem1 := cell_ne d L (by decide)
  have n16 : cellOf d L sem6 ≠ cellOf d L sem1 := cell_ne d L (by decide)
  have n18 : cellOf d L sem8 ≠ cellOf d L sem1 := cell_ne d L (by decide)
  have n19 : cellOf d L sem9 ≠ cellOf d L sem1 := cell_ne d L (by decide)
  have n34 : cellOf d L sem4 ≠ cellOf d L sem3 := cell_ne d L (by decide)
  have n36 : cellOf d L sem6 ≠ cellOf d L sem3 := cell_ne d L (by decide)
  have n38 : cellOf d L sem8 ≠ cellOf d L sem3 := cell_ne d L (by decide)
  have n39 : cellOf d L sem9 ≠ cellOf d L sem3 := cell_ne d L (by decide)
  have n46 : cellOf d L sem6 ≠ cellOf d L sem4 := cell_ne d L (by decide)
  have n48 : cellOf d L sem8 ≠ cellOf d L sem4 := cell_ne d L (by decide)
  have n49 : cellOf d L sem9 ≠ cellOf d L sem4 := cell_ne d L (by decide)
  have n68 : cellOf d L sem8 ≠ cellOf d L sem6 := cell_ne d L (by decide)
  have n69 : cellOf d L sem9 ≠ cellOf d L sem6 := cell_ne d L (by decide)
  have n89 : cellOf d L sem9 ≠ cellOf d L sem8 := cell_ne d L (by decide)
  unfold SparseCore.Cfg.ownSems0
  rw [SparseCore.bigSep_erase' (own_cell d L sem1 (by decide)),
    SparseCore.bigSep_erase' (Finset.mem_erase.mpr ⟨n13, own_cell d L sem3 (by decide)⟩),
    SparseCore.bigSep_erase' (Finset.mem_erase.mpr ⟨n34, Finset.mem_erase.mpr ⟨n14, own_cell d L sem4 (by decide)⟩⟩),
    SparseCore.bigSep_erase' (Finset.mem_erase.mpr ⟨n46, Finset.mem_erase.mpr ⟨n36, Finset.mem_erase.mpr ⟨n16, own_cell d L sem6 (by decide)⟩⟩⟩),
    SparseCore.bigSep_erase' (Finset.mem_erase.mpr ⟨n68, Finset.mem_erase.mpr ⟨n48, Finset.mem_erase.mpr ⟨n38, Finset.mem_erase.mpr
      ⟨n18, own_cell d L sem8 (by decide)⟩⟩⟩⟩),
    SparseCore.bigSep_erase' (Finset.mem_erase.mpr ⟨n89, Finset.mem_erase.mpr ⟨n69, Finset.mem_erase.mpr ⟨n49, Finset.mem_erase.mpr
      ⟨n39, Finset.mem_erase.mpr ⟨n19, own_cell d L sem9 (by decide)⟩⟩⟩⟩⟩)]

abbrev refOf (L : grid0.Coords) (b : Ref sig .scVector) : DevRef τ sig := (Proc.scVector (cV L) (jV L)).devRef b
omit [FloatOps F] in
theorem ref_ne {b b' : Ref sig .scVector} (h : b ≠ b') : refOf L b ≠ refOf L b' := fun e => h (Proc.devRef_injective _ e)

omit [FloatOps F] in
theorem ownBufs_V :
    (ownBufs (thr d L) : sProp (MM F))
      = iprop((∃ f, (thr d L).loc cc0_scoped0 ↦{fullShare} f) ∗ (∃ f, (thr d L).loc cc0_scoped2 ↦{fullShare} f)
          ∗ (∃ f, (thr d L).loc cc0_scoped5 ↦{fullShare} f) ∗ (∃ f, (thr d L).loc cc0_scoped7 ↦{fullShare} f)
          ∗ bigSep (((((ownRefs (τ := τ) (.scVector (cV L) (jV L))).erase (refOf L cc0_scoped0)).erase (refOf L cc0_scoped2)).erase
              (refOf L cc0_scoped5)).erase (refOf L cc0_scoped7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refOf L cc0_scoped0) rfl)).trans ?_
  rw [SparseCore.bigSep_erase' (Finset.mem_erase.mpr ⟨ref_ne L (show (cc0_scoped2 : Ref sig .scVector) ≠ cc0_scoped0 by decide),
      SparseCore.Cfg.mem_ownRefs_of_owner (p := Proc.scVector (cV L) (jV L)) (b := refOf L cc0_scoped2) rfl⟩),
    SparseCore.bigSep_erase' (Finset.mem_erase.mpr ⟨ref_ne L (show (cc0_scoped5 : Ref sig .scVector) ≠ cc0_scoped2 by decide),
      Finset.mem_erase.mpr ⟨ref_ne L (show (cc0_scoped5 : Ref sig .scVector) ≠ cc0_scoped0 by decide),
      SparseCore.Cfg.mem_ownRefs_of_owner (p := Proc.scVector (cV L) (jV L)) (b := refOf L cc0_scoped5) rfl⟩⟩),
    SparseCore.bigSep_erase' (Finset.mem_erase.mpr ⟨ref_ne L (show (cc0_scoped7 : Ref sig .scVector) ≠ cc0_scoped5 by decide),
      Finset.mem_erase.mpr ⟨ref_ne L (show (cc0_scoped7 : Ref sig .scVector) ≠ cc0_scoped2 by decide),
      Finset.mem_erase.mpr ⟨ref_ne L (show (cc0_scoped7 : Ref sig .scVector) ≠ cc0_scoped0 by decide),
      SparseCore.Cfg.mem_ownRefs_of_owner (p := Proc.scVector (cV L) (jV L)) (b := refOf L cc0_scoped7) rfl⟩⟩⟩)]

/-! ## The task -/

omit [FloatOps F] in
theorem creditK : ∑ j, ((rowSlot rK).slice (S128x2x128.rowRect gathers_S8192x2x128_S128x2x128.axis' j)
    (S128x2x128.stride_rowRect gathers_S8192x2x128_S128x2x128.axis' j)).view.dmaCredit = (rowSlot rK).view.dmaCredit := by decide
omit [FloatOps F] in
theorem creditV : ∑ j, ((rowSlot rV).slice (S128x2x128.rowRect gathers_S8192x2x128_S128x2x128.axis' j)
    (S128x2x128.stride_rowRect gathers_S8192x2x128_S128x2x128.axis' j)).view.dmaCredit = (rowSlot rV).view.dmaCredit := by decide

set_option maxHeartbeats 2000000 in
theorem tile_body (hF : (K (F := F)).Facts) (hv : v.InRange) (O : CellTallies nD τ sig (HIx 1)) (W : Waits sig (HIx 1)) (hO : ∀ g, O g none = 0) :
    iprop(levAts (K (F := F)).L (K (F := F)).lev ∗ someWm ∗ taskPart v d (cF L) (jF L) ∅
        ∗ scopedBufs (thr d L) ∗ scopedSems0 (thr d L) ∗ owes (thr d L) O W)
      ⊢ wp frame (wpE (defs₀ (F := F)) 𝒱₀ (thr d L) none) Set.univ
          (cc0_kern L tK (Memref.isWhole_whole _) tV (Memref.isWhole_whole _) xK (Memref.isWhole_whole _) xV (Memref.isWhole_whole _)
            oK (Memref.isWhole_whole _) oV (Memref.isWhole_whole _) lK (Memref.isWhole_whole _) cc0_scoped1 rK (Memref.isWhole_whole _)
            cc0_scoped3 cc0_scoped4 lV (Memref.isWhole_whole _) cc0_scoped6 rV (Memref.isWhole_whole _) cc0_scoped8 cc0_scoped9)
          fun _ => iprop(taskPart v d (cF L) (jF L) (∅ ∪ blockSet (jF L)) ∗ scopedBufs (thr d L) ∗ scopedSems0 (thr d L)
            ∗ ∃ W', ⌜∀ p ∈ W', p ∈ W ∨ p.2 = none⌝ ∗ owes (thr d L) O W') := by
  rw [kern_eq, (K (F := F)).scopedBufs_V hF d (cV L) (jV L), SparseCore.Cfg.scopedSems0_V (Val := Elt F) d (cV L) (jV L), ownSems0_V, ownBufs_V]
  iintro ⟨#Hlv, ⟨%ιwm, #Hwm⟩, ⟨⟨HtK, HtV, HxK, HxV⟩, HoK, HoV⟩, ⟨⟨%f0, H0⟩, ⟨%f2, H2⟩, ⟨%f5, H5⟩, ⟨%f7, H7⟩, Hbufs⟩,
    ⟨Hs1, Hs3, Hs4, Hs6, Hs8, Hs9, Hsems⟩, HO⟩
  ihave #Hmw := (show levAts (K (F := F)).L (K (F := F)).lev ⊢ Transfers.MayWaits (thr d L) (default : HIx 1) O from
    (K (F := F)).mayWaits_none (thr := thr d L) hO) $$ Hlv
  ihave HoK := (Entails.of_eq (toBe_blockK (F := F) d L _ _ _).symm) $$ HoK
  ihave HoV := (Entails.of_eq (toBe_blockV (F := F) d L _ _ _).symm) $$ HoV
  rw [wp_bind]
  have hinK : ∀ x, ((words L xK).view.read (Elt F) (v.idxK d) x).toNat < 8192 := fun x => (hv d _).1
  have hinV : ∀ x, ((words L xV).view.read (Elt F) (v.idxV d) x).toNat < 8192 := fun x => (hv d _).2
  iapply (wp_table d L tK xK oK lK cc0_scoped1 rK cc0_scoped3 cc0_scoped4 (ft := v.tabK d) (fi := v.idxK d) (fd := v.oldK d)
    (g := rowsOut (v.tabK d) (v.idxK d)) (ιwm := ιwm) creditK hinK
    (gathered_eq d L tK xK oK (View.read_whole _ _) (View.read_whole _ _) (View.read_whole _ _) hinK)) $$ [HtK HxK HoK H0 H2 Hs1 Hs3 Hs4 HO]
  · isplitr; · iexact Hmw
    isplitr; · iexact Hwm
    isplitl [HtK]; · iexact HtK
    isplitl [HxK]; · iexact HxK
    isplitl [HoK]; · iexact HoK
    isplitl [H0]; · iexact H0
    isplitl [H2]; · iexact H2
    isplitl [Hs1]; · iexact Hs1
    isplitl [Hs3]; · iexact Hs3
    isplitl [Hs4]; · iexact Hs4
    iexact HO
  iintro %f0' %f2' %W₁ %hW₁ HtK HxK HoK H0 H2 Hs1 Hs3 Hs4 HO
  iapply (wp_table d L tV xV oV lV cc0_scoped6 rV cc0_scoped8 cc0_scoped9 (ft := v.tabV d) (fi := v.idxV d) (fd := v.oldV d)
    (g := rowsOut (v.tabV d) (v.idxV d)) (ιwm := ιwm) creditV hinV
    (gathered_eq d L tV xV oV (View.read_whole _ _) (View.read_whole _ _) (View.read_whole _ _) hinV)) $$ [HtV HxV HoV H5 H7 Hs6 Hs8 Hs9 HO]
  · isplitr; · iexact Hmw
    isplitr; · iexact Hwm
    isplitl [HtV]; · iexact HtV
    isplitl [HxV]; · iexact HxV
    isplitl [HoV]; · iexact HoV
    isplitl [H5]; · iexact H5
    isplitl [H7]; · iexact H7
    isplitl [Hs6]; · iexact Hs6
    isplitl [Hs8]; · iexact Hs8
    isplitl [Hs9]; · iexact Hs9
    iexact HO
  iintro %f5' %f7' %W₂ %hW₂ HtV HxV HoV H5 H7 Hs6 Hs8 Hs9 HO
  isplitl [HtK HxK HoK HtV HxV HoV]
  · isplitl [HtK HtV HxK HxV]
    · isplitl [HtK]; · iexact HtK
      isplitl [HtV]; · iexact HtV
      isplitl [HxK]; · iexact HxK
      iexact HxV
    isplitl [HoK]
    · iapply (Entails.of_eq (toBe_blockK' (F := F) d L _ _ _)); iexact HoK
    iapply (Entails.of_eq (toBe_blockV' (F := F) d L _ _ _)); iexact HoV
  isplitl [H0 H2 H5 H7 Hbufs]
  · isplitl [H0]; · iexists _; iexact H0
    isplitl [H2]; · iexists _; iexact H2
    isplitl [H5]; · iexists _; iexact H5
    isplitl [H7]; · iexists _; iexact H7
    iexact Hbufs
  isplitl [Hs1 Hs3 Hs4 Hs6 Hs8 Hs9 Hsems]
  · isplitl [Hs1]; · iexact Hs1
    isplitl [Hs3]; · iexact Hs3
    isplitl [Hs4]; · iexact Hs4
    isplitl [Hs6]; · iexact Hs6
    isplitl [Hs8]; · iexact Hs8
    isplitl [Hs9]; · iexact Hs9
    iexact Hsems
  iexists W₂; isplitr
  · ipureintro; intro p hp
    rcases hW₂ p hp with h | h
    · exact hW₁ p h
    · exact .inr h
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_kern (coordsV c s) tK (Memref.isWhole_whole _) tV (Memref.isWhole_whole _)
          xK (Memref.isWhole_whole _) xV (Memref.isWhole_whole _)
          oK (Memref.isWhole_whole _) oV (Memref.isWhole_whole _) lK (Memref.isWhole_whole _) cc0_scoped1 rK (Memref.isWhole_whole _)
          cc0_scoped3 cc0_scoped4 lV (Memref.isWhole_whole _) cc0_scoped6 rV (Memref.isWhole_whole _) cc0_scoped8 cc0_scoped9) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hv : v.InRange) : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body v d (coordsV ⟨_, hci.1⟩ ⟨_, hci.2⟩) hF hv O W hO).trans (wp_mono frame _ _ fun _ => obl_post)

end Cert.Proof.Rows

end
-- ==== Proof.Host.lean ====
/-
  The operations of the host around the call: the list before it (the index lists' words and the views of the tables), the
  list after it (the views of the results), and what each buffer holds after them.
-/
module

public import proofs.«01_k».proof.Proof.Pay
public import Idealize.ShloMosaic.Lib.Pipeline.Frame

@[expose] public section

noncomputable section

namespace Cert.Proof.Rows

open Cert.KernelIdeal Cert.KernelIdeal.Gen

open Idealize.ShloMosaic Idealize.ShloMosaic.TcCoe
open Idealize.ShloMosaic.StableHlo (seq seqK after after_cons after_nil held)
open Idealize.SL Idealize.SL.RA Idealize.SL.BI Idealize.SL.Sem

variable {F : FTy → Type} [FloatOps F]

/-- Two columns beside each other. -/
def columns (a b : (⟨S1024x1, .i32⟩ : BufTy).Contents (Elt F)) : (⟨S1024x2, .i32⟩ : BufTy).Contents (Elt F) :=
  concatenate S1024x2 1 [⟨S1024x1, a⟩, ⟨S1024x1, b⟩] concatenates_S1024x1_S1024x1_S1024x2_d1

/-- What comes before the call, -/
abbrev opsA : List (HloOp τ sig (Elt F)) :=
  [ StableHlo.nullary main_c (constantI S_ 32 2#32),
    StableHlo.unary main_c main_v0 (broadcastInDim S1024 ![] bcast_S_S1024 : (⟨S_, .i32⟩ : BufTy).Contents (Elt F) → (⟨S1024, .i32⟩ : BufTy).Contents (Elt F)),
    StableHlo.binary main_v0 main_arg2 main_v1 (muli : (⟨S1024, .i32⟩ : BufTy).Contents (Elt F) → (⟨S1024, .i32⟩ : BufTy).Contents (Elt F) → (⟨S1024, .i32⟩ : BufTy).Contents (Elt F)),
    StableHlo.nullary main_c_0 (constantI S_ 32 2#32),
    StableHlo.unary main_c_0 main_v2 (broadcastInDim S1024 ![] bcast_S_S1024 : (⟨S_, .i32⟩ : BufTy).Contents (Elt F) → (⟨S1024, .i32⟩ : BufTy).Contents (Elt F)),
    StableHlo.binary main_v2 main_arg2 main_v3 (muli : (⟨S1024, .i32⟩ : BufTy).Contents (Elt F) → (⟨S1024, .i32⟩ : BufTy).Contents (Elt F) → (⟨S1024, .i32⟩ : BufTy).Contents (Elt F)),
    StableHlo.nullary main_c_1 (constantI S_ 32 1#32),
    StableHlo.unary main_c_1 main_v4 (broadcastInDim S1024 ![] bcast_S_S1024 : (⟨S_, .i32⟩ : BufTy).Contents (Elt F) → (⟨S1024, .i32⟩ : BufTy).Contents (Elt F)),
    StableHlo.binary main_v3 main_v4 main_v5 (addi : (⟨S1024, .i32⟩ : BufTy).Contents (Elt F) → (⟨S1024, .i32⟩ : BufTy).Contents (Elt F) → (⟨S1024, .i32⟩ : BufTy).Contents (Elt F)),
    StableHlo.unary main_v1 main_v6 (broadcastInDim S1024x1 ![0] bcast_S1024_S1024x1_0 : (⟨S1024, .i32⟩ : BufTy).Contents (Elt F) → (⟨S1024x1, .i32⟩ : BufTy).Contents (Elt F)),
    StableHlo.unary main_v5 main_v7 (broadcastInDim S1024x1 ![0] bcast_S1024_S1024x1_0 : (⟨S1024, .i32⟩ : BufTy).Contents (Elt F) → (⟨S1024x1, .i32⟩ : BufTy).Contents (Elt F)),
    StableHlo.binary main_v6 main_v7 main_v8 columns,
    StableHlo.reshape main_v8 main_v9 (rfl : (.i32 : EltTy) = .i32) shapeCasts_S1024x2_S1x2048,
    StableHlo.nullary main_c_2 (constantI S_ 32 2#32),
    StableHlo.unary main_c_2 main_v10 (broadcastInDim S1024 ![] bcast_S_S1024 : (⟨S_, .i32⟩ : BufTy).Contents (Elt F) → (⟨S1024, .i32⟩ : BufTy).Contents (Elt F)),
    StableHlo.binary main_v10 main_arg3 main_v11 (muli : (⟨S1024, .i32⟩ : BufTy).Contents (Elt F) → (⟨S1024, .i32⟩ : BufTy).Contents (Elt F) → (⟨S1024, .i32⟩ : BufTy).Contents (Elt F)),
    StableHlo.nullary main_c_3 (constantI S_ 32 2#32),
    StableHlo.unary main_c_3 main_v12 (broadcastInDim S1024 ![] bcast_S_S1024 : (⟨S_, .i32⟩ : BufTy).Contents (Elt F) → (⟨S1024, .i32⟩ : BufTy).Contents (Elt F)),
    StableHlo.binary main_v12 main_arg3 main_v13 (muli : (⟨S1024, .i32⟩ : BufTy).Contents (Elt F) → (⟨S1024, .i32⟩ : BufTy).Contents (Elt F) → (⟨S1024, .i32⟩ : BufTy).Contents (Elt F)),
    StableHlo.nullary main_c_4 (constantI S_ 32 1#32),
    StableHlo.unary main_c_4 main_v14 (broadcastInDim S1024 ![] bcast_S_S1024 : (⟨S_, .i32⟩ : BufTy).Contents (Elt F) → (⟨S1024, .i32⟩ : BufTy).Contents (Elt F)),
    StableHlo.binary main_v13 main_v14 main_v15 (addi : (⟨S1024, .i32⟩ : BufTy).Contents (Elt F) → (⟨S1024, .i32⟩ : BufTy).Contents (Elt F) → (⟨S1024, .i32⟩ : BufTy).Contents (Elt F)),
    StableHlo.unary main_v11 main_v16 (broadcastInDim S1024x1 ![0] bcast_S1024_S1024x1_0 : (⟨S1024, .i32⟩ : BufTy).Contents (Elt F) → (⟨S1024x1, .i32⟩ : BufTy).Contents (Elt F)),
    StableHlo.unary main_v15 main_v17 (broadcastInDim S1024x1 ![0] bcast_S1024_S1024x1_0 : (⟨S1024, .i32⟩ : BufTy).Contents (Elt F) → (⟨S1024x1, .i32⟩ : BufTy).Contents (Elt F)),
    StableHlo.binary main_v16 main_v17 main_v18 columns,
    StableHlo.reshape main_v18 main_v19 (rfl : (.i32 : EltTy) = .i32) shapeCasts_S1024x2_S1x2048,
    StableHlo.reshape main_arg0 main_v20 (rfl : (.i32 : EltTy) = .i32) shapeCasts_S4096x512_S8192x2x128,
    StableHlo.reshape main_arg1 main_v21 (rfl : (.i32 : EltTy) = .i32) shapeCasts_S4096x512_S8192x2x128 ]
/-- and what comes after it. -/
abbrev opsB : List (HloOp τ sig (Elt F)) :=
  [ StableHlo.reshape main_v22_0 main_v23 (rfl : (.i32 : EltTy) = .i32) shapeCasts_S2048x2x128_S1024x512,
    StableHlo.reshape main_v22_1 main_v24 (rfl : (.i32 : EltTy) = .i32) shapeCasts_S2048x2x128_S1024x512 ]

theorem main_eq (d : Dev nD) :
    main (F := F) d = seq opsA >>= fun _ => (K (F := F)).run d 0 >>= fun _ => seq opsB := by
  rw [StableHlo.seq_bind_seqK]
  simp only [main, seq, seqK]
  rfl

/-! ## The buffers they name -/

/-- The buffers a launch owns, all of them the TensorCore's. -/
abbrev bufs : Finset (DevRef τ sig) := Pipeline.ucRefs τ sig

theorem opsA_tc : (opsA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.unary_bufs_sub .., StableHlo.unary_bufs_sub .., StableHlo.binary_bufs_sub ..,
    StableHlo.reshape_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub ..,
    StableHlo.binary_bufs_sub .., StableHlo.reshape_bufs_sub .., StableHlo.reshape_bufs_sub .., StableHlo.reshape_bufs_sub ..⟩
theorem opsB_tc : (opsB : List (HloOp τ sig (Elt F))).Forall fun op => op.bufs ⊆ StableHlo.tcRefs τ sig :=
  ⟨StableHlo.reshape_bufs_sub .., StableHlo.reshape_bufs_sub ..⟩
theorem opsA_new : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem opsB_new : (opsB : List (HloOp τ sig (Elt F))).Forall fun op => op.fresh = ∅ := ⟨rfl, rfl⟩

theorem opsA_sub : ∀ op ∈ (opsA : List (HloOp τ sig (Elt F))), op.bufs ⊆ bufs :=
  fun op h => Pipeline.sub_ucRefs op (List.forall_iff_forall_mem.mp opsA_tc op h)
theorem opsB_sub : ∀ op ∈ (opsB : List (HloOp τ sig (Elt F))), op.bufs ⊆ bufs :=
  fun op h => Pipeline.sub_ucRefs op (List.forall_iff_forall_mem.mp opsB_tc op h)
theorem opsA_fresh : ∀ op ∈ (opsA : List (HloOp τ sig (Elt F))), op.fresh = ∅ := List.forall_iff_forall_mem.mp opsA_new
theorem opsB_fresh : ∀ op ∈ (opsB : List (HloOp τ sig (Elt F))), op.fresh = ∅ := List.forall_iff_forall_mem.mp opsB_new

/-! ## What they leave -/

variable (V : Valuation τ sig (Elt F))

/-- The words a list of row indices becomes: `2 i` and `2 i + 1` for each index `i`. -/
def wordsOf (idx : S1024.Idx → Elt F .i32) : S1x2048.Idx → Elt F .i32 :=
  shapeCast S1x2048
    (columns (F := F) (broadcastInDim S1024x1 ![0] bcast_S1024_S1024x1_0 (muli (broadcastInDim S1024 ![] bcast_S_S1024 (constantI S_ 32 2#32)) idx))
      (broadcastInDim S1024x1 ![0] bcast_S1024_S1024x1_0
        (addi (muli (broadcastInDim S1024 ![] bcast_S_S1024 (constantI S_ 32 2#32)) idx)
          (broadcastInDim S1024 ![] bcast_S_S1024 (constantI S_ 32 1#32))))) shapeCasts_S1024x2_S1x2048

theorem after_v9 : after opsA V (main_v9 : DevRef τ sig) = wordsOf (F := F) (V (main_arg2 : DevRef τ sig)) := by
  after_results_simp
  rfl
theorem after_v19 : after opsA V (main_v19 : DevRef τ sig) = wordsOf (F := F) (V (main_arg3 : DevRef τ sig)) := by
  after_results_simp
  rfl
theorem after_v20 : after opsA V (main_v20 : DevRef τ sig) = shapeCast S8192x2x128 (V (main_arg0 : DevRef τ sig)) shapeCasts_S4096x512_S8192x2x128 := by
  after_results_simp
  rfl
theorem after_v21 : after opsA V (main_v21 : DevRef τ sig) = shapeCast S8192x2x128 (V (main_arg1 : DevRef τ sig)) shapeCasts_S4096x512_S8192x2x128 := by
  after_results_simp
  rfl

end Cert.Proof.Rows

end
-- ==== Proof.Launch.lean ====
/-
  The launch: the host's operations, the call with the two outputs in write mode between them, and what the memory holds
  when the program ends.
-/
module

public import proofs.«01_k».proof.Proof.Tile
public import proofs.«01_k».proof.Proof.Host

@[expose] public section

noncomputable section

namespace Cert.Proof.Rows

open Cert.KernelIdeal Cert.KernelIdeal.Gen

open Idealize.ShloMosaic Idealize.ShloMosaic.TcCoe
open Idealize.ShloMosaic.SparseCore (S T)
open Idealize.ShloMosaic.SparseCore.Cfg (HIx Pay)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The two cores' parts -/

theorem pointsTo_halves (ℓ : Loc nD τ sig) (f : Buf (Elt F) ℓ) :
    (ℓ ↦{fullShare} f) = (iprop((ℓ ↦{half 0} f) ∗ ℓ ↦{half 1} f) : sProp (MM F)) :=
  have e : (ℓ ↦{fullShare} f) ⊣⊢ (iprop((ℓ ↦{fullShare.left} f) ∗ ℓ ↦{fullShare.right} f) : sProp (MM F)) :=
    pointsTo_share (PosShare.mem_left_op_right fullShare)
  Entails.antisymm e.1 e.2

/-- The two cores' parts are the arrays whole. -/
theorem cores_whole (v : Held F) (d : Dev nD) (W : Finset S2048x2x128.Idx) :
    iprop(corePart v d 0 W ∗ corePart v d 1 W)
      ⊣⊢ (iprop(ins v d fullShare ∗ outK v d fullShare Finset.univ W ∗ outV v d fullShare Finset.univ W) : sProp (MM F)) := by
  unfold corePart ins outK outV
  rw [pointsTo_halves (tabKLoc d), pointsTo_halves (tabVLoc d), pointsTo_halves (idxKLoc d), pointsTo_halves (idxVLoc d),
    toBe_halves (ℓ := outKLoc d), toBe_halves (ℓ := outVLoc d)]
  constructor
  · iintro ⟨⟨⟨A0, B0, C0, D0⟩, E0, F0⟩, ⟨A1, B1, C1, D1⟩, E1, F1⟩
    iframe
  · iintro ⟨⟨⟨A0, A1⟩, ⟨B0, B1⟩, ⟨C0, C1⟩, D0, D1⟩, ⟨E0, E1⟩, F0, F1⟩
    iframe

theorem cores (Φ : Fin 2 → sProp (MM F)) :
    (bigSep Finset.univ fun c : Fin ((K (F := F)).nCore 0) => Φ (Fin.cast nCore_zero c)) = iprop(Φ 0 ∗ Φ 1) := by
  have h : (bigSep Finset.univ fun c : Fin ((K (F := F)).nCore 0) => Φ (Fin.cast nCore_zero c)) = bigSep Finset.univ Φ :=
    bigSep_congr fun _ _ => congrArg Φ (Fin.ext rfl)
  rw [h, show (Finset.univ : Finset (Fin 2)) = {0, 1} by decide, SparseCore.bigSep_insert' (by decide), bigSep_singleton]

theorem st_eq (v : Held F) (d : Dev nD) :
    (bigSep Finset.univ fun c : Fin ((K (F := F)).nCore 0) => (P v).st 0 d c) = iprop(corePart v d 0 ∅ ∗ corePart v d 1 ∅) :=
  cores fun c => corePart v d c ∅
theorem dn_eq (v : Held F) (d : Dev nD) :
    (bigSep Finset.univ fun c : Fin ((K (F := F)).nCore 0) => (P v).dn 0 d c) = iprop(corePart v d 0 Finset.univ ∗ corePart v d 1 Finset.univ) :=
  cores fun c => corePart v d c Finset.univ

/-- The call, from its six arrays whole: the outputs then hold the rows. -/
theorem wp_call [FloatOps F] (v : Held F) (κ : GSem nD τ sig → ℕ) (d : Dev nD)
    (k : PUnit → Prog (TpuEff nD τ sig (Elt F) (SparseCore.Sig (ΛP (F := F)) 1) .tc) PUnit) (Φ : PUnit → sProp (MM F)) :
    iprop((K (F := F)).ctx EH (P v) κ ∗ (K (F := F)).tcSt EH d 0 ∗ someWm ∗ ins v d fullShare
        ∗ (outKLoc d ↦{fullShare} v.oldK d) ∗ (outVLoc d ↦{fullShare} v.oldV d))
      ⊢ iprop(((K (F := F)).tcSt EH d 1 ∗ ins v d fullShare ∗ (outKLoc d ↦{fullShare} rowsOut (v.tabK d) (v.idxK d))
            ∗ (outVLoc d ↦{fullShare} rowsOut (v.tabV d) (v.idxV d))
            -∗ wp frame (wpE ((K (F := F)).defs (D (F := F))) 𝒱 (SparseCore.T d) none) Set.univ (k ⟨⟩) Φ)
          -∗ wp frame (wpE ((K (F := F)).defs (D (F := F))) 𝒱 (SparseCore.T d) none) Set.univ ((K (F := F)).run d 0 >>= k) Φ) := by
  iintro ⟨#Hctx, Hst, ⟨%ι, #HG⟩, Hins, HoK, HoV⟩ Hk
  ihave HKm := (pointsTo_castIn (emb := EW) (ιwm := ι) (E := Set.univ) (ℓ := outKLoc d) (I := Finset.univ) (f := v.oldK d)
    (fun i => some (rowsOut (v.tabK d) (v.idxK d) i))) $$ [HoK]
  · isplitr; · iexact HG
    iexact HoK
  ihave HVm := (pointsTo_castIn (emb := EW) (ιwm := ι) (E := Set.univ) (ℓ := outVLoc d) (I := Finset.univ) (f := v.oldV d)
    (fun i => some (rowsOut (v.tabV d) (v.idxV d) i))) $$ [HoV]
  · isplitr; · iexact HG
    iexact HoV
  imod HKm with HKm
  imod HVm with HVm
  rw [wp_bind]
  iapply ((K (F := F)).wp_run (D (F := F)) 𝒱 (EH := EH) (P := P v) κ d 0) $$ [Hst Hins HKm HVm Hk]
  isplitr; · iexact Hctx
  isplitl [Hst]; · iexact Hst
  isplitl [Hins HKm HVm]
  · iapply (Entails.of_eq (st_eq v d).symm)
    iapply (cores_whole v d ∅).2
    isplitl [Hins]; · iexact Hins
    isplitl [HKm]; · iexact HKm
    iexact HVm
  iintro ⟨Hst, Hdn⟩
  ihave Hdn := (Entails.of_eq (dn_eq v d)) $$ Hdn
  ihave Hdn := ((cores_whole v d Finset.univ).1) $$ Hdn
  icases Hdn with ⟨Hins, HKm, HVm⟩
  ihave HoK := (willBeTo_castOut_some (emb := EW) (ιwm := ι) (E := Set.univ) (ℓ := outKLoc d) (I := Finset.univ) (f := v.oldK d)
    (g := rowsOut (v.tabK d) (v.idxK d)) (W := Finset.univ)) $$ [HKm]
  · isplitr; · iexact HG
    iexact HKm
  ihave HoV := (willBeTo_castOut_some (emb := EW) (ιwm := ι) (E := Set.univ) (ℓ := outVLoc d) (I := Finset.univ) (f := v.oldV d)
    (g := rowsOut (v.tabV d) (v.idxV d)) (W := Finset.univ)) $$ [HVm]
  · isplitr; · iexact HG
    iexact HVm
  imod HoK with HoK
  imod HoV with HoV
  ihave HoK := (Entails.of_eq (congrArg (fun g => (outKLoc d ↦{fullShare} g : sProp (MM F))) (Finset.piecewise_univ _ _))) $$ HoK
  ihave HoV := (Entails.of_eq (congrArg (fun g => (outVLoc d ↦{fullShare} g : sProp (MM F))) (Finset.piecewise_univ _ _))) $$ HoV
  iapply Hk
  isplitl [Hst]; · iexact Hst
  isplitl [Hins]; · iexact Hins
  isplitl [HoK]; · iexact HoK
  iexact HoV

/-! ## The launch's ghost element -/

def u₀ : UU F := (initOf (K (F := F)).hsCells (K (F := F)).hsToks, (wm₀ nD τ sig (Elt F), 1))

theorem someWm_intro (ι : ℕ) : (wmInv EW ι : sProp (MM F)) ⊢ someWm := by
  iintro H; iexists ι; iexact H

theorem hu₀ [∀ e, Nonempty (Elt F e)] (v : Held F) : (ownU (u₀ (F := F)) : sProp (MM F))
    ⊢ |={Set.univ}=> iprop(BI.own (EH (initOf (K (F := F)).hsCells (K (F := F)).hsToks)) ∗ (bigSep Finset.univ fun _ : Dev nD => someWm)
        ∗ bigSep Finset.univ fun thr : Thread nD τ => bigSep Finset.univ fun q : Fin 1 => (P v).x q thr) := by
  unfold u₀
  iintro Hu
  ihave H := (ownU_pair (initOf (K (F := F)).hsCells (K (F := F)).hsToks) (wm₀ nD τ sig (Elt F), (1 : Counters))) $$ Hu
  icases H with ⟨HH, HR⟩
  ihave HR := (own_pair_emb (embR : Emb (WmRA nD τ sig (Elt F) × Counters) (MM F)) (wm₀ nD τ sig (Elt F)) (1 : Counters)) $$ HR
  icases HR with ⟨HW, -⟩
  ihave HW := (Entails.of_eq (show (BI.own (((Emb.inl : Emb (WmRA nD τ sig (Elt F)) (WmRA nD τ sig (Elt F) × Counters)).trans
    (embR : Emb (WmRA nD τ sig (Elt F) × Counters) (MM F))) (wm₀ nD τ sig (Elt F))) : sProp (MM F)) = ownU (EW (wm₀ nD τ sig (Elt F))) from rfl)) $$ HW
  imod (wmInv_alloc (emb := EW) (Ix := HIx 1) (Name := ℕ) (Lvl := ℕ) ⟨fun _ _ => Classical.arbitrary _, fun _ => 0, fun _ => default⟩) $$ HW with ⟨%ι, -, #HW⟩
  imodintro
  isplitl [HH]; · iexact HH
  isplitr
  · iapply (bigSep_intro_persistent (R := (wmInv EW ι : sProp (MM F))) fun _ _ => someWm_intro ι); iexact HW
  · iapply (bigSep_intro_persistent (R := (wmInv EW ι : sProp (MM F))) fun thr _ =>
      bigSep_intro_persistent (R := (wmInv EW ι : sProp (MM F))) (Φ := fun q : Fin 1 => (P v).x q thr) fun _ _ => someWm_intro ι); iexact HW

/-! ## What the buffers hold -/

variable [FloatOps F] (m : (ℓ : Loc nD τ sig) → Buf (Elt F) ℓ) (ρ : Dev nD → PrngReg)

/-- What the buffers hold at the launch, -/
abbrev V₀ (d : Dev nD) : Valuation τ sig (Elt F) := fun b => m (d, b)
/-- when the call starts, -/
def V₁ (d : Dev nD) : Valuation τ sig (Elt F) := after opsA (V₀ m d)
/-- (the six arrays of the call,) -/
def heldOf : Held F where
  tabK d := V₁ m d (main_v20 : DevRef τ sig)
  tabV d := V₁ m d (main_v21 : DevRef τ sig)
  idxK d := V₁ m d (main_v9 : DevRef τ sig)
  idxV d := V₁ m d (main_v19 : DevRef τ sig)
  oldK d := V₁ m d (main_v22_0 : DevRef τ sig)
  oldV d := V₁ m d (main_v22_1 : DevRef τ sig)
/-- the rows it gathers, -/
abbrev rowsK (d : Dev nD) : S2048x2x128.Idx → Elt F .i32 := rowsOut ((heldOf m).tabK d) ((heldOf m).idxK d)
abbrev rowsV (d : Dev nD) : S2048x2x128.Idx → Elt F .i32 := rowsOut ((heldOf m).tabV d) ((heldOf m).idxV d)
/-- what they hold when it is over, -/
def V₂ (d : Dev nD) : Valuation τ sig (Elt F) :=
  Function.update (Function.update (V₁ m d) (main_v22_0 : DevRef τ sig) (rowsK m d)) (main_v22_1 : DevRef τ sig) (rowsV m d)
/-- and when the program ends. -/
def V₃ (d : Dev nD) : Valuation τ sig (Elt F) := after opsB (V₂ m d)

/-- The call's arrays. -/
abbrev callBufs : Finset (DevRef τ sig) :=
  {(main_v20 : DevRef τ sig), (main_v21 : DevRef τ sig), (main_v9 : DevRef τ sig), (main_v19 : DevRef τ sig), (main_v22_0 : DevRef τ sig),
    (main_v22_1 : DevRef τ sig)}

theorem callBufs_sub : callBufs ⊆ bufs := by
  intro b hb
  simp only [callBufs, Finset.mem_insert, Finset.mem_singleton] at hb
  rcases hb with h | h | h | h | h | h <;> subst h <;>
    exact Finset.mem_filter.mpr ⟨StableHlo.devRef_mem_tcRefs _, by decide⟩

theorem held_call (d : Dev nD) (V : Valuation τ sig (Elt F)) :
    (held (d.tc : Thread nD τ) callBufs V : sProp (MM F))
      = iprop((tabKLoc d ↦{fullShare} V (main_v20 : DevRef τ sig)) ∗ (tabVLoc d ↦{fullShare} V (main_v21 : DevRef τ sig))
          ∗ (idxKLoc d ↦{fullShare} V (main_v9 : DevRef τ sig)) ∗ (idxVLoc d ↦{fullShare} V (main_v19 : DevRef τ sig))
          ∗ (outKLoc d ↦{fullShare} V (main_v22_0 : DevRef τ sig)) ∗ (outVLoc d ↦{fullShare} V (main_v22_1 : DevRef τ sig))) := by
  unfold held callBufs
  rw [SparseCore.bigSep_insert' (by decide), SparseCore.bigSep_insert' (by decide), SparseCore.bigSep_insert' (by decide),
    SparseCore.bigSep_insert' (by decide), SparseCore.bigSep_insert' (by decide), bigSep_singleton]

theorem V₂_outK (d : Dev nD) : V₂ m d (main_v22_0 : DevRef τ sig) = rowsK m d := by
  unfold V₂
  rw [Function.update_of_ne (by decide), Function.update_self]
theorem V₂_outV (d : Dev nD) : V₂ m d (main_v22_1 : DevRef τ sig) = rowsV m d := by
  unfold V₂
  rw [Function.update_self]
theorem V₂_of_ne (d : Dev nD) (b : DevRef τ sig) (h : b ≠ (main_v22_0 : DevRef τ sig)) (h' : b ≠ (main_v22_1 : DevRef τ sig)) :
    V₂ m d b = V₁ m d b := by
  unfold V₂
  rw [Function.update_of_ne h', Function.update_of_ne h]

theorem held_rest (d : Dev nD) :
    (held (d.tc : Thread nD τ) (bufs \ callBufs) (V₂ m d) : sProp (MM F)) = held (d.tc : Thread nD τ) (bufs \ callBufs) (V₁ m d) :=
  StableHlo.held_congr _ fun b hb => by
    have hn := (Finset.mem_sdiff.mp hb).2
    refine V₂_of_ne m d b (fun e => hn ?_) (fun e => hn ?_) <;> subst e <;> simp [callBufs]

abbrev FIN (d : Dev nD) : sProp (MM F) := held (d.tc : Thread nD τ) bufs (V₃ m d)

theorem regroup (A B C D E G : sProp (MM F)) : iprop(A ∗ B ∗ C ∗ D ∗ E ∗ G) = iprop((A ∗ B ∗ C ∗ D) ∗ E ∗ G) := by
  have e : iprop(A ∗ B ∗ C ∗ D ∗ E ∗ G) ⊣⊢ iprop((A ∗ B ∗ C ∗ D) ∗ E ∗ G) := by
    constructor
    · iintro ⟨A, B, C, D, E, G⟩; iframe
    · iintro ⟨⟨A, B, C, D⟩, E, G⟩; iframe
  exact Entails.antisymm e.1 e.2

/-- The buffers before the call, its arrays apart, -/
theorem held_before (d : Dev nD) :
    (held (d.tc : Thread nD τ) bufs (V₁ m d) : sProp (MM F))
      = iprop((ins (heldOf m) d fullShare ∗ (outKLoc d ↦{fullShare} (heldOf m).oldK d) ∗ (outVLoc d ↦{fullShare} (heldOf m).oldV d))
          ∗ held (d.tc : Thread nD τ) (bufs \ callBufs) (V₁ m d)) := by
  rw [StableHlo.held_sub_split (d.tc : Thread nD τ) callBufs_sub (V₁ m d), held_call]
  congr 1
  exact regroup _ _ _ _ _ _

/-- and after it. -/
theorem held_after (d : Dev nD) :
    (held (d.tc : Thread nD τ) bufs (V₂ m d) : sProp (MM F))
      = iprop((ins (heldOf m) d fullShare ∗ (outKLoc d ↦{fullShare} rowsK m d) ∗ (outVLoc d ↦{fullShare} rowsV m d))
          ∗ held (d.tc : Thread nD τ) (bufs \ callBufs) (V₁ m d)) := by
  rw [StableHlo.held_sub_split (d.tc : Thread nD τ) callBufs_sub (V₂ m d), held_call, held_rest, V₂_outK, V₂_outV,
    V₂_of_ne m d (main_v20 : DevRef τ sig) (by decide) (by decide), V₂_of_ne m d (main_v21 : DevRef τ sig) (by decide) (by decide),
    V₂_of_ne m d (main_v9 : DevRef τ sig) (by decide) (by decide), V₂_of_ne m d (main_v19 : DevRef τ sig) (by decide) (by decide)]
  congr 1
  exact regroup _ _ _ _ _ _

theorem held_launch (d : Dev nD) :
    (unscopedBufs d (fun b => m ((SparseCore.T d).loc b)) : sProp (MM F)) = held (d.tc : Thread nD τ) bufs (V₀ m d) :=
  Pipeline.unscopedBufs_held (Ix := HIx 1) (Name := ℕ) (U := UU F) (Lvl := ℕ) d (V₀ m d)

theorem hmain (κ : GSem nD τ sig → ℕ) (d : Dev nD) :
    iprop((K (F := F)).ctx EH (P (heldOf m)) κ ∗ (K (F := F)).tcSt EH d 0 ∗ (K (F := F)).tcRes m ρ d ∗ someWm)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_launch, main_eq]
  iintro ⟨#Hctx, Hst, ⟨Hb, Hbufs, Hts, -⟩, HG⟩
  iapply (StableHlo.wp_seq 𝒱 none Set.univ d bufs _ opsA opsA_sub opsA_fresh (V₀ m d)) $$ [Hb Hbufs]
  · isplitl [Hb] <;> iassumption
  iintro ⟨Hb, Hbufs⟩
  ihave Hbufs := (Entails.of_eq (show (held (d.tc : Thread nD τ) bufs (after opsA (V₀ m d)) : sProp (MM F))
    = held (d.tc : Thread nD τ) bufs (V₁ m d) from rfl)) $$ Hbufs
  ihave Hbufs := (Entails.of_eq (held_before m d)) $$ Hbufs
  icases Hbufs with ⟨⟨Hins, HoK, HoV⟩, Hrest⟩
  iapply (wp_call (heldOf m) κ d) $$ [Hst HG Hins HoK HoV]
  · isplitr; · iexact Hctx
    isplitl [Hst]; · iexact Hst
    isplitl [HG]; · iexact HG
    isplitl [Hins]; · iexact Hins
    isplitl [HoK] <;> iassumption
  iintro ⟨Hst, Hins, HoK, HoV⟩
  ihave Hbufs := (Entails.of_eq (held_after m d).symm) $$ [Hins HoK HoV Hrest]
  · isplitr [Hrest]
    · isplitl [Hins]; · iexact Hins
      isplitl [HoK]; · iexact HoK
      iexact HoV
    iexact Hrest
  rw [← bind_pure (seq opsB)]
  iapply (StableHlo.wp_seq 𝒱 none Set.univ d bufs _ opsB opsB_sub opsB_fresh (V₂ m d)) $$ [Hb Hbufs]
  · isplitl [Hb]; · iexact Hb
    iexact Hbufs
  iintro ⟨Hb, Hbufs⟩
  ihave Hbufs := (Entails.of_eq (show (held (d.tc : Thread nD τ) bufs (after opsB (V₂ m d)) : sProp (MM F))
    = FIN m d from rfl)) $$ Hbufs
  rw [wp_pure]
  imodintro
  isplitl [Hst]; · iexact Hst
  isplitl [Hbufs]; · iexact Hbufs
  isplitl [Hb] <;> iassumption

/-! ## The end -/

def fq (d : Dev nD) (s' : Phys nD τ sig (Elt F)) : Prop := ∀ b ∈ bufs, s'.mem.mem (d, b) = V₃ m d b

theorem held_elim (d : Dev nD) (b : DevRef τ sig) (hb : b ∈ bufs) :
    FIN m d ⊢ (((d, b) : Loc nD τ sig) ↦{fullShare} V₃ m d b : sProp (MM F)) :=
  bigSep_elim (Φ := fun b : DevRef τ sig => (((d, b) : Loc nD τ sig) ↦{fullShare} V₃ m d b : sProp (MM F))) hb

theorem hfin (d : Dev nD) (s' : Phys nD τ sig (Elt F)) : iprop(FIN m d ∗ SI s') ⊢ (⌜fq m d s'⌝ : sProp (MM F)) := by
  have one : ∀ b ∈ bufs, iprop(FIN m d ∗ SI s') ⊢ (⌜s'.mem.mem (d, b) = V₃ m d b⌝ : sProp (MM F)) := by
    intro b hb
    iintro ⟨HF, HSI⟩
    ihave Hb := (held_elim m d b hb) $$ HF
    ihave H := (SI_pointsTo_agree (st := s') (ℓ := (d, b)) (I := Finset.univ) (q := fullShare) (f := V₃ m d b)) $$ [HSI Hb]
    · isplitl [HSI] <;> iassumption
    icases H with %h
    ipureintro; exact funext fun i => h i (Finset.mem_univ i)
  unfold fq
  exact ((forall_intro fun b => (forall_intro fun hb => one b hb).trans pure_forall.2)).trans pure_forall.2

/-- What the memory holds at the end: every buffer of the launch, `V₃`; and every counter zero. -/
def QC : PUnit × MemSt nD τ sig (Elt F) → Prop := fun r =>
  (∀ c : Dev nD, ∀ b ∈ bufs, r.2.mem (c, b) = V₃ m c b) ∧ r.2.sem = fun _ => 0

theorem run_main [∀ e, Nonempty (Elt F e)] (h : (heldOf m).InRange) :
    θ_run (defs (F := F)) (threads (F := F)) ⟨m, fun _ => 0, ρ⟩ (QC m) :=
  SparseCore.Cfg.θ_run_sc_quiescent (K := K (F := F)) (D := D (F := F)) (𝒱 := 𝒱) (EH := EH) (P := P (heldOf m)) (A := ∅) facts v₀
    (fun q hq => match q with | 0 => nomatch hq)
    (fun q _ => match q with | 0 => tileObl (heldOf m) facts h)
    (fun q _ => match q with | 0 => SparseCore.Cfg.VecSplit.of_plain (vecSplit (heldOf m)))
    m ρ main (fun _ => someWm) (FIN m) (u₀ (F := F)) (sep_elim_left.trans (hu₀ (heldOf m))) (hmain m ρ) (fq m) (hfin m) (QC m)
    (fun _ h hz => ⟨h, hz⟩)

end Cert.Proof.Rows

end
-- ==== Proof.Values.lean ====
/-
  What the program leaves, element by element: the word `2 p + h` of an index list is twice the index `p` plus `h`, so every
  word names a half row of its table, and the two half rows of a result's row are the row of the table that the index names.
-/
module

public import proofs.«01_k».proof.Proof.Launch
public import Idealize.ShloMosaic.Lib.Pipeline.Value
public import Idealize.ShloMosaic.Lib.ValueIdxCore

@[expose] public section

noncomputable section

namespace Cert.Proof.Rows

open Cert.KernelIdeal Cert.KernelIdeal.Gen

open Idealize.ShloMosaic Idealize.ShloMosaic.TcCoe Idealize.ShloMosaic.ValueIdx
open Idealize.ShloMosaic.StableHlo (after)

variable {F : FTy → Type} [FloatOps F]

/-! ## The words of an index list -/

/-- Every index of a list is below the number of rows. -/
def Named (idx : S1024.Idx → Elt F .i32) : Prop := ∀ p : Fin 1024, BitVec.toNat (idx (ix1 p)) < 4096

/-- A list as a column. -/
theorem column_apply (x : S1024.Idx → Elt F .i32) (p : Fin 1024) (u : Fin 1) :
    broadcastInDim S1024x1 ![0] bcast_S1024_S1024x1_0 x (ix2 p u) = x (ix1 p) :=
  broadcastInDim_apply _ _ _ _ _ fun a => match a with | ⟨0, _⟩ => rfl

/-- The first column, -/
theorem columns_left (a b : S1024x1.Idx → Elt F .i32) (p : Fin 1024) :
    columns (F := F) a b (ix2 p (0 : Fin 2)) = a (ix2 p (0 : Fin 1)) := by
  unfold columns
  exact concatenate_pair_apply_left (1 : Fin S1024x2.rank) a b concatenates_S1024x1_S1024x1_S1024x2_d1 (ix2 p (0 : Fin 2)) rfl (ix2 p (0 : Fin 1)) fun b => match b with | ⟨0, _⟩ => rfl | ⟨1, _⟩ => rfl
/-- and the second. -/
theorem columns_right (a b : S1024x1.Idx → Elt F .i32) (p : Fin 1024) :
    columns (F := F) a b (ix2 p (1 : Fin 2)) = b (ix2 p (0 : Fin 1)) := by
  unfold columns
  exact concatenate_pair_apply_right (1 : Fin S1024x2.rank) a b concatenates_S1024x1_S1024x1_S1024x2_d1 (ix2 p (1 : Fin 2)) rfl rfl (ix2 p (0 : Fin 1))
    (fun b hb => match b with | ⟨0, _⟩ => rfl | ⟨1, _⟩ => absurd rfl hb) rfl

/-- The word `2 p + h` stands in row `p` and column `h`. -/
theorem wordsOf_eq (idx : S1024.Idx → Elt F .i32) (p : Fin 1024) (h : Fin 2) :
    wordsOf (F := F) idx (listIx ⟨2 * p.val + h.val, by omega⟩)
      = columns (F := F) (broadcastInDim S1024x1 ![0] bcast_S1024_S1024x1_0 (muli (broadcastInDim S1024 ![] bcast_S_S1024 (constantI S_ 32 2#32)) idx))
          (broadcastInDim S1024x1 ![0] bcast_S1024_S1024x1_0
            (addi (muli (broadcastInDim S1024 ![] bcast_S_S1024 (constantI S_ 32 2#32)) idx)
              (broadcastInDim S1024 ![] bcast_S_S1024 (constantI S_ 32 1#32)))) (ix2 p h) :=
  shapeCast_apply _ _ _ _ (by
    rw [Shape.rowMajor_val_two, Shape.rowMajor_val_two]
    show p.val * 2 + h.val = 0 * 2048 + (2 * p.val + h.val)
    omega)

theorem word_zero (idx : S1024.Idx → Elt F .i32) (p : Fin 1024) :
    wordsOf (F := F) idx (listIx ⟨2 * p.val + (0 : Fin 2).val, by have := p.isLt; simp; omega⟩) = ((2#32 * idx (ix1 p) : BitVec 32) : Elt F .i32) := by
  rw [wordsOf_eq, columns_left, column_apply]
  rfl
theorem word_one (idx : S1024.Idx → Elt F .i32) (p : Fin 1024) :
    wordsOf (F := F) idx (listIx ⟨2 * p.val + (1 : Fin 2).val, by have := p.isLt; simp; omega⟩) = ((2#32 * idx (ix1 p) + 1#32 : BitVec 32) : Elt F .i32) := by
  rw [wordsOf_eq, columns_right, column_apply]
  rfl

/-- The word `2 p + h` is twice the index `p` plus `h`. -/
theorem word_toNat (idx : S1024.Idx → Elt F .i32) (hn : Named (F := F) idx) (p : Fin 1024) (h : Fin 2) :
    BitVec.toNat (wordsOf (F := F) idx (listIx ⟨2 * p.val + h.val, by omega⟩)) = 2 * BitVec.toNat (idx (ix1 p)) + h.val := by
  have hp := hn p
  match h with
  | ⟨0, _⟩ =>
    refine (congrArg BitVec.toNat (word_zero idx p)).trans ?_
    rw [BitVec.toNat_mul]
    show 2 * BitVec.toNat (idx (ix1 p)) % 4294967296 = 2 * BitVec.toNat (idx (ix1 p)) + 0
    omega
  | ⟨1, _⟩ =>
    refine (congrArg BitVec.toNat (word_one idx p)).trans ?_
    rw [BitVec.toNat_add, BitVec.toNat_mul]
    show (2 * BitVec.toNat (idx (ix1 p)) % 4294967296 + 1) % 4294967296 = 2 * BitVec.toNat (idx (ix1 p)) + 1
    omega

/-- Every word names a half row. -/
theorem words_lt (idx : S1024.Idx → Elt F .i32) (hn : Named (F := F) idx) (x : S1x2048.Idx) :
    BitVec.toNat (wordsOf (F := F) idx x) < 8192 := by
  obtain ⟨z, r, rfl⟩ : ∃ (z : Fin 1) (r : Fin 2048), x = ix2 z r := ⟨x 0, x 1, eq_ix2 x⟩
  have e : (ix2 z r : S1x2048.Idx) = listIx ⟨2 * (⟨r.val / 2, by omega⟩ : Fin 1024).val + (⟨r.val % 2, by omega⟩ : Fin 2).val, by simp; omega⟩ := by
    funext a
    match a with
    | ⟨0, _⟩ => exact Subsingleton.elim (α := Fin 1) _ _
    | ⟨1, _⟩ => refine Fin.ext ?_; show r.val = 2 * (r.val / 2) + r.val % 2; omega
  rw [e, word_toNat idx hn]
  have := hn ⟨r.val / 2, by omega⟩
  show 2 * _ + r.val % 2 < 8192
  omega

/-! ## The rows the program returns -/

/-- The rows of a table that a list of indices names. -/
def taken (tab : S4096x512.Idx → Elt F .i32) (idx : S1024.Idx → Elt F .i32) : S1024x512.Idx → Elt F .i32 :=
  fun x => tab (ix2 (Fin.ofNat 4096 (BitVec.toNat (idx (ix1 (x 0))))) (x 1))

theorem rows_taken (tab : S4096x512.Idx → Elt F .i32) (idx : S1024.Idx → Elt F .i32) (hn : Named (F := F) idx) :
    shapeCast S1024x512
        (rowsOut (F := F) (shapeCast S8192x2x128 tab shapeCasts_S4096x512_S8192x2x128) (wordsOf (F := F) idx)) shapeCasts_S2048x2x128_S1024x512
      = taken (F := F) tab idx := by
  funext x
  obtain ⟨p, c, rfl⟩ : ∃ (p : Fin 1024) (c : Fin 512), x = ix2 p c := ⟨x 0, x 1, eq_ix2 x⟩
  have hp := hn p
  have hr : 2 * p.val + c.val / 256 < 2048 := by omega
  let y : S2048x2x128.Idx := ix3 (⟨2 * p.val + c.val / 256, hr⟩ : Fin 2048) (⟨c.val % 256 / 128, by omega⟩ : Fin 2) (⟨c.val % 128, by omega⟩ : Fin 128)
  have e₁ : shapeCast S1024x512
        (rowsOut (F := F) (shapeCast S8192x2x128 tab shapeCasts_S4096x512_S8192x2x128) (wordsOf (F := F) idx)) shapeCasts_S2048x2x128_S1024x512 (ix2 p c)
      = rowsOut (F := F) (shapeCast S8192x2x128 tab shapeCasts_S4096x512_S8192x2x128) (wordsOf (F := F) idx) y :=
    shapeCast_apply _ _ _ _ (by
      rw [Shape.rowMajor_val_three, Shape.rowMajor_val_two]
      show ((2 * p.val + c.val / 256) * 2 + c.val % 256 / 128) * 128 + c.val % 128 = p.val * 512 + c.val
      omega)
  have hw : BitVec.toNat (wordsOf (F := F) idx (listIx (⟨2 * p.val + c.val / 256, hr⟩ : Fin 2048)))
      = 2 * BitVec.toNat (idx (ix1 p)) + c.val / 256 :=
    word_toNat idx hn p ⟨c.val / 256, by omega⟩
  have hrow : (rowAt (wordsOf (F := F) idx (listIx (⟨2 * p.val + c.val / 256, hr⟩ : Fin 2048)))).val = 2 * BitVec.toNat (idx (ix1 p)) + c.val / 256 :=
    (rowAt_of_lt (words_lt idx hn _)).trans hw
  rw [e₁]
  unfold rowsOut taken
  refine shapeCast_apply _ _ _ _ ?_
  rw [Shape.rowMajor_val_three, Shape.rowMajor_val_two]
  show BitVec.toNat (idx (ix1 p)) % 4096 * 512 + c.val
    = ((rowAt (wordsOf (F := F) idx (listIx (⟨2 * p.val + c.val / 256, hr⟩ : Fin 2048)))).val * 2 + c.val % 256 / 128) * 128 + c.val % 128
  rw [hrow, Nat.mod_eq_of_lt hp]
  omega

/-! ## The buffers at the end -/

variable (m : (ℓ : Loc nD τ sig) → Buf (Elt F) ℓ) (d : Dev nD)

theorem V₁_arg0 : V₁ m d (main_arg0 : DevRef τ sig) = m (d, (main_arg0 : DevRef τ sig)) := by
  unfold V₁; after_results_simp
theorem V₁_arg1 : V₁ m d (main_arg1 : DevRef τ sig) = m (d, (main_arg1 : DevRef τ sig)) := by
  unfold V₁; after_results_simp
theorem V₁_arg2 : V₁ m d (main_arg2 : DevRef τ sig) = m (d, (main_arg2 : DevRef τ sig)) := by
  unfold V₁; after_results_simp
theorem V₁_arg3 : V₁ m d (main_arg3 : DevRef τ sig) = m (d, (main_arg3 : DevRef τ sig)) := by
  unfold V₁; after_results_simp

theorem V₃_arg0 : V₃ m d (main_arg0 : DevRef τ sig) = m (d, (main_arg0 : DevRef τ sig)) := by
  refine Eq.trans ?_ ((V₂_of_ne m d _ (by decide) (by decide)).trans (V₁_arg0 m d))
  unfold V₃; after_results_simp
theorem V₃_arg1 : V₃ m d (main_arg1 : DevRef τ sig) = m (d, (main_arg1 : DevRef τ sig)) := by
  refine Eq.trans ?_ ((V₂_of_ne m d _ (by decide) (by decide)).trans (V₁_arg1 m d))
  unfold V₃; after_results_simp
theorem V₃_arg2 : V₃ m d (main_arg2 : DevRef τ sig) = m (d, (main_arg2 : DevRef τ sig)) := by
  refine Eq.trans ?_ ((V₂_of_ne m d _ (by decide) (by decide)).trans (V₁_arg2 m d))
  unfold V₃; after_results_simp
theorem V₃_arg3 : V₃ m d (main_arg3 : DevRef τ sig) = m (d, (main_arg3 : DevRef τ sig)) := by
  refine Eq.trans ?_ ((V₂_of_ne m d _ (by decide) (by decide)).trans (V₁_arg3 m d))
  unfold V₃; after_results_simp

theorem V₃_v23 : V₃ m d (main_v23 : DevRef τ sig) = shapeCast S1024x512 (V₂ m d (main_v22_0 : DevRef τ sig)) shapeCasts_S2048x2x128_S1024x512 := by
  unfold V₃; after_results_simp
  rfl
theorem V₃_v24 : V₃ m d (main_v24 : DevRef τ sig) = shapeCast S1024x512 (V₂ m d (main_v22_1 : DevRef τ sig)) shapeCasts_S2048x2x128_S1024x512 := by
  unfold V₃; after_results_simp
  rfl

/-- The call's index lists and tables, in terms of the arguments. -/
theorem held_idxK : (heldOf m).idxK d = wordsOf (F := F) (m (d, (main_arg2 : DevRef τ sig))) := after_v9 (V₀ m d)
theorem held_idxV : (heldOf m).idxV d = wordsOf (F := F) (m (d, (main_arg3 : DevRef τ sig))) := after_v19 (V₀ m d)
theorem held_tabK : (heldOf m).tabK d = shapeCast S8192x2x128 (m (d, (main_arg0 : DevRef τ sig))) shapeCasts_S4096x512_S8192x2x128 := after_v20 (V₀ m d)
theorem held_tabV : (heldOf m).tabV d = shapeCast S8192x2x128 (m (d, (main_arg1 : DevRef τ sig))) shapeCasts_S4096x512_S8192x2x128 := after_v21 (V₀ m d)

/-- Indices that name rows of their tables are in range for the call, -/
theorem inRange (h : ∀ d : Dev nD, Named (F := F) (m (d, (main_arg2 : DevRef τ sig))) ∧ Named (F := F) (m (d, (main_arg3 : DevRef τ sig)))) :
    (heldOf m).InRange := by
  intro d x
  rw [held_idxK, held_idxV]
  exact ⟨words_lt _ (h d).1 x, words_lt _ (h d).2 x⟩

/-- and the results are the rows they name. -/
theorem result_k (h : Named (F := F) (m (d, (main_arg2 : DevRef τ sig)))) :
    V₃ m d (main_v23 : DevRef τ sig) = taken (F := F) (m (d, (main_arg0 : DevRef τ sig))) (m (d, (main_arg2 : DevRef τ sig))) := by
  rw [V₃_v23, V₂_outK]
  unfold rowsK
  rw [held_idxK, held_tabK]
  exact rows_taken _ _ h
theorem result_v (h : Named (F := F) (m (d, (main_arg3 : DevRef τ sig)))) :
    V₃ m d (main_v24 : DevRef τ sig) = taken (F := F) (m (d, (main_arg1 : DevRef τ sig))) (m (d, (main_arg3 : DevRef τ sig))) := by
  rw [V₃_v24, V₂_outV]
  unfold rowsV
  rw [held_idxV, held_tabV]
  exact rows_taken _ _ h

end Cert.Proof.Rows

end
-- ==== Proof.Taken.lean ====
/-
  The reference's result, element by element: under the precondition every index is a row of its table, so the reference's
  mask is all ones and its gather reads the row.
-/
module

public import proofs.«01_k».proof.Proof.Values
public import proofs.«01_k».proof.Proof.Gen.ReferenceIdeal.Run
public import Idealize.ShloMosaic.Lib.ReduceAll

@[expose] public section

noncomputable section

namespace Cert.Proof.Rows

open Cert.ReferenceIdeal Cert.ReferenceIdeal.Gen

open Idealize.ShloMosaic Idealize.ShloMosaic.ValueIdx Idealize.ShloMosaic.TcCoe Idealize.SL.Sem

/-- The gather of rows: row `p` of the result is the row of the table at the start index of `p`, read signed and clamped. -/
theorem gather_rows {α : Type} (x : S4096x512.Idx → α) (i : IVec S1024x1 32) (p : Fin 1024) (c : Fin 512) :
    Host.gather gather_S4096x512_S1024x1_S1024x512_1_0_n_n_0_1_1512 x i (ix2 p c)
      = x (ix2 (⟨min (i (ix2 p (0 : Fin 1))).toInt.toNat 4095, by omega⟩ : Fin 4096) c) := by
  unfold Host.gather
  congr 1
  funext a
  refine Fin.ext ?_
  set D := gather_S4096x512_S1024x1_S1024x512_1_0_n_n_0_1_1512 with hD
  show D.start (ix2 p c) i a + D.batchCoord (ix2 p c) a + D.offCoord (ix2 p c) a = _
  rw [GatherDims.batchCoord_eq_zero _ _ _ (fun h => by rw [hD] at h; exact List.not_mem_nil h)]
  match a with
  | ⟨0, _⟩ =>
    have h0 : D.start (ix2 p c) i (0 : Fin 2) = min (i (ix2 p (0 : Fin 1))).toInt.toNat 4095 := by
      unfold GatherDims.start
      rw [dif_pos (show (0 : Fin 2) ∈ D.startIndexMap from List.mem_singleton.mpr rfl)]
      have hsi : D.siIdx (ix2 p c) ⟨List.idxOf (0 : Fin 2) D.startIndexMap,
          List.idxOf_lt_length_iff.2 (List.mem_singleton.mpr rfl)⟩ = ix2 p (0 : Fin 1) := by
        funext b; refine Fin.ext ?_
        match b with
        | ⟨0, _⟩ => rfl
        | ⟨1, _⟩ => rfl
      exact congrArg (fun k => min (i k).toInt.toNat 4095) hsi
    have h1 : D.offCoord (ix2 p c) (0 : Fin 2) = 0 :=
      GatherDims.offCoord_eq_zero _ _ _ (fun h => ((GatherDims.mem_sKept _ _).mp h).1 (List.mem_singleton.mpr rfl))
    show D.start (ix2 p c) i (0 : Fin 2) + 0 + D.offCoord (ix2 p c) (0 : Fin 2) = min (i (ix2 p (0 : Fin 1))).toInt.toNat 4095
    rw [h0, h1]; rfl
  | ⟨1, _⟩ =>
    have h0 : D.start (ix2 p c) i (1 : Fin 2) = 0 := by
      unfold GatherDims.start
      rw [dif_neg (show (1 : Fin 2) ∉ D.startIndexMap from by rw [hD]; decide)]
    have h1 : D.offCoord (ix2 p c) (1 : Fin 2) = c.val := rfl
    show D.start (ix2 p c) i (1 : Fin 2) + 0 + D.offCoord (ix2 p c) (1 : Fin 2) = c.val
    rw [h0, h1]; omega

/-- The reference's start indices, -/
abbrev starts (idx : IVec S1024 32) : IVec S1024x1 32 :=
  broadcastInDim S1024x1 ![0] bcast_S1024_S1024x1_0 (select (cmpi .slt idx (broadcastInDim S1024 ![] bcast_S_S1024 (constantI S_ 32 0#32)))
    (addi idx (broadcastInDim S1024 ![] bcast_S_S1024 (constantI S_ 32 4096#32))) idx)

/-- each the index itself, -/
theorem starts_apply (idx : IVec S1024 32) (hn : ∀ p : Fin 1024, (idx (ix1 p)).toNat < 4096) (p : Fin 1024) (u : Fin 1) :
    starts idx (ix2 p u) = idx (ix1 p) := by
  have hp := hn p
  refine (broadcastInDim_apply _ _ _ _ (ix1 p) fun a => match a with | ⟨0, _⟩ => rfl).trans ?_
  show (if (BitVec.ofBool ((idx (ix1 p)).slt 0#32)) = 1#1 then idx (ix1 p) + 4096#32 else idx (ix1 p)) = idx (ix1 p)
  rw [if_neg]
  intro h
  have e : (idx (ix1 p)).slt 0#32 = true := by
    cases hb : (idx (ix1 p)).slt 0#32
    · rw [hb] at h; exact absurd h (by decide)
    · rfl
  simp only [BitVec.slt_eq_decide, decide_eq_true_eq, BitVec.toInt_eq_toNat_cond, BitVec.toNat_ofNat, Nat.reducePow, Nat.reduceMod] at e
  omega

/-- and within the bounds that the mask asks for. -/
theorem mask_apply (idx : IVec S1024 32) (hn : ∀ p : Fin 1024, (idx (ix1 p)).toNat < 4096) (x : S1024x1.Idx) :
    andi (cmpi .sge (starts idx) (broadcastInDim S1024x1 ![] bcast_S_S1024x1 (constantI S_ 32 0#32)))
      (cmpi .sle (starts idx) (broadcastInDim S1024x1 ![0, 1] bcast_S1x1_S1024x1_0_1 (broadcastInDim S1x1 ![1] bcast_S1_S1x1_1 (constantI S1 32 4095#32)))) x
      = 1#1 := by
  obtain ⟨p, u, rfl⟩ : ∃ (p : Fin 1024) (u : Fin 1), x = ix2 p u := ⟨x 0, x 1, eq_ix2 x⟩
  have hp := hn p
  show BitVec.ofBool (BitVec.sle 0#32 (starts idx (ix2 p u))) &&& BitVec.ofBool (BitVec.sle (starts idx (ix2 p u)) 4095#32) = 1#1
  rw [starts_apply idx hn]
  have e₁ : BitVec.sle 0#32 (idx (ix1 p)) = true := by
    simp only [BitVec.sle_eq_decide, decide_eq_true_eq, BitVec.toInt_eq_toNat_cond, BitVec.toNat_ofNat, Nat.reducePow, Nat.reduceMod]
    omega
  have e₂ : BitVec.sle (idx (ix1 p)) 4095#32 = true := by
    simp only [BitVec.sle_eq_decide, decide_eq_true_eq, BitVec.toInt_eq_toNat_cond, BitVec.toNat_ofNat, Nat.reducePow, Nat.reduceMod]
    omega
  rw [e₁, e₂]; rfl

/-- The reference's result is the rows the indices name. -/
theorem reference_taken {F : FTy → Type} [FloatOps F] (tab : S4096x512.Idx → Elt F .i32) (idx : S1024.Idx → Elt F .i32) (hn : Named (F := F) idx) :
    (select (broadcastInDim S1024x512 ![0] bcast_S1024_S1024x512_0
        (Host.reduce IntOp.andi
          (andi (cmpi .sge (starts idx) (broadcastInDim S1024x1 ![] bcast_S_S1024x1 (constantI S_ 32 0#32)))
            (cmpi .sle (starts idx) (broadcastInDim S1024x1 ![0, 1] bcast_S1x1_S1024x1_0_1 (broadcastInDim S1x1 ![1] bcast_S1_S1x1_1 (constantI S1 32 4095#32)))))
          (constantI S_ 1 1#1) reducesTo_S1024x1_S1024_d1 h_S_))
      (Host.gather gather_S4096x512_S1024x1_S1024x512_1_0_n_n_0_1_1512 tab (starts idx))
      (broadcastInDim S1024x512 ![] bcast_S_S1024x512 (constantI S_ 32 2147483648#32)) : S1024x512.Idx → Elt F .i32)
      = taken (F := F) tab idx := by
  funext x
  obtain ⟨p, c, rfl⟩ : ∃ (p : Fin 1024) (c : Fin 512), x = ix2 p c := ⟨x 0, x 1, eq_ix2 x⟩
  have hp : (idx (ix1 p) : BitVec 32).toNat < 4096 := hn p
  refine (if_pos (Host.reduce_andi_one _ _ _ _ _ rfl (mask_apply idx hn))).trans ?_
  rw [gather_rows]
  unfold taken
  refine congrArg (fun r : Fin 4096 => tab (ix2 r c)) (Fin.ext ?_)
  show min (starts idx (ix2 p (0 : Fin 1))).toInt.toNat 4095 = (idx (ix1 p) : BitVec 32).toNat % 4096
  rw [starts_apply idx hn]
  show min (idx (ix1 p) : BitVec 32).toInt.toNat 4095 = (idx (ix1 p) : BitVec 32).toNat % 4096
  rw [BitVec.toInt_eq_toNat_cond]
  simp only [Nat.reducePow]
  split <;> omega

/-! ## The reference's run -/

/-- What the reference leaves: the rows that the indices name, its arguments, every counter zero. -/
theorem run_reference {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        (Named (F := F) (m ((c.tc : Thread nD τ).loc main_arg2)) →
          r.2.mem ((c.tc : Thread nD τ).loc main_v0) = taken (F := F) (m ((c.tc : Thread nD τ).loc main_arg0)) (m ((c.tc : Thread nD τ).loc main_arg2)))
        ∧ (Named (F := F) (m ((c.tc : Thread nD τ).loc main_arg3)) →
          r.2.mem ((c.tc : Thread nD τ).loc main_v1) = taken (F := F) (m ((c.tc : Thread nD τ).loc main_arg1)) (m ((c.tc : Thread nD τ).loc main_arg3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h =>
      ⟨fun c => ⟨fun hn => (h c).1.trans (reference_taken _ _ hn), fun hn => (h c).2.1.trans (reference_taken _ _ hn), (h c).2.2⟩,
        sem_eq_zero_of_no_sems (by decide) r.2⟩)
    (Value.run m ρ)

/-! ## The precondition -/

/-- Where the precondition's vector is all ones, every index of both lists is below the number of rows. -/
theorem named_of_pre [Cert.Pre_rows_named.Facts] {F : FTy → Type} [FloatOps F] (t₀ t₁ : IVec S4096x512 32) (i₀ i₁ : IVec S1024 32)
    (h : Cert.Pre_rows_named.fn (F := F) t₀ t₁ i₀ i₁ = fun _ => 1#1) : Named (F := F) i₀ ∧ Named (F := F) i₁ := by
  have both : ∀ p : Fin 1024, (i₀ (ix1 p)).toNat < 4096 ∧ (i₁ (ix1 p)).toNat < 4096 := by
    intro p
    have e : (BitVec.ofBool (BitVec.sle 0#32 (i₀ (ix1 p))) &&& BitVec.ofBool (BitVec.slt (i₀ (ix1 p)) 4096#32)
        &&& BitVec.ofBool (BitVec.sle 0#32 (i₁ (ix1 p))) &&& BitVec.ofBool (BitVec.slt (i₁ (ix1 p)) 4096#32)) = 1#1 := congrFun h (ix1 p)
    have split : ∀ a b c d : Bool, (BitVec.ofBool a &&& BitVec.ofBool b &&& BitVec.ofBool c &&& BitVec.ofBool d) = 1#1 → a = true ∧ b = true ∧ c = true ∧ d = true := by
      decide
    obtain ⟨h₁, h₂, h₃, h₄⟩ := split _ _ _ _ e
    simp only [BitVec.sle_eq_decide, BitVec.slt_eq_decide, decide_eq_true_eq, BitVec.toInt_eq_toNat_cond, BitVec.toNat_ofNat, Nat.reducePow, Nat.reduceMod] at h₁ h₂ h₃ h₄
    omega
  exact ⟨fun p => (both p).1, fun p => (both p).2⟩

end Cert.Proof.Rows

end
-- ==== Proof.CompressValue.lean ====
/-
  The compression call, read: what its two result arrays hold after the run, over the extended reals, and that the plain
  matrix product of the reference holds the same.
-/
module

public import proofs.«01_k».proof.Proof.Gen.CompressIdeal.Value
public import proofs.«01_k».proof.Proof.Gen.CompressReferenceIdeal.Run
public import Idealize.ShloMosaic.Lib.Pipeline.ValueKit
public import Idealize.ShloMosaic.Lib.Pipeline.ValueKit.Acc
public import Idealize.ShloMosaic.Lib.Pointwise.Tactic
public import Idealize.ShloMosaic.Lib.Pointwise.Sums
public import Idealize.ShloMosaic.Lib.Tactic

@[expose] public section

noncomputable section

open Idealize.ShloMosaic Idealize.ShloMosaic.TcCoe Idealize.SL.Sem
open Idealize.ShloMosaic.Pipeline (Dat)

namespace Cert.CompressIdeal.Read

open Cert.CompressIdeal Cert.CompressIdeal.Gen

variable (m : (ℓ : Loc nD τ sig) → Buf (Elt Ideal) ℓ) (ρ : Dev nD → PrngReg)

/-- The product of a block of rows and a block of the matrix. -/
def part (w : Vec Ideal S1024x2048 .f32) (x : Vec Ideal S128x2048 .bf16) : S128x1024.Idx → EReal :=
  fun j => ∑ k : Fin 2048, x (ix2 (j 0) k) * w (ix2 (j 1) k)

theorem part_apply (w : Vec Ideal S1024x2048 .f32) (x : Vec Ideal S128x2048 .bf16) (r : Fin 128) (d : Fin 1024) :
    part w x (ix2 r d) = ∑ k : Fin 2048, x (ix2 r k) * w (ix2 d k) := rfl
theorem pay_k (w : Vec Ideal S1024x2048 .f32) (x : Vec Ideal S128x2048 .bf16) : k0_pay2 (F := Ideal) w x = part w x := by
  funext j
  simp only [k0_pay2, k0_pay1, pointwise, part, zero_add]
theorem pay_v (w : Vec Ideal S1024x2048 .f32) (x : Vec Ideal S128x2048 .bf16) : k0_pay3 (F := Ideal) w x = part w x := by
  funext j
  simp only [k0_pay3, k0_pay1, pointwise, part, zero_add]
theorem step_k (w : Vec Ideal S1024x2048 .f32) (x : Vec Ideal S128x2048 .bf16) (a : Vec Ideal S128x1024 .f32) (j : S128x1024.Idx) :
    k0_pay4 (F := Ideal) w x a j = a j + part w x j := by
  unfold k0_pay4
  rw [pay_k]
  simp only [pointwise]
theorem step_v (w : Vec Ideal S1024x2048 .f32) (x : Vec Ideal S128x2048 .bf16) (a : Vec Ideal S128x1024 .f32) (j : S128x1024.Idx) :
    k0_pay5 (F := Ideal) w x a j = a j + part w x j := by
  unfold k0_pay5
  rw [pay_v]
  simp only [pointwise]
theorem bias_k (x : Vec Ideal S128x1024 .f32) (b : Vec Ideal S1x1024 .f32) (r : Fin 128) (d : Fin 1024) :
    k0_pay6 (F := Ideal) x b (ix2 r d) = x (ix2 r d) + b (ix2 0 d) := by
  simp [k0_pay6, pointwise]
theorem bias_v (x : Vec Ideal S128x1024 .f32) (b : Vec Ideal S1x1024 .f32) (r : Fin 128) (d : Fin 1024) :
    k0_pay7 (F := Ideal) x b (ix2 r d) = x (ix2 r d) + b (ix2 0 d) := by
  simp [k0_pay7, pointwise]

/-- The points' blocks of the inputs, at their coordinates in the arrays. -/
theorem index0 : ∀ t : Fin cfg0.N, win0_0.index t = ![0, t.val] := (by decide +kernel : ∀ t : Fin grid0.N, win0_0.index t = ![0, t.val])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, 0] := (by decide +kernel : ∀ t : Fin grid0.N, win0_3.index t = ![0, 0])

/-- Where point `t`'s `k`-th place of the long axis lies. -/
def at_ (t : Fin cfg0.N) (k : Fin 2048) : Fin 32768 :=
  ⟨t.val * 2048 + k.val, by have := t.isLt; have := k.isLt; have : cfg0.N = 16 := N_0; omega⟩

theorem iblk0 (c : Dev nD) (t : Fin cfg0.N) (r : Fin 128) (k : Fin 2048) :
    iblk m c 0 t (ix2 r k) = V m c main_v0 (ix2 r (at_ t k)) := by
  blk_simp [iblk]
  refine congrArg _ ?_
  blk_ext [index0, at_]
theorem iblk1 (c : Dev nD) (t : Fin cfg0.N) (r : Fin 128) (k : Fin 2048) :
    iblk m c 1 t (ix2 r k) = V m c main_v1 (ix2 r (at_ t k)) := by
  blk_simp [iblk]
  refine congrArg _ ?_
  blk_ext [index1, at_]
theorem iblk2 (c : Dev nD) (t : Fin cfg0.N) (r : Fin 1024) (k : Fin 2048) :
    iblk m c 2 t (ix2 r k) = V m c main_arg2 (ix2 r (at_ t k)) := by
  blk_simp [iblk]
  refine congrArg _ ?_
  blk_ext [index2, at_]
theorem iblk3 (c : Dev nD) (t : Fin cfg0.N) (d : Fin 1024) :
    iblk m c 3 t (ix2 0 d) = V m c main_v2 (ix2 0 d) := by
  blk_simp [iblk]
  refine congrArg _ ?_
  blk_ext [index3]

theorem V_v0 (c : Dev nD) : V m c main_v0 = shapeCast _ (m ((c : Thread nD τ).loc main_arg0)) shapeCasts_S4096x1024_S128x32768 := by
  show StableHlo.after hostOps0 _ _ = _
  after_results
  all_goals rfl
theorem V_v1 (c : Dev nD) : V m c main_v1 = shapeCast _ (m ((c : Thread nD τ).loc main_arg1)) shapeCasts_S4096x1024_S128x32768 := by
  show StableHlo.after hostOps0 _ _ = _
  after_results
  all_goals rfl
theorem V_v2 (c : Dev nD) (d : Fin 1024) : V m c main_v2 (ix2 0 d) = m ((c : Thread nD τ).loc main_arg3) (ix1 d) := by
  show StableHlo.after hostOps0 _ _ _ = _
  after_results
  simp [pointwise]

/-- What point `t` adds to the keys' and to the values' sums. -/
def termK (c : Dev nD) (t : Fin cfg0.N) : S128x1024.Idx → EReal := part (iblk m c 2 t) (iblk m c 0 t)
def termV (c : Dev nD) (t : Fin cfg0.N) : S128x1024.Idx → EReal := part (iblk m c 2 t) (iblk m c 1 t)

theorem pts (n : ℕ) (h : n < 15) (p : Fin (n + 1)) : p.val < cfg0.N := by
  have : cfg0.N = 16 := N_0
  have := p.isLt
  omega

/-- Before the last point each block holds the sum of the products so far, -/
theorem sums (c : Dev nD) (j : S128x1024.Idx) : ∀ (n : ℕ) (h : n < 15) (h' : n < cfg0.N),
    (outsAt0 m c n h').1 j = ∑ p : Fin (n + 1), termK m c ⟨p.val, pts n h p⟩ j
    ∧ (outsAt0 m c n h').2 j = ∑ p : Fin (n + 1), termV m c ⟨p.val, pts n h p⟩ j
  | 0, h, h' => by
    rw [outsAt0_A m c ⟨0, h'⟩ rfl (by simp) (by simp)]
    constructor
    · frame_out
      rw [pay_k]
      simp [termK]
    · frame_out
      rw [pay_v]
      simp [termV]
  | n + 1, h, h' => by
    obtain ⟨e1, e2⟩ := sums c j n (by omega) (by omega)
    have hA : ¬(⟨n + 1, h'⟩ : Fin cfg0.N).val % 16 = 0 := by dsimp only; omega
    have hB : 1 ≤ (⟨n + 1, h'⟩ : Fin cfg0.N).val := by dsimp only; omega
    have hC : ¬(⟨n + 1, h'⟩ : Fin cfg0.N).val % 16 = 15 := by dsimp only; omega
    rw [outsAt0_B m c ⟨n + 1, h'⟩ hA hB hC]
    constructor
    · frame_out
      rw [step_k, Fin.sum_univ_castSucc]
      exact congrArg (· + _) e1
    · frame_out
      rw [step_v, Fin.sum_univ_castSucc]
      exact congrArg (· + _) e2

theorem last_lt : 15 < cfg0.N := by rw [show cfg0.N = 16 from N_0]; decide

/-- and after it the sum of all of them and the bias row. -/
theorem sums_last (c : Dev nD) (r : Fin 128) (d : Fin 1024) :
    (outsAt0 m c 15 last_lt).1 (ix2 r d) = (∑ p : Fin 16, termK m c (p.cast N_0.symm) (ix2 r d)) + m ((c : Thread nD τ).loc main_arg3) (ix1 d)
    ∧ (outsAt0 m c 15 last_lt).2 (ix2 r d) = (∑ p : Fin 16, termV m c (p.cast N_0.symm) (ix2 r d)) + m ((c : Thread nD τ).loc main_arg3) (ix1 d) := by
  obtain ⟨e1, e2⟩ := sums m c (ix2 r d) 14 (by decide) (Nat.lt_of_succ_lt last_lt)
  rw [outsAt0_C m c ⟨15, last_lt⟩ (by simp) (by simp) (by simp)]
  constructor
  · frame_out
    rw [bias_k, step_k, iblk3, V_v2]
    refine congrArg (fun z : EReal => z + m ((c : Thread nD τ).loc main_arg3) (ix1 d)) ?_
    refine Eq.trans ?_ (Fin.sum_univ_castSucc (n := 15) fun p => termK m c (p.cast N_0.symm) (ix2 r d)).symm
    exact congrArg (fun z : EReal => z + termK m c ⟨15, last_lt⟩ (ix2 r d)) e1
  · frame_out
    rw [bias_v, step_v, iblk3, V_v2]
    refine congrArg (fun z : EReal => z + m ((c : Thread nD τ).loc main_arg3) (ix1 d)) ?_
    refine Eq.trans ?_ (Fin.sum_univ_castSucc (n := 15) fun p => termV m c (p.cast N_0.symm) (ix2 r d)).symm
    exact congrArg (fun z : EReal => z + termV m c ⟨15, last_lt⟩ (ix2 r d)) e2

/-- The compressed block of a table: one product over the whole long axis, and the bias row. -/
def compressed (x : S4096x1024.Idx → EReal) (w : S1024x32768.Idx → EReal) (b : S1024.Idx → EReal) : S128x1024.Idx → EReal :=
  fun j => (∑ l : Fin 32768, shapeCast S128x32768 x shapeCasts_S4096x1024_S128x32768 (ix2 (j 0) l) * w (ix2 (j 1) l)) + b (ix1 (j 1))

theorem total_k (c : Dev nD) (r : Fin 128) (d : Fin 1024) : (outsAt0 m c 15 last_lt).1 (ix2 r d)
    = compressed (m ((c : Thread nD τ).loc main_arg0)) (m ((c : Thread nD τ).loc main_arg2)) (m ((c : Thread nD τ).loc main_arg3)) (ix2 r d) := by
  rw [(sums_last m c r d).1]
  refine congrArg (fun z : EReal => z + m ((c : Thread nD τ).loc main_arg3) (ix1 d)) ?_
  refine Eq.trans ?_ (Fin.sum_univ_tiles (M := EReal) 16 2048 (N := 32768) rfl _).symm
  refine Finset.sum_congr rfl fun p _ => ?_
  refine (part_apply (iblk m c 2 (p.cast N_0.symm)) (iblk m c 0 (p.cast N_0.symm)) r d).trans ?_
  refine Finset.sum_congr rfl fun k _ => ?_
  rw [iblk0, iblk2, V_v0, V_main_arg2]
  rfl
theorem total_v (c : Dev nD) (r : Fin 128) (d : Fin 1024) : (outsAt0 m c 15 last_lt).2 (ix2 r d)
    = compressed (m ((c : Thread nD τ).loc main_arg1)) (m ((c : Thread nD τ).loc main_arg2)) (m ((c : Thread nD τ).loc main_arg3)) (ix2 r d) := by
  rw [(sums_last m c r d).2]
  refine congrArg (fun z : EReal => z + m ((c : Thread nD τ).loc main_arg3) (ix1 d)) ?_
  refine Eq.trans ?_ (Fin.sum_univ_tiles (M := EReal) 16 2048 (N := 32768) rfl _).symm
  refine Finset.sum_congr rfl fun p _ => ?_
  refine (part_apply (iblk m c 2 (p.cast N_0.symm)) (iblk m c 1 (p.cast N_0.symm)) r d).trans ?_
  refine Finset.sum_congr rfl fun k _ => ?_
  rw [iblk1, iblk2, V_v1, V_main_arg2]
  rfl

theorem final_k (c : Dev nD) : (dats m 0 c).arrAt 4 cfg0.N
    = compressed (m ((c : Thread nD τ).loc main_arg0)) (m ((c : Thread nD τ).loc main_arg2)) (m ((c : Thread nD τ).loc main_arg3)) := by
  refine (dats m 0 c).arrAt_eq_of_after_last 4 (⟨15, last_lt⟩ : Fin cfg0.N) (by decide +kernel) _ fun j => ?_
  rw [after0_4]
  obtain ⟨r, d, rfl⟩ : ∃ (r : Fin 128) (d : Fin 1024), j = ix2 r d := ⟨j 0, j 1, by funext a; fin_cases a <;> rfl⟩
  exact total_k m c r d
theorem final_v (c : Dev nD) : (dats m 0 c).arrAt 5 cfg0.N
    = compressed (m ((c : Thread nD τ).loc main_arg1)) (m ((c : Thread nD τ).loc main_arg2)) (m ((c : Thread nD τ).loc main_arg3)) := by
  refine (dats m 0 c).arrAt_eq_of_after_last 5 (⟨15, last_lt⟩ : Fin cfg0.N) (by decide +kernel) _ fun j => ?_
  rw [after0_5]
  obtain ⟨r, d, rfl⟩ : ∃ (r : Fin 128) (d : Fin 1024), j = ix2 r d := ⟨j 0, j 1, by funext a; fin_cases a <;> rfl⟩
  exact total_v m c r d

end Cert.CompressIdeal.Read

namespace Cert.CompressReferenceIdeal.Read

open Cert.CompressReferenceIdeal Cert.CompressReferenceIdeal.Gen

/-- The reference's matrix product and its bias row are the same sums. -/
theorem value (x : S4096x1024.Idx → EReal) (w : S1024x32768.Idx → EReal) (b : S1024.Idx → EReal) :
    addf (F := Ideal) (φ := .f32) (Host.dotGeneral (F := Ideal) (φ₁ := .f32) (φ₂ := .f32) dot_S128x32768_S32768x1024_S128x1024_1_0_0_1_n_n none (shapeCast _ (extf (F := Ideal) (φ := .bf16) .f32 x bitsLt_bf16_f32) shapeCasts_S4096x1024_S128x32768) (transpose S32768x1024 [1, 0] w transposes_S1024x32768_S32768x1024_1_0)) (broadcastInDim S128x1024 ![0, 1] bcast_S1x1024_S128x1024_0_1 (broadcastInDim S1x1024 ![1] bcast_S1024_S1x1024_1 b))
      = CompressIdeal.Read.compressed x w b := by
  funext j
  obtain ⟨r, d, rfl⟩ : ∃ (r : Fin 128) (d : Fin 1024), j = ix2 r d := ⟨j 0, j 1, by funext a; fin_cases a <;> rfl⟩
  show _ = (∑ l : Fin 32768, shapeCast S128x32768 x _ (ix2 r l) * w (ix2 d l)) + b (ix1 d)
  simp [pointwise]

end Cert.CompressReferenceIdeal.Read

end
-- ==== Proof.CompressClaims.lean ====
/-
  The compression call: its claims, from what it leaves (Proof/CompressValue.lean).
-/
module

public import proofs.«01_k».proof.Defs
public import proofs.«01_k».proof.Proof.Gen.Compress
public import proofs.«01_k».proof.Proof.Gen.CompressIdeal
public import proofs.«01_k».proof.Proof.Gen.CompressReferenceIdeal
public import proofs.«01_k».proof.Proof.CompressValue
public import Idealize.ShloMosaic.Lib.Quiescent

@[expose] public section

noncomputable section

namespace Cert.Proof.Compress

open Idealize.ShloMosaic Idealize.ShloMosaic.TcCoe Idealize.SL.Sem

/-- The two printings of the program are one. -/
theorem bodies_eq : Cert.Compress.defs₀ (F := Bits) = Cert.CompressIdeal.defs₀ (F := Bits) := by
  unfold Cert.Compress.defs₀ Cert.CompressIdeal.defs₀
  refine congrArg _ (funext fun l => ?_)
  match l with
  | 0 => rfl
  | ⟨_ + 1, h⟩ => exact absurd h (Nat.not_lt.2 (Nat.le_add_left _ _))

theorem defs_eq : Cert.Compress.defs (F := Bits) = Cert.CompressIdeal.defs (F := Bits) :=
  congrArg (Pipeline.defs (Cert.CompressIdeal.pcfgs (F := Bits))) bodies_eq

/-- The run at the machine's words, -/
theorem frame_bits : Cert.quiescent_Compress := fun m ρ _ =>
  (congrArg (fun δ => θ_run δ (onTc (τ := Cert.CompressIdeal.τ) (Cert.CompressIdeal.main (F := Bits))) ⟨m, fun _ => 0, ρ⟩ _) defs_eq).mpr
    (Cert.CompressIdeal.Gen.frame (F := Bits) m ρ)

/-- and at the extended reals. -/
theorem frame_ideal : Cert.quiescent_CompressIdeal := fun m ρ _ => Cert.CompressIdeal.Gen.frame (F := Ideal) m ρ

theorem frame_reference : Cert.quiescent_CompressReferenceIdeal := fun m ρ _ =>
  (θ_run Cert.CompressReferenceIdeal.defs _ _).mono
    (fun r hr => ⟨fun c => (hr c).2.2, sem_eq_zero_of_no_sems (by decide) r.2⟩)
    (Cert.CompressReferenceIdeal.Value.run (F := Ideal) m ρ)

/-- No operation was rewritten. -/
theorem preserves : Cert.preserves_Compress_CompressIdeal := trivial

theorem algebraic : Cert.algebraic_CompressIdeal_CompressReferenceIdeal := by
  intro m ρ m' ρ' _ hargs
  refine ⟨fun c => Cert.CompressIdeal.Read.compressed (m ((c.tc : Thread Cert.CompressIdeal.nD Cert.CompressIdeal.τ).loc Cert.CompressIdeal.main_arg0))
      (m ((c.tc : Thread Cert.CompressIdeal.nD Cert.CompressIdeal.τ).loc Cert.CompressIdeal.main_arg2))
      (m ((c.tc : Thread Cert.CompressIdeal.nD Cert.CompressIdeal.τ).loc Cert.CompressIdeal.main_arg3)),
    fun c => Cert.CompressIdeal.Read.compressed (m ((c.tc : Thread Cert.CompressIdeal.nD Cert.CompressIdeal.τ).loc Cert.CompressIdeal.main_arg1))
      (m ((c.tc : Thread Cert.CompressIdeal.nD Cert.CompressIdeal.τ).loc Cert.CompressIdeal.main_arg2))
      (m ((c.tc : Thread Cert.CompressIdeal.nD Cert.CompressIdeal.τ).loc Cert.CompressIdeal.main_arg3)),
    (θ_run Cert.CompressIdeal.defs _ _).mono (fun _ hr c => ⟨(hr c).1.trans (Cert.CompressIdeal.Read.final_k m c),
      (hr c).2.1.trans (Cert.CompressIdeal.Read.final_v m c), (hr c).2.2⟩) (Cert.CompressIdeal.Value.run_blocks (F := Ideal) m ρ),
    (θ_run Cert.CompressReferenceIdeal.defs _ _).mono (fun _ hr c => ⟨?_, ?_, (hr c).2.2⟩) (Cert.CompressReferenceIdeal.Value.run (F := Ideal) m' ρ')⟩
  · obtain ⟨e₀, e₁, e₂, e₃⟩ := hargs c
    refine ((hr c).1.trans (Cert.CompressReferenceIdeal.Read.value _ _ _)).trans ?_
    rw [e₀, e₂, e₃]
  · obtain ⟨e₀, e₁, e₂, e₃⟩ := hargs c
    refine ((hr c).2.1.trans (Cert.CompressReferenceIdeal.Read.value _ _ _)).trans ?_
    rw [e₁, e₂, e₃]

end Cert.Proof.Compress

end
-- ==== Proof.ProjectValue.lean ====
/-
  The projection call, read: what its four result arrays hold after the run, over the extended reals, and that the plain
  products of the reference hold the same.
-/
module

public import proofs.«01_k».proof.Proof.Gen.ProjectIdeal.Value
public import proofs.«01_k».proof.Proof.Gen.ProjectReferenceIdeal.Run
public import Idealize.ShloMosaic.Lib.Pipeline.ValueKit
public import Idealize.ShloMosaic.Lib.Pipeline.ValueKit.Acc
public import Idealize.ShloMosaic.Lib.Pointwise.Tactic
public import Idealize.ShloMosaic.Lib.Pointwise.Sums
public import Idealize.ShloMosaic.Lib.Tactic

@[expose] public section

noncomputable section

open Idealize.ShloMosaic Idealize.ShloMosaic.TcCoe Idealize.SL.Sem
open Idealize.ShloMosaic.Pipeline (Dat)

namespace Cert.ProjectIdeal.Read

open Cert.ProjectIdeal Cert.ProjectIdeal.Gen

variable (m : (ℓ : Loc nD τ sig) → Buf (Elt Ideal) ℓ) (ρ : Dev nD → PrngReg)

/-! ## The projections, of all rows -/

/-- The keys' and the values' places among the projections. -/
def keyAt (d : Fin 1024) : Fin 3072 := ⟨1024 + d.val, by omega⟩
def valueAt (d : Fin 1024) : Fin 3072 := ⟨2048 + d.val, by omega⟩
def queryAt (d : Fin 1024) : Fin 3072 := ⟨d.val, by omega⟩

/-- Row `r` of the input, projected to place `e`. -/
def proj (x : S2x2048x1024.Idx → EReal) (w : S3072x1024.Idx → EReal) (b : S3072.Idx → EReal) (r : Fin 4096) (e : Fin 3072) : EReal :=
  (∑ k : Fin 1024, shapeCast S4096x1024 x shapeCasts_S2x2048x1024_S4096x1024 (ix2 r k) * w (ix2 e k)) + b (ix1 e)

def queries (x : S2x2048x1024.Idx → EReal) (w : S3072x1024.Idx → EReal) (b : S3072.Idx → EReal) : S4096x1024.Idx → EReal :=
  fun j => proj x w b (j 0) (queryAt (j 1)) * (FloatOps.ofBits .f32 0x3D000000#32 : Ideal .f32)
def keys (x : S2x2048x1024.Idx → EReal) (w : S3072x1024.Idx → EReal) (b : S3072.Idx → EReal) : S4096x1024.Idx → EReal :=
  fun j => proj x w b (j 0) (keyAt (j 1))
def values (x : S2x2048x1024.Idx → EReal) (w : S3072x1024.Idx → EReal) (b : S3072.Idx → EReal) : S4096x1024.Idx → EReal :=
  fun j => proj x w b (j 0) (valueAt (j 1))

/-- Eight words of a row: two scores, three gates, and zeros. -/
def eight (u v : EReal) (g : Fin 3 → EReal) (d : Fin 8) : EReal :=
  if d = 0 then u else if d.val - 1 = 0 then v else if h : d.val - 1 - 1 < 3 then g ⟨d.val - 1 - 1, h⟩ else 0

/-- A gate of a row. -/
def gate (x : S2x2048x1024.Idx → EReal) (g : S3x1024.Idx → EReal) (h : S3.Idx → EReal) (r : Fin 4096) (e : Fin 3) : EReal :=
  Ideal.logistic ((∑ k : Fin 1024, shapeCast S4096x1024 x shapeCasts_S2x2048x1024_S4096x1024 (ix2 r k) * g (ix2 e k)) + h (ix1 e))

def info (x : S2x2048x1024.Idx → EReal) (w : S3072x1024.Idx → EReal) (b : S3072.Idx → EReal) (s : S1x1024.Idx → EReal)
    (g : S3x1024.Idx → EReal) (h : S3.Idx → EReal) : S4096x8.Idx → EReal :=
  fun j => eight (∑ k : Fin 1024, proj x w b (j 0) (keyAt k) * s (ix2 0 k)) (∑ k : Fin 1024, proj x w b (j 0) (valueAt k) * s (ix2 0 k))
    (gate x g h (j 0)) (j 1)

theorem info_apply (x : S2x2048x1024.Idx → EReal) (w : S3072x1024.Idx → EReal) (b : S3072.Idx → EReal) (s : S1x1024.Idx → EReal)
    (g : S3x1024.Idx → EReal) (h : S3.Idx → EReal) (r : Fin 4096) (d : Fin 8) : info x w b s g h (ix2 r d)
      = eight (∑ k : Fin 1024, proj x w b r (keyAt k) * s (ix2 0 k)) (∑ k : Fin 1024, proj x w b r (valueAt k) * s (ix2 0 k))
          (gate x g h r) d := rfl

/-! ## The body's payloads at an index -/

theorem pay3 (x : Vec Ideal S512x1024 .f32) (w : Vec Ideal S3072x1024 .bf16) (b : Vec Ideal S1x3072 .f32) (r : Fin 512) (e : Fin 3072) :
    k0_pay3 (F := Ideal) x w b (ix2 r e) = (∑ k : Fin 1024, x (ix2 r k) * w (ix2 e k)) + b (ix2 0 e) := by
  simp [k0_pay3, k0_pay2, pointwise]
theorem pay4 (x : Vec Ideal S512x1024 .f32) (w : Vec Ideal S3072x1024 .bf16) (b : Vec Ideal S1x3072 .f32) (r : Fin 512) (d : Fin 1024) :
    k0_pay4 (F := Ideal) x w b (ix2 r d) = k0_pay3 (F := Ideal) x w b (ix2 r (keyAt d)) := by
  simp [k0_pay4, pointwise, keyAt]
theorem pay5 (x : Vec Ideal S512x1024 .f32) (w : Vec Ideal S3072x1024 .bf16) (b : Vec Ideal S1x3072 .f32) (r : Fin 512) (d : Fin 1024) :
    k0_pay5 (F := Ideal) x w b (ix2 r d) = k0_pay3 (F := Ideal) x w b (ix2 r (valueAt d)) := by
  simp [k0_pay5, pointwise, valueAt]
theorem pay6 (x : Vec Ideal S512x1024 .f32) (w : Vec Ideal S3072x1024 .bf16) (b : Vec Ideal S1x3072 .f32) (r : Fin 512) (d : Fin 1024) :
    k0_pay6 (F := Ideal) x w b (ix2 r d) = k0_pay3 (F := Ideal) x w b (ix2 r (queryAt d)) * (FloatOps.ofBits .f32 0x3D000000#32 : Ideal .f32) := by
  simp [k0_pay6, pointwise, queryAt]
theorem pay8 (x : Vec Ideal S512x1024 .f32) (w : Vec Ideal S3072x1024 .bf16) (b : Vec Ideal S1x3072 .f32) (s : Vec Ideal S1x1024 .f32) (r : Fin 512) :
    k0_pay8 (F := Ideal) x w b s (ix2 r 0) = ∑ k : Fin 1024, k0_pay3 (F := Ideal) x w b (ix2 r (keyAt k)) * s (ix2 0 k) := by
  simp [k0_pay8, k0_pay7, pointwise, pay4]
theorem pay9 (x : Vec Ideal S512x1024 .f32) (w : Vec Ideal S3072x1024 .bf16) (b : Vec Ideal S1x3072 .f32) (s : Vec Ideal S1x1024 .f32) (r : Fin 512) :
    k0_pay9 (F := Ideal) x w b s (ix2 r 0) = ∑ k : Fin 1024, k0_pay3 (F := Ideal) x w b (ix2 r (valueAt k)) * s (ix2 0 k) := by
  simp [k0_pay9, k0_pay7, pointwise, pay5]
/-- A gate of a block's row. -/
def blockGate (x : Vec Ideal S512x1024 .f32) (g : Vec Ideal S1024x3 .f32) (h : Vec Ideal S1x3 .f32) (r : Fin 512) (e : Fin 3) : EReal :=
  Ideal.logistic ((∑ k : Fin 1024, x (ix2 r k) * g (ix2 k e)) + h (ix2 0 e))
theorem blockGate_apply (x : Vec Ideal S512x1024 .f32) (g : Vec Ideal S1024x3 .f32) (h : Vec Ideal S1x3 .f32) (r : Fin 512) (e : Fin 3) :
    blockGate x g h r e = Ideal.logistic ((∑ k : Fin 1024, x (ix2 r k) * g (ix2 k e)) + h (ix2 0 e)) := rfl
theorem pay1 (x : Vec Ideal S512x1024 .f32) (u v : Vec Ideal S512x1 .f32) (g : Vec Ideal S1024x3 .f32) (h : Vec Ideal S1x3 .f32) (r : Fin 512) (d : Fin 8) :
    k0_pay1 (F := Ideal) x u v g h (ix2 r d)
      = eight (u (ix2 r 0)) (v (ix2 r 0)) (blockGate x g h r) d := by
  have hone : ∀ (z : Vec Ideal S512x1 .f32) (a : Fin 1), z (ix2 r a) = z (ix2 r 0) := fun z a => by rw [Subsingleton.elim a 0]
  unfold eight blockGate
  simp [k0_pay1, pointwise, hone]

/-! ## The points' blocks, at their coordinates in the arrays -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])

/-- Where point `t`'s `r`-th row lies. -/
def at_ (t : Fin cfg0.N) (r : Fin 512) : Fin 4096 :=
  ⟨t.val * 512 + r.val, by have := t.isLt; have := r.isLt; have : cfg0.N = 8 := N_0; omega⟩

theorem iblk0 (c : Dev nD) (t : Fin cfg0.N) (r : Fin 512) (k : Fin 1024) :
    iblk m c 0 t (ix2 r k) = V m c main_v0 (ix2 (at_ t r) k) := by
  blk_simp [iblk]
  refine congrArg _ ?_
  blk_ext [index0, at_]
theorem iblk1 (c : Dev nD) (t : Fin cfg0.N) (e : Fin 3072) (k : Fin 1024) :
    iblk m c 1 t (ix2 e k) = V m c main_v1 (ix2 e k) := by
  blk_simp [iblk]
  refine congrArg _ ?_
  blk_ext [index1]
theorem iblk2 (c : Dev nD) (t : Fin cfg0.N) (e : Fin 3072) :
    iblk m c 2 t (ix2 0 e) = V m c main_v2 (ix2 0 e) := by
  blk_simp [iblk]
  refine congrArg _ ?_
  blk_ext [index2]
theorem iblk3 (c : Dev nD) (t : Fin cfg0.N) (k : Fin 1024) (e : Fin 3) :
    iblk m c 3 t (ix2 k e) = V m c main_v3 (ix2 k e) := by
  blk_simp [iblk]
  refine congrArg _ ?_
  blk_ext [index3]
theorem iblk4 (c : Dev nD) (t : Fin cfg0.N) (e : Fin 3) :
    iblk m c 4 t (ix2 0 e) = V m c main_v4 (ix2 0 e) := by
  blk_simp [iblk]
  refine congrArg _ ?_
  blk_ext [index4]
theorem iblk5 (c : Dev nD) (t : Fin cfg0.N) (k : Fin 1024) :
    iblk m c 5 t (ix2 0 k) = V m c main_arg3 (ix2 0 k) := by
  blk_simp [iblk]
  refine congrArg _ ?_
  blk_ext [index5]

/-! ## The arrays that the host code writes -/

theorem V_v0 (c : Dev nD) : V m c main_v0 = shapeCast _ (m ((c : Thread nD τ).loc main_arg0)) shapeCasts_S2x2048x1024_S4096x1024 := by
  show StableHlo.after hostOps0 _ _ = _
  after_results
  all_goals rfl
theorem V_v1 (c : Dev nD) (e : Fin 3072) (k : Fin 1024) : V m c main_v1 (ix2 e k) = m ((c : Thread nD τ).loc main_arg1) (ix2 e k) := by
  show StableHlo.after hostOps0 _ _ _ = _
  after_results
  simp [pointwise]
theorem V_v2 (c : Dev nD) (e : Fin 3072) : V m c main_v2 (ix2 0 e) = m ((c : Thread nD τ).loc main_arg2) (ix1 e) := by
  show StableHlo.after hostOps0 _ _ _ = _
  after_results
  simp [pointwise]
theorem V_v3 (c : Dev nD) (k : Fin 1024) (e : Fin 3) : V m c main_v3 (ix2 k e) = m ((c : Thread nD τ).loc main_arg4) (ix2 e k) := by
  show StableHlo.after hostOps0 _ _ _ = _
  after_results
  simp [pointwise]
theorem V_v4 (c : Dev nD) (e : Fin 3) : V m c main_v4 (ix2 0 e) = m ((c : Thread nD τ).loc main_arg5) (ix1 e) := by
  show StableHlo.after hostOps0 _ _ _ = _
  after_results
  simp [pointwise]

/-! ## The results -/

/-- What a point's body computes of its rows is their projection. -/
theorem block_proj (c : Dev nD) (t : Fin cfg0.N) (r : Fin 512) (e : Fin 3072) :
    k0_pay3 (F := Ideal) (iblk m c 0 t) (iblk m c 1 t) (iblk m c 2 t) (ix2 r e)
      = proj (m ((c : Thread nD τ).loc main_arg0)) (m ((c : Thread nD τ).loc main_arg1)) (m ((c : Thread nD τ).loc main_arg2)) (at_ t r) e := by
  refine (pay3 (iblk m c 0 t) (iblk m c 1 t) (iblk m c 2 t) r e).trans ?_
  rw [iblk2, V_v2]
  refine congrArg (fun z : EReal => z + m ((c : Thread nD τ).loc main_arg2) (ix1 e)) ?_
  refine Finset.sum_congr rfl fun k _ => ?_
  rw [iblk0, iblk1, V_v0, V_v1]

theorem final_q (c : Dev nD) : (dats m 0 c).arrAt 6 cfg0.N
    = queries (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  obtain ⟨r, d, rfl⟩ : ∃ (r : Fin 512) (d : Fin 1024), y = ix2 r d := ⟨y 0, y 1, by funext a; fin_cases a <;> rfl⟩
  rw [pay6, block_proj, show (win0_6.blk t).view.emb (ix2 r d) = ix2 (at_ t r) d by blk_ext [index6, at_]]
  rfl
theorem final_k (c : Dev nD) : (dats m 0 c).arrAt 7 cfg0.N
    = keys (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  obtain ⟨r, d, rfl⟩ : ∃ (r : Fin 512) (d : Fin 1024), y = ix2 r d := ⟨y 0, y 1, by funext a; fin_cases a <;> rfl⟩
  rw [pay4, block_proj, show (win0_7.blk t).view.emb (ix2 r d) = ix2 (at_ t r) d by blk_ext [index7, at_]]
  rfl
theorem final_v (c : Dev nD) : (dats m 0 c).arrAt 8 cfg0.N
    = values (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  obtain ⟨r, d, rfl⟩ : ∃ (r : Fin 512) (d : Fin 1024), y = ix2 r d := ⟨y 0, y 1, by funext a; fin_cases a <;> rfl⟩
  rw [pay5, block_proj, show (win0_8.blk t).view.emb (ix2 r d) = ix2 (at_ t r) d by blk_ext [index8, at_]]
  rfl
theorem block_pay8 (c : Dev nD) (t : Fin cfg0.N) (r : Fin 512) :
    k0_pay8 (F := Ideal) (iblk m c 0 t) (iblk m c 1 t) (iblk m c 2 t) (iblk m c 5 t) (ix2 r 0)
      = ∑ k : Fin 1024, proj (m ((c : Thread nD τ).loc main_arg0)) (m ((c : Thread nD τ).loc main_arg1)) (m ((c : Thread nD τ).loc main_arg2)) (at_ t r) (keyAt k)
          * m ((c : Thread nD τ).loc main_arg3) (ix2 0 k) := by
  refine (pay8 (iblk m c 0 t) (iblk m c 1 t) (iblk m c 2 t) (iblk m c 5 t) r).trans (Finset.sum_congr rfl fun k _ => ?_)
  rw [block_proj, iblk5, V_main_arg3]
theorem block_pay9 (c : Dev nD) (t : Fin cfg0.N) (r : Fin 512) :
    k0_pay9 (F := Ideal) (iblk m c 0 t) (iblk m c 1 t) (iblk m c 2 t) (iblk m c 5 t) (ix2 r 0)
      = ∑ k : Fin 1024, proj (m ((c : Thread nD τ).loc main_arg0)) (m ((c : Thread nD τ).loc main_arg1)) (m ((c : Thread nD τ).loc main_arg2)) (at_ t r) (valueAt k)
          * m ((c : Thread nD τ).loc main_arg3) (ix2 0 k) := by
  refine (pay9 (iblk m c 0 t) (iblk m c 1 t) (iblk m c 2 t) (iblk m c 5 t) r).trans (Finset.sum_congr rfl fun k _ => ?_)
  rw [block_proj, iblk5, V_main_arg3]
theorem pay2 (x : Vec Ideal S512x1024 .f32) : k0_pay2 (F := Ideal) x = x := by
  funext j
  obtain ⟨r, k, rfl⟩ : ∃ (r : Fin 512) (k : Fin 1024), j = ix2 r k := ⟨j 0, j 1, by funext a; fin_cases a <;> rfl⟩
  simp [k0_pay2, pointwise]
theorem pay10 (x : Vec Ideal S1024x3 .f32) : k0_pay10 (F := Ideal) x = x := by
  funext j
  obtain ⟨r, k, rfl⟩ : ∃ (r : Fin 1024) (k : Fin 3), j = ix2 r k := ⟨j 0, j 1, by funext a; fin_cases a <;> rfl⟩
  simp [k0_pay10, pointwise]
theorem block_gate (c : Dev nD) (t : Fin cfg0.N) (r : Fin 512) (e : Fin 3) :
    blockGate (iblk m c 0 t) (iblk m c 3 t) (iblk m c 4 t) r e
      = gate (m ((c : Thread nD τ).loc main_arg0)) (m ((c : Thread nD τ).loc main_arg4)) (m ((c : Thread nD τ).loc main_arg5)) (at_ t r) e := by
  refine (blockGate_apply (iblk m c 0 t) (iblk m c 3 t) (iblk m c 4 t) r e).trans ?_
  unfold gate
  refine congrArg Ideal.logistic ?_
  rw [iblk4, V_v4]
  refine congrArg (fun z : EReal => z + m ((c : Thread nD τ).loc main_arg5) (ix1 e)) ?_
  refine Finset.sum_congr rfl fun k _ => ?_
  rw [iblk0, iblk3, V_v0, V_v3]
theorem block_info (c : Dev nD) (t : Fin cfg0.N) (r : Fin 512) (d : Fin 8) :
    k0_pay1 (F := Ideal) (k0_pay2 (iblk m c 0 t)) (k0_pay8 (iblk m c 0 t) (iblk m c 1 t) (iblk m c 2 t) (iblk m c 5 t))
        (k0_pay9 (iblk m c 0 t) (iblk m c 1 t) (iblk m c 2 t) (iblk m c 5 t)) (k0_pay10 (iblk m c 3 t)) (iblk m c 4 t) (ix2 r d)
      = info (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 (at_ t r) d) := by
  refine (pay1 (k0_pay2 (iblk m c 0 t)) (k0_pay8 (iblk m c 0 t) (iblk m c 1 t) (iblk m c 2 t) (iblk m c 5 t))
        (k0_pay9 (iblk m c 0 t) (iblk m c 1 t) (iblk m c 2 t) (iblk m c 5 t)) (k0_pay10 (iblk m c 3 t)) (iblk m c 4 t) r d).trans ?_
  rw [info_apply, block_pay8, block_pay9]
  refine congrArg (fun g : Fin 3 → EReal => eight _ _ g d) (funext fun e => ?_)
  refine Eq.trans ?_ (block_gate m c t r e)
  exact (congrArg (fun x => blockGate x (k0_pay10 (iblk m c 3 t)) (iblk m c 4 t) r e) (pay2 (iblk m c 0 t))).trans
    (congrArg (fun y => blockGate (iblk m c 0 t) y (iblk m c 4 t) r e) (pay10 (iblk m c 3 t)))
theorem final_i (c : Dev nD) : (dats m 0 c).arrAt 9 cfg0.N
    = info (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  frame_out
  obtain ⟨r, d, rfl⟩ : ∃ (r : Fin 512) (d : Fin 8), y = ix2 r d := ⟨y 0, y 1, by funext a; fin_cases a <;> rfl⟩
  rw [show (win0_9.blk t).view.emb (ix2 r d) = ix2 (at_ t r) d by blk_ext [index9, at_]]
  exact block_info m c t r d

end Cert.ProjectIdeal.Read

namespace Cert.ProjectReferenceIdeal.Read

open Cert.ProjectReferenceIdeal Cert.ProjectReferenceIdeal.Gen

variable (x : S2x2048x1024.Idx → EReal) (w : S3072x1024.Idx → EReal) (b : S3072.Idx → EReal)

/-- All projections, as the reference computes them. -/
abbrev all : FVec Ideal S4096x3072 .f32 := addf (F := Ideal) (φ := .f32) (Host.dotGeneral (F := Ideal) (φ₁ := .f32) (φ₂ := .f32) dot_S4096x1024_S1024x3072_S4096x3072_1_0_0_1_n_n none (shapeCast _ x shapeCasts_S2x2048x1024_S4096x1024) (transpose S1024x3072 [1, 0] w transposes_S3072x1024_S1024x3072_1_0)) (broadcastInDim S4096x3072 ![0, 1] bcast_S1x3072_S4096x3072_0_1 (broadcastInDim S1x3072 ![1] bcast_S3072_S1x3072_1 b))

theorem all_apply (r : Fin 4096) (e : Fin 3072) : all x w b (ix2 r e) = ProjectIdeal.Read.proj x w b r e := by
  unfold all ProjectIdeal.Read.proj
  simp [pointwise]

theorem value_q : truncf (F := Ideal) .bf16 (mulf (extractStridedSlice S4096x1024 ![0, 0] (all x w b) slices_S4096x3072_S4096x1024_0_0) (broadcastInDim S4096x1024 ![] bcast_S_S4096x1024 (constant S_ .f32 0x3D000000#32))) bitsLt_bf16_f32
    = ProjectIdeal.Read.queries x w b := by
  funext j
  obtain ⟨r, d, rfl⟩ : ∃ (r : Fin 4096) (d : Fin 1024), j = ix2 r d := ⟨j 0, j 1, by funext a; fin_cases a <;> rfl⟩
  show _ = ProjectIdeal.Read.proj x w b r (ProjectIdeal.Read.queryAt d) * _
  rw [← all_apply]
  generalize all x w b = y
  simp [pointwise, ProjectIdeal.Read.queryAt]
theorem value_k : truncf (F := Ideal) .bf16 (extractStridedSlice S4096x1024 ![0, 1024] (all x w b) slices_S4096x3072_S4096x1024_0_1024) bitsLt_bf16_f32
    = ProjectIdeal.Read.keys x w b := by
  funext j
  obtain ⟨r, d, rfl⟩ : ∃ (r : Fin 4096) (d : Fin 1024), j = ix2 r d := ⟨j 0, j 1, by funext a; fin_cases a <;> rfl⟩
  show _ = ProjectIdeal.Read.proj x w b r (ProjectIdeal.Read.keyAt d)
  rw [← all_apply]
  generalize all x w b = y
  simp [pointwise, ProjectIdeal.Read.keyAt]
theorem value_v : truncf (F := Ideal) .bf16 (extractStridedSlice S4096x1024 ![0, 2048] (all x w b) slices_S4096x3072_S4096x1024_0_2048) bitsLt_bf16_f32
    = ProjectIdeal.Read.values x w b := by
  funext j
  obtain ⟨r, d, rfl⟩ : ∃ (r : Fin 4096) (d : Fin 1024), j = ix2 r d := ⟨j 0, j 1, by funext a; fin_cases a <;> rfl⟩
  show _ = ProjectIdeal.Read.proj x w b r (ProjectIdeal.Read.valueAt d)
  rw [← all_apply]
  generalize all x w b = y
  simp [pointwise, ProjectIdeal.Read.valueAt]

/-- The gates, as the reference computes them. -/
abbrev gates (g : S3x1024.Idx → EReal) (h : S3.Idx → EReal) : FVec Ideal S4096x3 .f32 :=
  Host.divf (broadcastInDim S4096x3 ![] bcast_S_S4096x3 (constant S_ .f32 0x3F800000#32)) (addf (broadcastInDim S4096x3 ![] bcast_S_S4096x3 (constant S_ .f32 0x3F800000#32)) (Host.exp (Host.negf (addf (Host.dotGeneral (F := Ideal) (φ₁ := .f32) (φ₂ := .f32) dot_S4096x1024_S1024x3_S4096x3_1_0_0_1_n_n none (shapeCast _ x shapeCasts_S2x2048x1024_S4096x1024) (transpose S1024x3 [1, 0] g transposes_S3x1024_S1024x3_1_0)) (broadcastInDim S4096x3 ![0, 1] bcast_S1x3_S4096x3_0_1 (broadcastInDim S1x3 ![1] bcast_S3_S1x3_1 h))))))

theorem gates_apply (g : S3x1024.Idx → EReal) (h : S3.Idx → EReal) (r : Fin 4096) (e : Fin 3) :
    gates x g h (ix2 r e) = ProjectIdeal.Read.gate x g h r e := by
  unfold gates ProjectIdeal.Read.gate
  simp [pointwise]
  rfl

theorem value_i (s : S1x1024.Idx → EReal) (g : S3x1024.Idx → EReal) (h : S3.Idx → EReal) :
    (concatenate S4096x8 1 [⟨S4096x1, ((Host.dotGeneral (F := Ideal) (φ₁ := .f32) (φ₂ := .f32) dot_S4096x1024_S1024x1_S4096x1_1_0_0_1_n_n none (extractStridedSlice S4096x1024 ![0, 1024] (all x w b) slices_S4096x3072_S4096x1024_0_1024) (transpose S1024x1 [1, 0] s transposes_S1x1024_S1024x1_1_0)) : (⟨S4096x1, .f32⟩ : BufTy).Contents (Elt Ideal))⟩,
      ⟨S4096x1, ((Host.dotGeneral (F := Ideal) (φ₁ := .f32) (φ₂ := .f32) dot_S4096x1024_S1024x1_S4096x1_1_0_0_1_n_n none (extractStridedSlice S4096x1024 ![0, 2048] (all x w b) slices_S4096x3072_S4096x1024_0_2048) (transpose S1024x1 [1, 0] s transposes_S1x1024_S1024x1_1_0)) : (⟨S4096x1, .f32⟩ : BufTy).Contents (Elt Ideal))⟩,
      ⟨S4096x3, (gates x g h : (⟨S4096x3, .f32⟩ : BufTy).Contents (Elt Ideal))⟩,
      ⟨S4096x3, ((broadcastInDim S4096x3 ![] bcast_S_S4096x3 (constant (F := Ideal) S_ .f32 0x00000000#32)) : (⟨S4096x3, .f32⟩ : BufTy).Contents (Elt Ideal))⟩] concatenates_S4096x1_S4096x1_S4096x3_S4096x3_S4096x8_d1 : (⟨S4096x8, .f32⟩ : BufTy).Contents (Elt Ideal))
    = ProjectIdeal.Read.info x w b s g h := by
  funext j
  obtain ⟨r, d, rfl⟩ : ∃ (r : Fin 4096) (d : Fin 8), j = ix2 r d := ⟨j 0, j 1, by funext a; fin_cases a <;> rfl⟩
  rw [ProjectIdeal.Read.info_apply]
  simp only [← all_apply, show ProjectIdeal.Read.gate x g h r = fun e => gates x g h (ix2 r e) from funext fun e => (gates_apply x g h r e).symm]
  generalize all x w b = y
  generalize gates x g h = z
  unfold ProjectIdeal.Read.eight
  simp [pointwise, ProjectIdeal.Read.keyAt, ProjectIdeal.Read.valueAt]

end Cert.ProjectReferenceIdeal.Read

end
-- ==== Proof.ProjectClaims.lean ====
/-
  The projection call: its claims, from what it leaves (Proof/ProjectValue.lean).
-/
module

public import proofs.«01_k».proof.Defs
public import proofs.«01_k».proof.Proof.Gen.Project
public import proofs.«01_k».proof.Proof.Gen.ProjectIdeal
public import proofs.«01_k».proof.Proof.Gen.ProjectReferenceIdeal
public import proofs.«01_k».proof.Proof.ProjectValue
public import Idealize.ShloMosaic.Lib.Quiescent

@[expose] public section

noncomputable section

namespace Cert.Proof.Project

open Idealize.ShloMosaic Idealize.ShloMosaic.TcCoe Idealize.SL.Sem

/-- The two printings of the program are one. -/
theorem bodies_eq : Cert.Project.defs₀ (F := Bits) = Cert.ProjectIdeal.defs₀ (F := Bits) := by
  unfold Cert.Project.defs₀ Cert.ProjectIdeal.defs₀
  refine congrArg _ (funext fun l => ?_)
  match l with
  | 0 => rfl
  | ⟨_ + 1, h⟩ => exact absurd h (Nat.not_lt.2 (Nat.le_add_left _ _))

theorem defs_eq : Cert.Project.defs (F := Bits) = Cert.ProjectIdeal.defs (F := Bits) :=
  congrArg (Pipeline.defs (Cert.ProjectIdeal.pcfgs (F := Bits))) bodies_eq

/-- The run at the machine's words, -/
theorem frame_bits : Cert.quiescent_Project := fun m ρ _ =>
  (congrArg (fun δ => θ_run δ (onTc (τ := Cert.ProjectIdeal.τ) (Cert.ProjectIdeal.main (F := Bits))) ⟨m, fun _ => 0, ρ⟩ _) defs_eq).mpr
    (Cert.ProjectIdeal.Gen.frame (F := Bits) m ρ)

/-- and at the extended reals. -/
theorem frame_ideal : Cert.quiescent_ProjectIdeal := fun m ρ _ => Cert.ProjectIdeal.Gen.frame (F := Ideal) m ρ

theorem frame_reference : Cert.quiescent_ProjectReferenceIdeal := fun m ρ _ =>
  (θ_run Cert.ProjectReferenceIdeal.defs _ _).mono
    (fun r hr => ⟨fun c => (hr c).2.2.2.2, sem_eq_zero_of_no_sems (by decide) r.2⟩)
    (Cert.ProjectReferenceIdeal.Value.run (F := Ideal) m ρ)

/-- No operation was rewritten. -/
theorem preserves : Cert.preserves_Project_ProjectIdeal := trivial

theorem algebraic : Cert.algebraic_ProjectIdeal_ProjectReferenceIdeal := by
  intro m ρ m' ρ' _ hargs
  refine ⟨fun c => Cert.ProjectIdeal.Read.queries (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)),
    fun c => Cert.ProjectIdeal.Read.keys (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)),
    fun c => Cert.ProjectIdeal.Read.values (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)),
    fun c => Cert.ProjectIdeal.Read.info (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)),
    (θ_run Cert.ProjectIdeal.defs _ _).mono (fun _ hr c => ⟨(hr c).1.trans (Cert.ProjectIdeal.Read.final_q m c),
      (hr c).2.1.trans (Cert.ProjectIdeal.Read.final_k m c), (hr c).2.2.1.trans (Cert.ProjectIdeal.Read.final_v m c),
      (hr c).2.2.2.1.trans (Cert.ProjectIdeal.Read.final_i m c), (hr c).2.2.2.2⟩) (Cert.ProjectIdeal.Value.run_blocks (F := Ideal) m ρ),
    (θ_run Cert.ProjectReferenceIdeal.defs _ _).mono (fun _ hr c => ⟨?_, ?_, ?_, ?_, (hr c).2.2.2.2⟩) (Cert.ProjectReferenceIdeal.Value.run (F := Ideal) m' ρ')⟩
  · obtain ⟨e₀, e₁, e₂, e₃, e₄, e₅⟩ := hargs c
    refine ((hr c).1.trans (Cert.ProjectReferenceIdeal.Read.value_q _ _ _)).trans ?_
    rw [e₀, e₁, e₂]
  · obtain ⟨e₀, e₁, e₂, e₃, e₄, e₅⟩ := hargs c
    refine ((hr c).2.1.trans (Cert.ProjectReferenceIdeal.Read.value_k _ _ _)).trans ?_
    rw [e₀, e₁, e₂]
  · obtain ⟨e₀, e₁, e₂, e₃, e₄, e₅⟩ := hargs c
    refine ((hr c).2.2.1.trans (Cert.ProjectReferenceIdeal.Read.value_v _ _ _)).trans ?_
    rw [e₀, e₁, e₂]
  · obtain ⟨e₀, e₁, e₂, e₃, e₄, e₅⟩ := hargs c
    refine ((hr c).2.2.2.1.trans (Cert.ProjectReferenceIdeal.Read.value_i _ _ _ _ _ _)).trans ?_
    rw [e₀, e₁, e₂, e₃, e₄, e₅]

end Cert.Proof.Project

end
-- ==== Proof.SelectRows.lean ====
/-
  The choice of rows, on one row of scores: taking the greatest score left, again and again, each one taken set to a value
  below every score, takes the positions in the order in which a stable sort puts the greater score first.
-/
module

public import Idealize.ShloMosaic.Lib.SortPrefix
public import Mathlib.Data.EReal.Basic

@[expose] public section

noncomputable section

namespace Cert.Proof.Select

open Idealize.ShloMosaic

/-- A stable sort of positions in ascending order asks only whether a later one is before an earlier one. -/
theorem stableSort_congr_ascending {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_ascending {n : Nat} (R R' : Fin n → Fin n → Bool) (h : ∀ a b, a < b → R b a = R' b a)
    (k : Fin n) : sortedFrom R k = sortedFrom R' k := by
  have e : sortPositions n R = sortPositions n R' :=
    stableSort_congr_ascending R R' h _ (List.pairwise_lt_finRange n)
  unfold sortedFrom
  simp only [e, List.get_eq_getElem, Fin.val_cast]

variable {n : Nat}

/-- The greater score first, and of two equal ones the earlier position. -/
def before (x : Fin n → EReal) (k k' : Fin n) : Bool :=
  decide (x k' < x k) || (decide (x k = x k') && decide (k < k'))

theorem before_total (x : Fin n → EReal) : StrictTotalBefore (before x) :=
  StrictTotalBefore.of_key_then_position (fun a b : EReal => decide (b < a)) x (fun a => by simp)
    (fun a b c hab hbc => by simp only [decide_eq_true_eq] at *; exact hbc.trans hab)
    (fun a b => by simp only [decide_eq_true_eq]; rcases lt_trichotomy a b with h | h | h <;> simp [h])

/-- `p` holds a greatest score, and is the first position that does. -/
structure IsPick (x : Fin n → EReal) (p : Fin n) : Prop where
  le : ∀ l, x l ≤ x p
  first : ∀ l, x l = x p → p ≤ l

theorem exists_pick [NeZero n] (x : Fin n → EReal) : ∃ p, IsPick x p := by
  obtain ⟨M, -, hM⟩ := Finset.exists_max_image Finset.univ x ⟨0, Finset.mem_univ _⟩
  obtain ⟨p, hp, hmin⟩ := Finset.exists_min_image (Finset.univ.filter fun l => x l = x M) id
    ⟨M, by simp⟩
  have e : x p = x M := (Finset.mem_filter.mp hp).2
  exact ⟨p, fun l => e ▸ hM l (Finset.mem_univ _), fun l hl => hmin l (by simp [hl, e])⟩

/-- The position taken. -/
def pick [NeZero n] (x : Fin n → EReal) : Fin n := (exists_pick x).choose

theorem pick_spec [NeZero n] (x : Fin n → EReal) : IsPick x (pick x) := (exists_pick x).choose_spec

theorem IsPick.not_before {x : Fin n → EReal} {p : Fin n} (h : IsPick x p) (l : Fin n) : before x l p = false := by
  unfold before
  rw [Bool.or_eq_false_iff, Bool.and_eq_false_iff]
  refine ⟨by simpa using h.le l, ?_⟩
  by_cases e : x l = x p
  · exact .inr (by simpa using h.first l e)
  · exact .inl (by simpa using e)

/-- The scores after `r` rounds: each position taken holds the mark. -/
def marked [NeZero n] (mark : EReal) (x : Fin n → EReal) : Nat → Fin n → EReal
  | 0 => x
  | r + 1 => fun l => if l = pick (marked mark x r) then mark else marked mark x r l

/-- What round `r` takes. -/
def taken [NeZero n] (mark : EReal) (x : Fin n → EReal) (r : Nat) : Fin n := pick (marked mark x r)

variable [NeZero n] (mark : EReal) (x : Fin n → EReal)

theorem marked_of_left (r : Nat) (l : Fin n) (h : ∀ j < r, taken mark x j ≠ l) : marked mark x r l = x l := by
  induction r with
  | zero => rfl
  | succ r ih =>
    show (if l = taken mark x r then mark else marked mark x r l) = x l
    rw [if_neg fun e => h r (Nat.lt_succ_self r) e.symm, ih fun j hj => h j (Nat.lt_succ_of_lt hj)]

theorem marked_of_taken (r j : Nat) (hj : j < r) : marked mark x r (taken mark x j) = mark := by
  induction r with
  | zero => exact absurd hj (Nat.not_lt_zero _)
  | succ r ih =>
    show (if taken mark x j = taken mark x r then mark else marked mark x r (taken mark x j)) = mark
    split_ifs with h
    · rfl
    · refine ih (lt_of_le_of_ne (Nat.le_of_lt_succ hj) fun e => h (by rw [e]))

/-- While a position is left, none is taken twice. -/
theorem taken_new (hx : ∀ l, mark < x l) (r : Nat) (hr : r < n) (j : Nat) (hj : j < r) :
    taken mark x j ≠ taken mark x r := by
  intro e
  obtain ⟨l, hl⟩ : ∃ l : Fin n, ∀ j < r, taken mark x j ≠ l := by
    by_contra hne
    push Not at hne
    have hs : Function.Surjective fun j : Fin r => taken mark x j := fun l => by
      obtain ⟨j, hj, e⟩ := hne l
      exact ⟨⟨j, hj⟩, e⟩
    have := Fintype.card_le_of_surjective _ hs
    simp only [Fintype.card_fin] at this
    omega
  have h := (pick_spec (marked mark x r)).le l
  rw [marked_of_left mark x r l hl] at h
  have e' : marked mark x r (pick (marked mark x r)) = mark := by
    show marked mark x r (taken mark x r) = mark
    rw [← e, marked_of_taken mark x r j hj]
  rw [e'] at h
  exact absurd h (not_le.mpr (hx l))

theorem taken_not_before (hx : ∀ l, mark < x l) (r : Nat) (hr : r < n) (l : Fin n)
    (hl : ∀ j < r, taken mark x j ≠ l) : before x l (taken mark x r) = false := by
  have h := (pick_spec (marked mark x r)).not_before l
  have e : marked mark x r (pick (marked mark x r)) = x (taken mark x r) :=
    marked_of_left mark x r _ fun j hj => taken_new mark x hx r hr j hj
  unfold before at h ⊢
  rw [e, marked_of_left mark x r l hl] at h
  exact h

/-- The first `k` positions taken are the first `k` of the sort. -/
theorem sorted_eq_taken (hx : ∀ l, mark < x l) {k : Nat} (hk : k ≤ n) (r : Fin k) :
    sortedFrom (before x) (r.castLE hk) = taken mark x r :=
  have hinj : ∀ i j : Nat, i < n → j < n → taken mark x i = taken mark x j → i = j := fun i j hi hj e => by
    rcases Nat.lt_trichotomy i j with h | h | h
    · exact absurd e (taken_new mark x hx j hj i h)
    · exact h
    · exact absurd e.symm (taken_new mark x hx i hi j h)
  (before_total x).sortedFrom_eq_of_prefix hk (fun r : Fin k => taken mark x r)
    (fun i j e => Fin.ext (hinj i j (i.isLt.trans_le hk) (j.isLt.trans_le hk) e))
    (fun i j hij => taken_not_before mark x hx i (i.isLt.trans_le hk) _ fun a ha e => by
      have hj := j.isLt.trans_le hk
      have : a = j := hinj a j (by omega) hj e
      have : i.val < j.val := hij
      omega)
    (fun i p hp => taken_not_before mark x hx i (i.isLt.trans_le hk) p fun a ha =>
      hp ⟨a, ha.trans i.isLt⟩) r

end Cert.Proof.Select

end
-- ==== Proof.SelectValue.lean ====
/-
  The selection call, read: what its result array holds after the run, over the extended reals, and that the first sixteen of
  the reference's sort hold the same.
-/
module

public import proofs.«01_k».proof.Proof.Gen.SelectIdeal.Value
public import proofs.«01_k».proof.Proof.Gen.SelectReferenceIdeal.Run
public import proofs.«01_k».proof.Proof.SelectRows
public import Idealize.ShloMosaic.Lib.Pipeline.ValueKit
public import Idealize.ShloMosaic.Lib.Pointwise.Tactic
public import Idealize.ShloMosaic.Lib.SortNet.Extract
public import Idealize.ShloMosaic.Lib.Tactic

@[expose] public section

noncomputable section

open Idealize.ShloMosaic Idealize.ShloMosaic.TcCoe Idealize.SL.Sem
open Cert.Proof.Select

namespace Cert.SelectIdeal.Read

open Cert.SelectIdeal Cert.SelectIdeal.Gen

/-- The value that marks a lane as taken. -/
def mark : EReal := FloatOps.ofBits (F := Ideal) .f32 0xF149F2CA#32

/-- The lane numbers. -/
def lanes : IVec S128x64 32 := iota .tc S128x64 32 [1] iota_S128x64_d1_w32

/-- The lanes that hold their row's greatest score; 64 elsewhere. -/
def hits (s : FVec Ideal S128x64 .f32) : IVec S128x64 32 :=
  select (cmpf .oeq s (broadcastTo S128x64 (shapeCast S128x1
    (multiReduction .maximumf [1] S128 s 0xFF800000#32 reduces_S128x64_S128 (.inl rfl) rfl) shapeCasts_S128_S128x1)
    broadcasts_S128x1_S128x64)) lanes (broadcast S128x64 64#32)

/-- The first of them. -/
def firsts (s : FVec Ideal S128x64 .f32) : IVec S128x1 32 :=
  shapeCast S128x1 (multiReductionI .minsi [1] S128 (hits s) 2147483647#32 reduces_S128x64_S128 rfl) shapeCasts_S128_S128x1

/-- The scores with it marked. -/
def next (s : FVec Ideal S128x64 .f32) : FVec Ideal S128x64 .f32 :=
  select (cmpi .eq lanes (broadcastTo S128x64 (firsts s) broadcasts_S128x1_S128x64))
    (broadcast S128x64 (Scalar.ofBits (F := Ideal) .f32 0xF149F2CA#32)) s

/-- The scores after `r` rounds. -/
def round (x : FVec Ideal S128x64 .f32) : Nat → FVec Ideal S128x64 .f32
  | 0 => x
  | r + 1 => next (round x r)

/-- A row of the scores. -/
def row (s : FVec Ideal S128x64 .f32) (n : Fin 128) : Fin 64 → EReal := fun l => s (ix2 n l)

theorem fold_max (f : Fin 64 → EReal) (p : Fin 64) (h : IsPick f p) :
    Finset.fold max (Ideal.ofBits FTy.f32 0xFF800000#32) f Finset.univ = f p := by
  have hb : Ideal.ofBits FTy.f32 0xFF800000#32 = ⊥ := by simp [Ideal.ofBits, Ideal.ieee]
  rw [hb]
  exact le_antisymm ((Finset.fold_max_le _).mpr ⟨bot_le, fun l _ => h.le l⟩)
    ((Finset.le_fold_max _).mpr (.inr ⟨p, Finset.mem_univ _, le_rfl⟩))

theorem hits_apply (s : FVec Ideal S128x64 .f32) (n : Fin 128) (l : Fin 64) :
    hits s (ix2 n l) = if row s n l = row s n (pick (row s n)) then BitVec.ofNat 32 l.val else 64#32 := by
  rw [← fold_max (row s n) _ (pick_spec _)]
  have e : (fun k => s (ix2 n k)) = row s n := rfl
  simp [hits, lanes, pointwise, e]
  rfl

theorem lane_toInt (l : Fin 64) : (BitVec.ofNat 32 l.val).toInt = l.val := by
  revert l; decide

theorem firsts_apply (s : FVec Ideal S128x64 .f32) (n : Fin 128) :
    firsts s (ix2 n 0) = BitVec.ofNat 32 (pick (row s n)).val := by
  have h : firsts s (ix2 n 0) = Finset.fold IntOp.minsi (2147483647#32) (fun k => hits s (ix2 n k)) Finset.univ := by
    simp [firsts, pointwise]
  rw [h]
  apply BitVec.eq_of_toInt_eq
  rw [← Finset.fold_hom (op := IntOp.minsi) (op' := min) (m := BitVec.toInt) SortNet.toInt_minsi, lane_toInt]
  have hp := pick_spec (row s n)
  refine le_antisymm (Finset.fold_min_le _ |>.mpr (.inr ⟨pick (row s n), Finset.mem_univ _, ?_⟩))
    ((Finset.le_fold_min _).mpr ⟨?_, fun l _ => ?_⟩)
  · rw [hits_apply, if_pos rfl, lane_toInt]
  · have := (pick (row s n)).isLt
    have e : (2147483647#32).toInt = 2147483647 := by decide
    rw [e]; omega
  · rw [hits_apply]
    split_ifs with e
    · rw [lane_toInt]
      exact_mod_cast hp.first l e
    · have := (pick (row s n)).isLt
      have e : (64#32).toInt = 64 := by decide
      rw [e]; omega

theorem lane_eq (l p : Fin 64) : IntOp.cmpi .eq (BitVec.ofNat 32 l.val) (BitVec.ofNat 32 p.val) = if l = p then 1#1 else 0#1 := by
  revert l p; decide +kernel

theorem next_apply (s : FVec Ideal S128x64 .f32) (n : Fin 128) (l : Fin 64) :
    next s (ix2 n l) = if l = pick (row s n) then mark else s (ix2 n l) := by
  have h : next s (ix2 n l) = Scalar.select (IntOp.cmpi .eq (BitVec.ofNat 32 l.val) (firsts s (ix2 n 0))) mark (s (ix2 n l)) := by
    simp [next, lanes, mark, pointwise]
  rw [h, firsts_apply, lane_eq]
  split_ifs <;> rfl

theorem round_row (x : FVec Ideal S128x64 .f32) (n : Fin 128) (r : Nat) :
    row (round x r) n = marked mark (row x n) r := by
  induction r with
  | zero => rfl
  | succ r ih =>
    funext l
    refine (next_apply (round x r) n l).trans ?_
    rw [ih]
    exact congrArg (fun y => if l = pick (marked mark (row x n) r) then mark else y) (congrFun ih l)

theorem firsts_round (x : FVec Ideal S128x64 .f32) (n : Fin 128) (r : Nat) :
    firsts (round x r) (ix2 n 0) = BitVec.ofNat 32 (taken mark (row x n) r).val := by
  rw [firsts_apply, round_row]
  rfl

theorem pay42 (x : Vec Ideal S128x64 .f32) : k0_pay42 x = round x 2 := by
  unfold k0_pay42
  rw [View.ld_unit_zero (S := S128x64) Value.hz0]
  rfl
theorem pay43 (x : Vec Ideal S128x64 .f32) : k0_pay43 x = round x 5 := by
  unfold k0_pay43
  rw [pay42]
  rfl
theorem pay45 (x : Vec Ideal S128x64 .f32) : k0_pay45 x = round x 9 := by
  unfold k0_pay45 k0_pay44
  rw [pay42, pay43]
  rfl
theorem pay46 (x : Vec Ideal S128x64 .f32) : k0_pay46 x = hits (round x 9) := by
  unfold k0_pay46 k0_pay44
  rw [pay42, pay43]
  rfl
theorem pay47 (x : Vec Ideal S128x64 .f32) : k0_pay47 x = firsts (round x 13) := by
  unfold k0_pay47
  rw [pay45, pay46]
  rfl
theorem pay48 (x : Vec Ideal S128x64 .f32) : k0_pay48 x = round x 14 := by
  unfold k0_pay48
  rw [pay47, pay45, pay46]
  rfl
theorem pay49 (x : Vec Ideal S128x64 .f32) : k0_pay49 x = firsts (round x 14) := by
  unfold k0_pay49
  rw [pay48]
  rfl

/-- The sixteen picks, side by side. -/
def picks (x : Vec Ideal S128x64 .f32) : IVec S128x16 32 :=
  concatenate S128x16 1 [⟨S128x1, firsts (round x 0)⟩, ⟨S128x1, firsts (round x 1)⟩, ⟨S128x1, firsts (round x 2)⟩, ⟨S128x1, firsts (round x 3)⟩, ⟨S128x1, firsts (round x 4)⟩, ⟨S128x1, firsts (round x 5)⟩, ⟨S128x1, firsts (round x 6)⟩, ⟨S128x1, firsts (round x 7)⟩, ⟨S128x1, firsts (round x 8)⟩, ⟨S128x1, firsts (round x 9)⟩, ⟨S128x1, firsts (round x 10)⟩, ⟨S128x1, firsts (round x 11)⟩, ⟨S128x1, firsts (round x 12)⟩, ⟨S128x1, firsts (round x 13)⟩, ⟨S128x1, firsts (round x 14)⟩, ⟨S128x1, firsts (round x 15)⟩]
    concatenates_S128x1_S128x1_S128x1_S128x1_S128x1_S128x1_S128x1_S128x1_S128x1_S128x1_S128x1_S128x1_S128x1_S128x1_S128x1_S128x1_S128x16_d1

/-- Where the row's block of the table starts. -/
def base : IVec S128x1 32 := k0_pay11 (iota .tc S128x1 32 [0] iota_S128x1_d0_w32) k0_pay9 k0_pay10

theorem result_eq (x : Vec Ideal S128x64 .f32) :
    Value.G1 (F := Ideal) x = addi (picks x) (broadcastTo S128x16 base broadcasts_S128x1_S128x16) := by
  unfold Value.G1
  rw [pay42, pay43, pay45, pay46, pay47, pay48, pay49]
  unfold k0_pay44
  rw [pay42]
  rfl

theorem picks_apply (x : Vec Ideal S128x64 .f32) (n : Fin 128) (r : Fin 16) :
    picks x (ix2 n r) = BitVec.ofNat 32 (taken mark (row x n) r.val).val := by
  rw [← firsts_round]
  fin_cases r <;> simp [picks, pointwise]

theorem base_apply (n : Fin 128) : base (ix2 n 0) = BitVec.ofNat 32 (n.val % 64 * 64) := by
  simp [base, k0_pay11, k0_pay9, k0_pay10, pointwise]
  revert n
  decide +kernel

theorem result_apply (x : Vec Ideal S128x64 .f32) (n : Fin 128) (r : Fin 16) :
    Value.G1 (F := Ideal) x (ix2 n r)
      = BitVec.ofNat 32 (taken mark (row x n) r.val).val + BitVec.ofNat 32 (n.val % 64 * 64) := by
  rw [result_eq, ← picks_apply, ← base_apply]
  simp [pointwise]
  rfl

end Cert.SelectIdeal.Read

namespace Cert.SelectReferenceIdeal.Read

open Cert.SelectReferenceIdeal Cert.SelectReferenceIdeal.Gen Idealize.ShloMosaic.StableHlo
open Cert.SelectIdeal.Read (row mark)

/-- Where the row's block of the table starts. -/
def base : IVec S128x1 32 := (muli (select (andi (cmpi .ne (cmpi .slt (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32))))) (broadcastInDim S128x1 ![] bcast_S_S128x1 (constantI S_ 32 0#32))) (broadcastInDim S128x1 ![] bcast_S_S128x1 (cmpi .slt (select (cmpi .eq (id (constantI S_ 32 64#32)) (constantI S_ 32 0#32)) (constantI S_ 32 1#32) (id (constantI S_ 32 64#32))) (constantI S_ 32 0#32)))) (cmpi .ne (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32))))) (broadcastInDim S128x1 ![] bcast_S_S128x1 (constantI S_ 32 0#32)))) (addi (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32))))) (broadcastInDim S128x1 ![] bcast_S_S128x1 (select (cmpi .eq (id (constantI S_ 32 64#32)) (constantI S_ 32 0#32)) (constantI S_ 32 1#32) (id (constantI S_ 32 64#32))))) (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32)))))) (broadcastInDim S128x1 ![] bcast_S_S128x1 (constantI S_ 32 64#32)))

theorem base_apply (n : Fin 128) : base (ix2 n 0) = BitVec.ofNat 32 (n.val % 64 * 64) := by
  simp [base, pointwise]
  revert n
  decide +kernel

theorem along_row (n : Fin 128) (l k : Fin 64) : Shape.Idx.along (s := S128x64) (ix2 n l) 1 k = ix2 n k := by
  funext a
  fin_cases a <;> rfl

theorem top_apply (x : FVec Ideal S128x64 .f32) (n : Fin 128) (r : Fin 16) :
    (Host.topK S128x16 1 (FloatOps.cmpfTotal (F := Ideal) (φ := .f32) .gt) x sliceFits_S128x64_S128x16).2 (ix2 n r)
      = BitVec.ofNat 32 (sortedFrom (before (row x n)) (r.castLE (by decide : 16 ≤ 64))).val := by
  rw [← sortedFrom_congr_ascending (fun k k' : Fin 64 => FloatOps.cmpfTotal (F := Ideal) (φ := .f32) .gt (row x n k) (row x n k') == 1#1)]
  · simp [Host.topK, Host.sort2, pointwise, along_row]
    rfl
  · intro a b hab
    unfold before
    rw [Ideal.cmpfTotal_def]
    have h : decide (b < a) = false := by simpa using hab.le
    rw [h, Bool.and_false, Bool.or_false]
    by_cases e : row x n a < row x n b <;> simp [Ideal.cmp, CmpDirection.ordered, e]

theorem value (x : FVec Ideal S128x64 .f32) (n : Fin 128) (r : Fin 16) (hx : ∀ l, mark < row x n l) :
    (addi ((Host.topK S128x16 1 (FloatOps.cmpfTotal .gt) x sliceFits_S128x64_S128x16).2) (broadcastInDim S128x16 ![0, 1] bcast_S128x1_S128x16_0_1 (muli (select (andi (cmpi .ne (cmpi .slt (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32))))) (broadcastInDim S128x1 ![] bcast_S_S128x1 (constantI S_ 32 0#32))) (broadcastInDim S128x1 ![] bcast_S_S128x1 (cmpi .slt (select (cmpi .eq (id (constantI S_ 32 64#32)) (constantI S_ 32 0#32)) (constantI S_ 32 1#32) (id (constantI S_ 32 64#32))) (constantI S_ 32 0#32)))) (cmpi .ne (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32))))) (broadcastInDim S128x1 ![] bcast_S_S128x1 (constantI S_ 32 0#32)))) (addi (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32))))) (broadcastInDim S128x1 ![] bcast_S_S128x1 (select (cmpi .eq (id (constantI S_ 32 64#32)) (constantI S_ 32 0#32)) (constantI S_ 32 1#32) (id (constantI S_ 32 64#32))))) (Host.remsi (broadcastInDim S128x1 ![0] bcast_S128_S128x1_0 (iotaInDim S128 32 0)) (broadcastInDim S128x1 ![] bcast_S_S128x1 (select (cmpi .eq (id (constantI S_ 32 64#32)) (constantI S_ 32 0#32)) (constantI S_ 32 1#32) (id (constantI S_ 32 64#32)))))) (broadcastInDim S128x1 ![] bcast_S_S128x1 (constantI S_ 32 64#32)))) : IVec S128x16 32) (ix2 n r)
      = BitVec.ofNat 32 (taken mark (row x n) r.val).val + BitVec.ofNat 32 (n.val % 64 * 64) := by
  rw [← sorted_eq_taken mark (row x n) hx (by decide : 16 ≤ 64) r, ← top_apply, ← base_apply]
  simp [pointwise, base]
  rfl

end Cert.SelectReferenceIdeal.Read

end
-- ==== Proof.SelectClaims.lean ====
/-
  The selection call: its claims, from what it leaves (Proof/SelectValue.lean).
-/
module

public import proofs.«01_k».proof.Defs
public import proofs.«01_k».proof.Proof.Gen.Select
public import proofs.«01_k».proof.Proof.Gen.SelectIdeal
public import proofs.«01_k».proof.Proof.Gen.SelectReferenceIdeal
public import proofs.«01_k».proof.Proof.SelectValue
public import Idealize.ShloMosaic.Lib.Quiescent

@[expose] public section

noncomputable section

namespace Cert.Proof.Select

open Idealize.ShloMosaic Idealize.ShloMosaic.TcCoe Idealize.SL.Sem

theorem maskFacts : Cert.Pre_above_mask.Facts := ⟨by decide⟩

instance : Cert.Pre_above_mask.Facts := maskFacts

/-- The two printings of the program are one. -/
theorem bodies_eq : Cert.Select.defs₀ (F := Bits) = Cert.SelectIdeal.defs₀ (F := Bits) := by
  unfold Cert.Select.defs₀ Cert.SelectIdeal.defs₀
  refine congrArg _ (funext fun l => ?_)
  match l with
  | 0 => rfl
  | ⟨_ + 1, h⟩ => exact absurd h (Nat.not_lt.2 (Nat.le_add_left _ _))

theorem defs_eq : Cert.Select.defs (F := Bits) = Cert.SelectIdeal.defs (F := Bits) :=
  congrArg (Pipeline.defs (Cert.SelectIdeal.pcfgs (F := Bits))) bodies_eq

/-- The run at the machine's words, -/
theorem frame_bits : Cert.quiescent_Select := fun m ρ _ =>
  (congrArg (fun δ => θ_run δ (onTc (τ := Cert.SelectIdeal.τ) (Cert.SelectIdeal.main (F := Bits))) ⟨m, fun _ => 0, ρ⟩ _) defs_eq).mpr
    (Cert.SelectIdeal.Gen.frame (F := Bits) m ρ)

/-- and at the extended reals. -/
theorem frame_ideal : Cert.quiescent_SelectIdeal := fun m ρ _ => Cert.SelectIdeal.Gen.frame (F := Ideal) m ρ

theorem frame_ideal_above : Cert.quiescent_SelectIdeal_pre_above_mask := fun m ρ _ => frame_ideal m ρ trivial

theorem frame_reference : Cert.quiescent_SelectReferenceIdeal := fun m ρ _ =>
  (θ_run Cert.SelectReferenceIdeal.defs _ _).mono
    (fun r hr => ⟨fun c => (hr c).2, sem_eq_zero_of_no_sems (by decide) r.2⟩)
    (Cert.SelectReferenceIdeal.Value.run (F := Ideal) m ρ)

theorem frame_reference_above : Cert.quiescent_SelectReferenceIdeal_pre_above_mask := fun m ρ _ => frame_reference m ρ trivial

/-- No operation was rewritten. -/
theorem preserves : Cert.preserves_Select_SelectIdeal := trivial

/-- What the precondition says of a score. -/
theorem above (x : FVec Ideal Cert.Pre_above_mask.S128x64 .f32) (h : Cert.Pre_above_mask.fn (F := Ideal) x = fun _ => 1#1)
    (n : Fin 128) (l : Fin 64) : Cert.SelectIdeal.Read.mark < Cert.SelectIdeal.Read.row x n l := by
  have e := congrFun h (ix2 n l)
  by_contra hn
  have hz : Cert.Pre_above_mask.fn (F := Ideal) x (ix2 n l) = 0#1 := by
    show BitVec.ofBool (decide (Cert.SelectIdeal.Read.mark < Cert.SelectIdeal.Read.row x n l)) = 0#1
    rw [decide_eq_false hn]
    rfl
  rw [hz] at e
  exact absurd e (by decide)

theorem algebraic : Cert.algebraic_SelectIdeal_SelectReferenceIdeal_pre_above_mask := by
  intro m ρ m' ρ' hpre hargs
  refine ⟨fun c => Cert.SelectIdeal.Value.G1 (F := Ideal) (m ((c.tc : Thread Cert.SelectIdeal.nD Cert.SelectIdeal.τ).loc Cert.SelectIdeal.main_arg0)),
    Cert.SelectIdeal.Value.run (F := Ideal) m ρ,
    (θ_run Cert.SelectReferenceIdeal.defs _ _).mono (fun _ hr c => ⟨?_, (hr c).2⟩) (Cert.SelectReferenceIdeal.Value.run (F := Ideal) m' ρ')⟩
  refine (hr c).1.trans ?_
  rw [hargs c]
  funext y
  obtain ⟨n, r, rfl⟩ : ∃ (n : Fin 128) (r : Fin 16), y = ix2 n r := ⟨y 0, y 1, by funext a; fin_cases a <;> rfl⟩
  exact (Cert.SelectReferenceIdeal.Read.value _ n r (above _ (hpre c) n)).trans
    (Cert.SelectIdeal.Read.result_apply _ n r).symm

end Cert.Proof.Select

end
-- ==== Proof.AttendFrame.lean ====
/-
  The attention call's frame: what its result's block holds after each point, the body's obligation, the run and the claim that
  it ends with its arguments unchanged.
-/
module

public import proofs.«01_k».proof.Proof.Gen.AttendIdeal.Frame.RunC
public import Idealize.ShloMosaic.Lib.Claim

@[expose] public section

set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's one store covers the result's block. -/
theorem cover0_A_18 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S64x1024 .f32) (harg15 : arg15.IsWhole) (arg16 : Memref sig .tc .vmem S64x1024 .f32) (harg16 : arg16.IsWhole) (arg17 : Memref sig .tc .vmem S128x8 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S128x1024 .f32) (harg20 : arg20.IsWhole) (arg21 : Memref sig .tc .vmem S128x1024 .f32) (harg21 : arg21.IsWhole) (hc0 : cond0_0 i) (hc1 : cond0_1 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .bf16) (x13 : Vec F S64x1024 .f32) (x14 : Vec F S64x1024 .f32) (x15 : Vec F S128x8 .f32) (x16 : Vec F S1024x1024 .bf16) (x17 : Vec F S1x1024 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1 S128x1024.size (by sl_kernel_rfl) y

/-- What case A leaves in the result's buffer. -/
def out0_A_18 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S64x1024 .f32) (harg15 : arg15.IsWhole) (arg16 : Memref sig .tc .vmem S64x1024 .f32) (harg16 : arg16.IsWhole) (arg17 : Memref sig .tc .vmem S128x8 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S128x1024 .f32) (harg20 : arg20.IsWhole) (arg21 : Memref sig .tc .vmem S128x1024 .f32) (harg21 : arg21.IsWhole) (hc0 : cond0_0 i) (hc1 : cond0_1 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .bf16) (x13 : Vec F S64x1024 .f32) (x14 : Vec F S64x1024 .f32) (x15 : Vec F S128x8 .f32) (x16 : Vec F S1024x1024 .bf16) (x17 : Vec F S1x1024 .f32) : Vec F S128x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1)

/-- Case B's one store covers the result's block. -/
theorem cover0_B_18 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S64x1024 .f32) (harg15 : arg15.IsWhole) (arg16 : Memref sig .tc .vmem S64x1024 .f32) (harg16 : arg16.IsWhole) (arg17 : Memref sig .tc .vmem S128x8 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S128x1024 .f32) (harg20 : arg20.IsWhole) (arg21 : Memref sig .tc .vmem S128x1024 .f32) (harg21 : arg21.IsWhole) (hc0 : cond0_0 i) (hc1 : ¬cond0_1 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .bf16) (x13 : Vec F S64x1024 .f32) (x14 : Vec F S64x1024 .f32) (x15 : Vec F S128x8 .f32) (x16 : Vec F S1024x1024 .bf16) (x17 : Vec F S1x1024 .f32) (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1 S128x1024.size (by sl_kernel_rfl) y

/-- What case B leaves in the result's buffer. -/
def out0_B_18 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S64x1024 .f32) (harg15 : arg15.IsWhole) (arg16 : Memref sig .tc .vmem S64x1024 .f32) (harg16 : arg16.IsWhole) (arg17 : Memref sig .tc .vmem S128x8 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S128x1024 .f32) (harg20 : arg20.IsWhole) (arg21 : Memref sig .tc .vmem S128x1024 .f32) (harg21 : arg21.IsWhole) (hc0 : cond0_0 i) (hc1 : ¬cond0_1 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .bf16) (x13 : Vec F S64x1024 .f32) (x14 : Vec F S64x1024 .f32) (x15 : Vec F S128x8 .f32) (x16 : Vec F S1024x1024 .bf16) (x17 : Vec F S1x1024 .f32) : Vec F S128x1024 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1)

/-- Case C's one store covers the result's block. -/
theorem cover0_C_18 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S64x1024 .f32) (harg15 : arg15.IsWhole) (arg16 : Memref sig .tc .vmem S64x1024 .f32) (harg16 : arg16.IsWhole) (arg17 : Memref sig .tc .vmem S128x8 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S128x1024 .f32) (harg20 : arg20.IsWhole) (arg21 : Memref sig .tc .vmem S128x1024 .f32) (harg21 : arg21.IsWhole) (hc0 : ¬cond0_0 i) (hc1 : ¬cond0_1 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .bf16) (x13 : Vec F S64x1024 .f32) (x14 : Vec F S64x1024 .f32) (x15 : Vec F S128x8 .f32) (x16 : Vec F S1024x1024 .bf16) (x17 : Vec F S1x1024 .f32) (y : S128x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1 S128x1024.size (by sl_kernel_rfl) y

/-- What case C leaves in the result's buffer. -/
def out0_C_18 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S64x1024 .f32) (harg15 : arg15.IsWhole) (arg16 : Memref sig .tc .vmem S64x1024 .f32) (harg16 : arg16.IsWhole) (arg17 : Memref sig .tc .vmem S128x8 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S128x1024 .f32) (harg20 : arg20.IsWhole) (arg21 : Memref sig .tc .vmem S128x1024 .f32) (harg21 : arg21.IsWhole) (hc0 : ¬cond0_0 i) (hc1 : ¬cond0_1 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .bf16) (x13 : Vec F S64x1024 .f32) (x14 : Vec F S64x1024 .f32) (x15 : Vec F S128x8 .f32) (x16 : Vec F S1024x1024 .bf16) (x17 : Vec F S1x1024 .f32) : Vec F S128x1024 .f32 :=
  VO0_18.read (Elt F) (VO0_18.writes (Elt F) VO0_18.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17).1)

/-! ## What the outputs hold after each point -/

/-- What the result's block holds after the body at point `t`: the case of the point's row block, run at the point's memrefs and
    input blocks. Nothing is carried from point to point. -/
def outsAt0 (c : Dev nD) (t : Fin cfg0.N) : Vec F S128x1024 .f32 :=
  if h0 : t.val % 16 ≤ 4 then
    if h1 : t.val % 16 ≤ 1 then out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    else out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
  else
    have h1 : ¬t.val % 16 ≤ 1 := fun h => h0 (h.trans (by decide))
    out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

theorem outsAt0_A (c : Dev nD) (t : Fin cfg0.N) (h0 : t.val % 16 ≤ 4) (h1 : t.val % 16 ≤ 1) :
    outsAt0 m c t = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
  (dif_pos h0).trans (dif_pos h1)
theorem outsAt0_B (c : Dev nD) (t : Fin cfg0.N) (h0 : t.val % 16 ≤ 4) (h1 : ¬t.val % 16 ≤ 1) :
    outsAt0 m c t = out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
  (dif_pos h0).trans (dif_neg h1)
theorem outsAt0_C (c : Dev nD) (t : Fin cfg0.N) (h0 : ¬t.val % 16 ≤ 4) (h1 : ¬t.val % 16 ≤ 1) :
    outsAt0 m c t = out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
  dif_neg h0

/-! ## The pipeline's proof data -/

/-- The pipeline's data on core `c`: the arrays as the region finds them, each input's buffer at its block after the body, the
    result's at `outsAt0`; nothing owed. An array that several windows stage is shared out among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t)
    | ⟨_ + 19, h⟩ => absurd h (Nat.not_lt.2 (Nat.le_add_left _ _))
  Φ _ := Pipeline.ΦA spec0 c
  q w := Pipeline.shareOf spec0 w
  owed _ := 0

/-- Its arrays are those that the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t) := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 6000000 in
/-- The body at any point: the inputs' buffers hold their blocks, the point's number says which case it is in, and the case's
    run applies. The body takes its scratch buffer at some contents and gives it back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  have hN : t.val < 32 := lt_of_lt_of_eq t.isLt (show cfg0.N = 32 from N_0)
  by_cases h0 : t.val % 16 ≤ 4
  · by_cases h1 : t.val % 16 ≤ 1
    · rw [outsAt0_A m c t h0 h1]
      unfold out0_A_18
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      iintro ⟨H0, H1, H2, H3, H4, H5, H6, H7, H8, H9, H10, H11, H12, H13, H14, H15, H16, H17, ⟨%e18, H18⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [outsAt0_B m c t h0 h1]
      unfold out0_B_18
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      iintro ⟨H0, H1, H2, H3, H4, H5, H6, H7, H8, H9, H10, H11, H12, H13, H14, H15, H16, H17, ⟨%e18, H18⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : t.val % 16 ≤ 1
    · exfalso; omega
    · rw [outsAt0_C m c t h0 h1]
      unfold out0_C_18
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      iintro ⟨H0, H1, H2, H3, H4, H5, H6, H7, H8, H9, H10, H11, H12, H13, H14, H15, H16, H17, ⟨%e18, H18⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array at what the pipeline's data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.AttendIdeal.Gen

end
-- ==== Proof.AttendRows.lean ====
/-
  One row of a masked attention, over the extended reals: the weights of the places that a word marks, and that such a row is the
  same in whatever order and beside whatever unmarked places the marked ones are laid out.
-/
module

public import Idealize.ShloMosaic.PureOps.Ideal
public import Idealize.ShloMosaic.Lib.Tactic
public import Idealize.ShloMosaic.Lib.Pointwise.Index

@[expose] public section

noncomputable section

open Idealize.ShloMosaic

namespace Cert.Attention

/-- The largest score of a marked place, -/
def top {n : ℕ} (P : Fin n → BitVec 1) (s : Fin n → EReal) : EReal :=
  Finset.fold max ⊥ (fun k => Scalar.select (P k) (s k) ⊥) Finset.univ

/-- a place's exponential below it (of an unmarked place: of minus infinity), -/
def rise {n : ℕ} (P : Fin n → BitVec 1) (s : Fin n → EReal) (k : Fin n) : EReal :=
  Ideal.exp (Scalar.select (P k) (s k) ⊥ - top P s)

/-- and the row: the values of the marked places, weighted by their shares. -/
def soft {n : ℕ} (P : Fin n → BitVec 1) (s v : Fin n → EReal) : EReal :=
  ∑ k, Scalar.select (P k) (Ideal.div (rise P s k) (∑ j, rise P s j)) 0 * v k

theorem select_ite {α : Type} (c : BitVec 1) (a b : α) : Scalar.select c a b = if c = 1#1 then a else b := rfl

theorem rise_eq {n : ℕ} (P : Fin n → BitVec 1) (s : Fin n → EReal) (k : Fin n) :
    rise P s k = if P k = 1#1 then Ideal.exp (s k - top P s) else 0 := by
  unfold rise
  rw [select_ite]
  by_cases h : P k = 1#1
  · rw [if_pos h, if_pos h]
  · rw [if_neg h, if_neg h, sub_eq_add_neg, EReal.bot_add]
    rfl

theorem soft_def {n : ℕ} (P : Fin n → BitVec 1) (s v : Fin n → EReal) :
    soft P s v = ∑ k, if P k = 1#1 then Ideal.div (rise P s k) (∑ j, rise P s j) * v k else 0 := by
  unfold soft
  refine Finset.sum_congr rfl fun k _ => ?_
  rw [select_ite]
  by_cases h : P k = 1#1
  · rw [if_pos h, if_pos h]
  · rw [if_neg h, if_neg h, zero_mul]

/-- A row with no marked place is zero. -/
theorem soft_none {n : ℕ} (P : Fin n → BitVec 1) (s v : Fin n → EReal) (h : ∀ k, P k ≠ 1#1) : soft P s v = 0 := by
  rw [soft_def]
  exact Finset.sum_eq_zero fun k _ => if_neg (h k)

variable {n n' : ℕ} (P : Fin n → BitVec 1) (P' : Fin n' → BitVec 1) (f : Fin n → Fin n')
  (hP : ∀ i, P i = 1#1 → P' (f i) = 1#1) (hinj : ∀ i j, P i = 1#1 → P j = 1#1 → f i = f j → i = j)
  (hsurj : ∀ j, P' j = 1#1 → ∃ i, P i = 1#1 ∧ f i = j)

include hP hinj hsurj in
/-- A sum over the marked places, relabelled. -/
theorem sum_marked (g : Fin n → EReal) (g' : Fin n' → EReal) (h : ∀ i, P i = 1#1 → g i = g' (f i)) :
    (∑ i, if P i = 1#1 then g i else 0) = ∑ j, if P' j = 1#1 then g' j else 0 := by
  rw [← Finset.sum_filter, ← Finset.sum_filter]
  refine Finset.sum_nbij f ?_ ?_ ?_ ?_
  · intro i hi
    simp only [Finset.mem_filter, Finset.mem_univ, true_and] at hi ⊢
    exact hP i hi
  · intro i hi j hj e
    simp only [Finset.coe_filter, Finset.mem_univ, true_and, Set.mem_setOf_eq] at hi hj
    exact hinj i j hi hj e
  · intro j hj
    simp only [Finset.coe_filter, Finset.mem_univ, true_and, Set.mem_setOf_eq] at hj
    obtain ⟨i, hi, e⟩ := hsurj j hj
    exact ⟨i, by simpa using hi, e⟩
  · intro i hi
    simp only [Finset.mem_filter, Finset.mem_univ, true_and] at hi
    exact h i hi

include hP hsurj in
/-- The largest score, relabelled. -/
theorem top_marked (s : Fin n → EReal) (s' : Fin n' → EReal) (h : ∀ i, P i = 1#1 → s i = s' (f i)) : top P s = top P' s' := by
  unfold top
  simp only [select_ite]
  refine le_antisymm ?_ ?_
  · rw [Finset.fold_max_le]
    refine ⟨bot_le, fun i _ => ?_⟩
    split
    next hi =>
      refine (Finset.le_fold_max _).mpr (.inr ⟨f i, Finset.mem_univ _, ?_⟩)
      rw [if_pos (hP i hi), h i hi]
    next => exact bot_le
  · rw [Finset.fold_max_le]
    refine ⟨bot_le, fun j _ => ?_⟩
    split
    next hj =>
      obtain ⟨i, hi, e⟩ := hsurj j hj
      refine (Finset.le_fold_max _).mpr (.inr ⟨i, Finset.mem_univ _, ?_⟩)
      rw [if_pos hi, h i hi, e]
    next => exact bot_le

include hP hinj hsurj in
/-- THE ROW, RELABELLED: two layouts whose marked places carry the same scores and values have the same row. -/
theorem soft_marked (s v : Fin n → EReal) (s' v' : Fin n' → EReal) (h : ∀ i, P i = 1#1 → s i = s' (f i) ∧ v i = v' (f i)) :
    soft P s v = soft P' s' v' := by
  have ht := top_marked P P' f hP hsurj s s' fun i hi => (h i hi).1
  have hr : ∀ i, P i = 1#1 → rise P s i = rise P' s' (f i) := fun i hi => by
    rw [rise_eq, rise_eq, if_pos hi, if_pos (hP i hi), ht, (h i hi).1]
  have hl : (∑ j, rise P s j) = ∑ j, rise P' s' j := by
    simp only [rise_eq]
    exact sum_marked P P' f hP hinj hsurj _ _ fun i hi => by rw [ht, (h i hi).1]
  rw [soft_def, soft_def]
  refine sum_marked P P' f hP hinj hsurj _ _ fun i hi => ?_
  rw [hr i hi, hl, (h i hi).2]

/-! ## What the attention call leaves, entry by entry -/

/-- The word that says whether key `j` lies in the window of query `i`. -/
def near (i j : ℕ) : BitVec 1 :=
  IntOp.andi (IntOp.cmpi .sge (BitVec.ofNat 32 j) (IntOp.subi (BitVec.ofNat 32 i) 128#32))
    (IntOp.cmpi .sle (BitVec.ofNat 32 j) (IntOp.addi (BitVec.ofNat 32 i) 128#32))

/-- Row `j` of batch `b`, of two batches of `n` rows each. -/
def slot {n N : ℕ} (hN : 2 * n = N) (b : Fin 2) (j : Fin n) : Fin N :=
  ⟨b.val * n + j.val, by have := j.isLt; obtain rfl | rfl : b = 0 ∨ b = 1 := by omega
                         · simp; omega
                         · simp; omega⟩

/-- The masked row of query `i` of batch `b` over that batch's keys. -/
def over {n N : ℕ} (hN : 2 * n = N) (q : (⟨2, ![4096, 1024]⟩ : Shape).Idx → EReal) (k v : (⟨2, ![N, 1024]⟩ : Shape).Idx → EReal)
    (b : Fin 2) (i : Fin 2048) (d : Fin 1024) : EReal :=
  soft (fun j : Fin n => near i.val j.val) (fun j => ∑ e : Fin 1024, q (ix2 (slot rfl b i) e) * k (ix2 (slot hN b j) e))
    (fun j => v (ix2 (slot hN b j) d))

/-- The three rows, each times its gate, -/
def mixed (q k v : (⟨2, ![4096, 1024]⟩ : Shape).Idx → EReal) (g : (⟨2, ![4096, 8]⟩ : Shape).Idx → EReal)
    (sk sv : (⟨2, ![1024, 1024]⟩ : Shape).Idx → EReal) (ck cv : (⟨2, ![128, 1024]⟩ : Shape).Idx → EReal)
    (b : Fin 2) (i : Fin 2048) (d : Fin 1024) : EReal :=
  g (ix2 (slot rfl b i) 2) * over (n := 64) rfl q ck cv b i d + g (ix2 (slot rfl b i) 3) * over (n := 512) rfl q sk sv b i d
    + g (ix2 (slot rfl b i) 4) * over (n := 2048) rfl q k v b i d

/-- and their projection. -/
def attended (q k v : (⟨2, ![4096, 1024]⟩ : Shape).Idx → EReal) (g : (⟨2, ![4096, 8]⟩ : Shape).Idx → EReal)
    (sk sv : (⟨2, ![1024, 1024]⟩ : Shape).Idx → EReal) (ck cv : (⟨2, ![128, 1024]⟩ : Shape).Idx → EReal)
    (w : (⟨2, ![1024, 1024]⟩ : Shape).Idx → EReal) (o : (⟨1, ![1024]⟩ : Shape).Idx → EReal) (b : Fin 2) (i : Fin 2048) (d : Fin 1024) : EReal :=
  (∑ e : Fin 1024, mixed q k v g sk sv ck cv b i e * w (ix2 d e)) + o (ix1 d)

/-- The rows of both batches, one under the other. -/
def rows (f : Fin 2 → Fin 2048 → Fin 1024 → EReal) : (⟨2, ![4096, 1024]⟩ : Shape).Idx → EReal := fun y =>
  f ⟨(y 0).val / 2048, by have : (y 0).val < 4096 := (y 0).isLt; omega⟩ ⟨(y 0).val % 2048, by omega⟩ (y 1)

theorem rows_apply (f : Fin 2 → Fin 2048 → Fin 1024 → EReal) (b : Fin 2) (i : Fin 2048) (d : Fin 1024) :
    rows f (ix2 (slot rfl b i) d) = f b i d := by
  have hb := b.isLt
  have hi := i.isLt
  refine congrFun (congr (congrArg f (Fin.ext ?_)) (Fin.ext ?_)) d
  · show (b.val * 2048 + i.val) / 2048 = b.val; omega
  · show (b.val * 2048 + i.val) % 2048 = i.val; omega

/-- Every index of the rows is some batch's some query's. -/
theorem rows_cover (y : (⟨2, ![4096, 1024]⟩ : Shape).Idx) :
    ∃ (b : Fin 2) (i : Fin 2048) (d : Fin 1024), y = ix2 (slot rfl b i) d := by
  have h : (y 0).val < 4096 := (y 0).isLt
  refine ⟨⟨(y 0).val / 2048, by omega⟩, ⟨(y 0).val % 2048, by omega⟩, y 1, ?_⟩
  funext a
  fin_cases a
  · refine Fin.ext ?_
    show (y 0).val = (y 0).val / 2048 * 2048 + (y 0).val % 2048
    omega
  · rfl

end Cert.Attention

end
-- ==== Proof.AttendTile.lean ====
/-
  The attention call's body, read over the extended reals: the values that a point's body computes of its blocks, entry by entry.
-/
module

public import proofs.«01_k».proof.Proof.Gen.AttendIdeal.Skeleton
public import proofs.«01_k».proof.Proof.AttendRows
public import Idealize.ShloMosaic.Lib.Pipeline.ValueKit
public import Idealize.ShloMosaic.Lib.Pointwise.Tactic
public import Idealize.ShloMosaic.Lib.Pointwise.Sums
public import Idealize.ShloMosaic.Lib.Tactic

@[expose] public section

noncomputable section

open Idealize.ShloMosaic Idealize.ShloMosaic.TcCoe Idealize.SL.Sem

namespace Cert.AttendIdeal.Read

open Cert.AttendIdeal Cert.AttendIdeal.Gen Cert.Attention

/-- The named constant is minus infinity. -/
theorem mask_word : (Named.named κ "mask" 0xF149F2CA#32 : Ideal .f32) = ⊥ := by
  simp [Named.named, κ]
theorem least_word : Ideal.ofBits FTy.f32 0xFF800000#32 = ⊥ := by simp [Ideal.ofBits, Ideal.ieee]
theorem nought_word : Ideal.ofBits FTy.f32 0x00000000#32 = 0 := by simp [Ideal.ofBits, Ideal.ieee]

/-- Three blocks of 128 places, side by side. -/
def beside {α : Type} (f g h : Fin 128 → α) (x : Fin 384) : α :=
  if h0 : x.val < 128 then f ⟨x.val, h0⟩ else if h1 : x.val - 128 < 128 then g ⟨x.val - 128, h1⟩
    else h ⟨x.val - 128 - 128, by have := x.isLt; omega⟩

/-- The word of a query's and a key's number that says whether the key is in the window. -/
def window (i j : BitVec 32) : BitVec 1 :=
  IntOp.andi (IntOp.cmpi .sge j (IntOp.subi i 128#32)) (IntOp.cmpi .sle j (IntOp.addi i 128#32))

/-- The word with the number of keys and the block's flag. -/
def marked (i j lim : BitVec 32) (e : BitVec 1) : BitVec 1 := IntOp.andi (IntOp.andi (window i j) (IntOp.cmpi .slt j lim)) e

theorem pay15_apply (v4 : IVec S128x1 32) (v11 : IVec S1x128 32) (e : BitVec 1) (r l : Fin 128) :
    k0_pay15 v4 v11 e 128#32 (ix2 r l) = marked (v4 (ix2 r 0)) (v11 (ix2 0 l)) 2048#32 e := by
  simp [k0_pay15, marked, window, pointwise]
theorem pay17_apply (v4 : IVec S128x1 32) (v14 : IVec S1x128 32) (r l : Fin 128) :
    k0_pay17 v4 v14 (ix2 r l) = marked (v4 (ix2 r 0)) (v14 (ix2 0 l)) 2048#32 1#1 := by
  simp [k0_pay17, marked, window, pointwise]
theorem pay19_apply (v4 : IVec S128x1 32) (v20 : IVec S1x128 32) (r l : Fin 128) :
    k0_pay19 v4 v20 (ix2 r l) = window (v4 (ix2 r 0)) (v20 (ix2 0 l)) := by
  simp [k0_pay19, window, pointwise]
theorem pay20_apply (v20 : IVec S1x128 32) (l : Fin 128) : k0_pay20 v20 (ix2 0 l) = IntOp.cmpi .slt (v20 (ix2 0 l)) 2048#32 := by
  simp [k0_pay20, pointwise]
theorem pay8_apply (v4 : IVec S128x1 32) (v130 v135 v141 : IVec S1x128 32) (e0 e1 e2 : BitVec 1) (v156 : IVec S128x128 1) (r : Fin 128)
    (h : ∀ l, v156 (ix2 r l) = IntOp.cmpi .sge (v130 (ix2 0 l)) (IntOp.subi (v4 (ix2 r 0)) 128#32)) (x : Fin 384) :
    k0_pay8 v4 v130 v135 v141 e0 e1 e2 v156 (ix2 r x)
      = beside (fun l => marked (v4 (ix2 r 0)) (v130 (ix2 0 l)) 512#32 e0) (fun l => marked (v4 (ix2 r 0)) (v135 (ix2 0 l)) 512#32 e1)
          (fun l => marked (v4 (ix2 r 0)) (v141 (ix2 0 l)) 512#32 e2) x := by
  simp [k0_pay8, marked, window, beside, h, pointwise]

theorem product_apply (q k : FVec Ideal S128x1024 .bf16) (r l : Fin 128) :
    k0_pay14 (F := Ideal) q k (ix2 r l) = ∑ e : Fin 1024, q (ix2 r e) * k (ix2 l e) := by
  simp [k0_pay14, pointwise]

theorem pay7_apply (q k0 k1 k2 : FVec Ideal S128x1024 .bf16) (r : Fin 128) (x : Fin 384) :
    k0_pay7 (F := Ideal) q k1 k2 (k0_pay5 (F := Ideal) q k0) (ix2 r x)
      = beside (fun l => ∑ e : Fin 1024, q (ix2 r e) * k0 (ix2 l e)) (fun l => ∑ e : Fin 1024, q (ix2 r e) * k1 (ix2 l e))
          (fun l => ∑ e : Fin 1024, q (ix2 r e) * k2 (ix2 l e)) x := by
  simp [k0_pay7, k0_pay5, beside, pointwise]

theorem pay22_apply (g : FVec Ideal S128x8 .f32) (v0 v1 v2 : FVec Ideal S128x1024 .bf16) (s : FVec Ideal S128x384 .f32)
    (p : IVec S128x384 1) (acc : FVec Ideal S128x1024 .f32) (r : Fin 128) (d : Fin 1024) :
    k0_pay22 (F := Ideal) g v0 v1 v2 s p acc (ix2 r d)
      = acc (ix2 r d) + g (ix2 r 3) * soft (fun x => p (ix2 r x)) (fun x => s (ix2 r x))
          (beside (fun l => v0 (ix2 l d)) (fun l => v1 (ix2 l d)) (fun l => v2 (ix2 l d))) := by
  simp [k0_pay22, soft, rise, top, beside, mask_word, least_word, pointwise]

theorem pay21_apply (v0 v1 v2 : FVec Ideal S128x1024 .bf16) (e : BitVec 1) (s0 : FVec Ideal S128x128 .f32) (p0 : IVec S128x128 1)
    (s1 : FVec Ideal S128x128 .f32) (p1 : IVec S128x128 1) (s2 : FVec Ideal S128x128 .f32) (p2 : IVec S128x128 1) (l2 : IVec S1x128 1)
    (g : FVec Ideal S128x8 .f32) (r : Fin 128) (d : Fin 1024) :
    k0_pay21 (F := Ideal) v0 v1 v2 e s0 p0 s1 p1 s2 p2 l2 g (ix2 r d)
      = g (ix2 r 4) * soft (beside (fun l => p0 (ix2 r l)) (fun l => p1 (ix2 r l)) (fun l => IntOp.andi (IntOp.andi (p2 (ix2 r l)) (l2 (ix2 0 l))) e))
          (beside (fun l => s0 (ix2 r l)) (fun l => s1 (ix2 r l)) (fun l => s2 (ix2 r l)))
          (beside (fun l => v0 (ix2 l d)) (fun l => v1 (ix2 l d)) (fun l => v2 (ix2 l d))) := by
  simp [k0_pay21, soft, rise, top, beside, mask_word, least_word, pointwise]

theorem pay9_apply (q : FVec Ideal S128x1024 .bf16) (v4 : IVec S128x1 32) (g : FVec Ideal S128x8 .f32) (k v : FVec Ideal S64x1024 .f32)
    (acc : FVec Ideal S128x1024 .f32) (r : Fin 128) (d : Fin 1024) :
    k0_pay9 (F := Ideal) q v4 g k v acc (ix2 r d)
      = acc (ix2 r d) + g (ix2 r 2) * soft (fun l : Fin 64 => marked (v4 (ix2 r 0)) (BitVec.ofNat 32 l.val) 64#32 1#1)
          (fun l => ∑ e : Fin 1024, q (ix2 r e) * k (ix2 l e)) (fun l => v (ix2 l d)) := by
  simp [k0_pay9, soft, rise, top, marked, window, mask_word, least_word, pointwise]

theorem pay1_apply (x : FVec Ideal S128x1024 .f32) (w : FVec Ideal S1024x1024 .bf16) (o : FVec Ideal S1x1024 .f32) (r : Fin 128) (d : Fin 1024) :
    k0_pay1 (F := Ideal) (k0_pay24 (F := Ideal) x) w o (ix2 r d) = (∑ e : Fin 1024, x (ix2 r e) * w (ix2 d e)) + o (ix2 0 d) := by
  simp [k0_pay1, k0_pay24, pointwise]

end Cert.AttendIdeal.Read
-- ==== Proof.AttendWords.lean ====
/-
  The attention call's windows: which lanes of a point's key blocks hold a key of a query's window, and that the masked row over
  those lanes is the masked row over the keys.
-/
module

public import proofs.«01_k».proof.Proof.AttendTile
public import Idealize.ShloMosaic.Lib.WordCmp

@[expose] public section

noncomputable section

open Idealize.ShloMosaic Idealize.ShloMosaic.TcCoe Idealize.SL.Sem

namespace Cert.AttendIdeal.Read

open Cert.AttendIdeal Cert.AttendIdeal.Gen Cert.Attention

theorem and_one (a b : BitVec 1) : IntOp.andi a b = 1#1 ↔ a = 1#1 ∧ b = 1#1 := by
  revert a b; decide

/-- The window's word, by the numbers. -/
theorem window_iff {i j : ℕ} (hi : i < 2048) (hj : j < 2048) :
    window (BitVec.ofNat 32 i) (BitVec.ofNat 32 j) = 1#1 ↔ i ≤ j + 128 ∧ j ≤ i + 128 := by
  have hs : (IntOp.subi (BitVec.ofNat 32 i) 128#32).toInt = (i : ℤ) - 128 := by
    show (BitVec.ofNat 32 i - 128#32).toInt = _
    rw [BitVec.toInt_sub, WordCmp.toInt_ofNat_of_lt (by omega), show (128#32 : BitVec 32).toInt = 128 from rfl]
    rw [Int.bmod_eq_of_le] <;> omega
  have ha : (IntOp.addi (BitVec.ofNat 32 i) 128#32).toInt = (i : ℤ) + 128 := by
    show (BitVec.ofNat 32 i + 128#32).toInt = _
    rw [BitVec.toInt_add, WordCmp.toInt_ofNat_of_lt (by omega), show (128#32 : BitVec 32).toInt = 128 from rfl]
    rw [Int.bmod_eq_of_le] <;> omega
  unfold window
  rw [and_one, WordCmp.cmpi_sge_eq, WordCmp.cmpi_sle_eq, WordCmp.ofBool_decide_eq_one_iff, WordCmp.ofBool_decide_eq_one_iff, hs, ha,
    WordCmp.toInt_ofNat_of_lt (by omega)]
  omega

theorem marked_iff {i j n : ℕ} (hi : i < 2048) (hj : j < 2048) (hn : n ≤ 2048) (e : BitVec 1) :
    marked (BitVec.ofNat 32 i) (BitVec.ofNat 32 j) (BitVec.ofNat 32 n) e = 1#1 ↔ (i ≤ j + 128 ∧ j ≤ i + 128) ∧ j < n ∧ e = 1#1 := by
  unfold marked
  rw [and_one, and_one, window_iff hi hj, WordCmp.cmpi_slt_ofNat_eq_one_iff (by omega) (by omega), and_assoc]

/-- A band that no key is near to. -/
theorem band_none {n : ℕ} (hn : n ≤ 2048) (i : ℕ) (hi : i < 2048) (h : n + 128 ≤ i) (s v : Fin n → EReal) :
    soft (fun j : Fin n => near i j.val) s v = 0 :=
  soft_none _ _ _ fun j e => by
    have := (window_iff hi (j.isLt.trans_le hn)).mp e
    have := j.isLt
    omega

/-- A band over keys that lie one after the other. -/
theorem band_one {n : ℕ} (hn : n ≤ 2048) (i : ℕ) (hi : i < 2048) (s v : Fin n → EReal) :
    soft (fun j : Fin n => marked (BitVec.ofNat 32 i) (BitVec.ofNat 32 j.val) (BitVec.ofNat 32 n) 1#1) s v
      = soft (fun j : Fin n => near i j.val) s v := by
  have key : ∀ j : Fin n, marked (BitVec.ofNat 32 i) (BitVec.ofNat 32 j.val) (BitVec.ofNat 32 n) 1#1 = 1#1 ↔ near i j.val = 1#1 := fun j => by
    have hj := j.isLt
    rw [marked_iff hi (by omega) hn, show near i j.val = window (BitVec.ofNat 32 i) (BitVec.ofNat 32 j.val) from rfl,
      window_iff hi (by omega)]
    simp [hj]
  exact soft_marked _ _ id (fun j h => (key j).mp h) (fun _ _ _ _ h => h) (fun j h => ⟨j, (key j).mpr h, rfl⟩) _ _ _ _ fun _ _ => ⟨rfl, rfl⟩

/-- Block `B` of 128 keys, lane `l`. -/
def lane {n M : ℕ} (hn : n = M * 128) (B : ℕ) (hB : B < M) (l : Fin 128) : Fin n :=
  ⟨B * 128 + l.val, by have := l.isLt; omega⟩

/-- The band over the block before the query's, the query's and the one after, each dropped where there is none. -/
theorem band_three {n M : ℕ} (hn : n = M * 128) (hM : M ≤ 16) (q : ℕ) (hq : q < 16) (hqM : q ≤ M) (r : Fin 128) (B0 B1 B2 : ℕ)
    (hB0 : B0 < M) (hB1 : B1 < M) (hB2 : B2 < M) (b0 : 1 ≤ q → B0 + 1 = q) (b1 : q < M → B1 = q) (b2 : q + 1 < M → B2 = q + 1)
    (e0 e1 e2 : BitVec 1) (h0 : e0 = 1#1 ↔ 1 ≤ q) (h1 : e1 = 1#1 ↔ q < M) (h2 : e2 = 1#1 ↔ q + 1 < M) (s v : Fin n → EReal) :
    soft (beside (fun l => marked (BitVec.ofNat 32 (q * 128 + r.val)) (BitVec.ofNat 32 (B0 * 128 + l.val)) (BitVec.ofNat 32 n) e0)
        (fun l => marked (BitVec.ofNat 32 (q * 128 + r.val)) (BitVec.ofNat 32 (B1 * 128 + l.val)) (BitVec.ofNat 32 n) e1)
        (fun l => marked (BitVec.ofNat 32 (q * 128 + r.val)) (BitVec.ofNat 32 (B2 * 128 + l.val)) (BitVec.ofNat 32 n) e2))
      (beside (fun l => s (lane hn B0 hB0 l)) (fun l => s (lane hn B1 hB1 l)) (fun l => s (lane hn B2 hB2 l)))
      (beside (fun l => v (lane hn B0 hB0 l)) (fun l => v (lane hn B1 hB1 l)) (fun l => v (lane hn B2 hB2 l)))
      = soft (fun j : Fin n => near (q * 128 + r.val) j.val) s v := by
  have hr := r.isLt
  have hi : q * 128 + r.val < 2048 := by omega
  let f : Fin 384 → Fin n := beside (lane hn B0 hB0) (lane hn B1 hB1) (lane hn B2 hB2)
  -- a lane's word, by the numbers: the key is near and its block is one of the blocks
  have key : ∀ x : Fin 384, (beside (fun l => marked (BitVec.ofNat 32 (q * 128 + r.val)) (BitVec.ofNat 32 (B0 * 128 + l.val)) (BitVec.ofNat 32 n) e0)
        (fun l => marked (BitVec.ofNat 32 (q * 128 + r.val)) (BitVec.ofNat 32 (B1 * 128 + l.val)) (BitVec.ofNat 32 n) e1)
        (fun l => marked (BitVec.ofNat 32 (q * 128 + r.val)) (BitVec.ofNat 32 (B2 * 128 + l.val)) (BitVec.ofNat 32 n) e2) x = 1#1
      ↔ (q * 128 + r.val ≤ (f x).val + 128 ∧ (f x).val ≤ q * 128 + r.val + 128) ∧ 1 ≤ q + x.val / 128 ∧ q + x.val / 128 ≤ M)
      ∧ (1 ≤ q + x.val / 128 → q + x.val / 128 ≤ M → (f x).val + 128 = q * 128 + x.val) := by
    intro x
    have hx := x.isLt
    simp only [f, beside, lane]
    split
    · rw [marked_iff hi (by omega) (by omega), h0]
      refine ⟨⟨fun h => ⟨h.1, by omega, by omega⟩, fun h => ⟨h.1, by omega, by omega⟩⟩, fun _ _ => ?_⟩
      have := b0 (by omega)
      show B0 * 128 + x.val + 128 = _
      omega
    · split
      · rw [marked_iff hi (by omega) (by omega), h1]
        refine ⟨⟨fun h => ⟨h.1, by omega, by omega⟩, fun h => ⟨h.1, by omega, by omega⟩⟩, fun _ _ => ?_⟩
        have := b1 (by omega)
        show B1 * 128 + (x.val - 128) + 128 = _
        omega
      · rw [marked_iff hi (by omega) (by omega), h2]
        refine ⟨⟨fun h => ⟨h.1, by omega, by omega⟩, fun h => ⟨h.1, by omega, by omega⟩⟩, fun _ _ => ?_⟩
        have := b2 (by omega)
        show B2 * 128 + (x.val - 128 - 128) + 128 = _
        omega
  have nearby : ∀ j : Fin n, near (q * 128 + r.val) j.val = 1#1 ↔ q * 128 + r.val ≤ j.val + 128 ∧ j.val ≤ q * 128 + r.val + 128 :=
    fun j => window_iff hi (by have := j.isLt; omega)
  refine soft_marked _ _ f (fun x h => (nearby _).mpr ((key x).1.mp h).1) (fun x y hx hy e => ?_) (fun j hj => ?_) _ _ _ _ (fun x _ => ?_)
  · have ax := (key x).1.mp hx
    have ay := (key y).1.mp hy
    have cx := (key x).2 ax.2.1 ax.2.2
    have cy := (key y).2 ay.2.1 ay.2.2
    rw [e] at cx
    exact Fin.ext (by omega)
  · have hj' := (nearby j).mp hj
    have hl := j.isLt
    have hx : j.val + 128 - q * 128 < 384 := by omega
    have c := (key ⟨j.val + 128 - q * 128, hx⟩).2 (by show 1 ≤ q + (j.val + 128 - q * 128) / 128; omega)
      (by show q + (j.val + 128 - q * 128) / 128 ≤ M; omega)
    have e : f ⟨j.val + 128 - q * 128, hx⟩ = j := Fin.ext (by
      have c' : (f ⟨j.val + 128 - q * 128, hx⟩).val + 128 = q * 128 + (j.val + 128 - q * 128) := c
      omega)
    refine ⟨_, (key ⟨j.val + 128 - q * 128, hx⟩).1.mpr ⟨by rw [e]; exact hj', ?_, ?_⟩, e⟩
    · show 1 ≤ q + (j.val + 128 - q * 128) / 128; omega
    · show q + (j.val + 128 - q * 128) / 128 ≤ M; omega
  · simp only [f, beside]
    split
    · exact ⟨rfl, rfl⟩
    · split <;> exact ⟨rfl, rfl⟩

/-! ## The numbers that a point computes -/

section Numbers

variable (i : grid0.Coords)

theorem number (q l : ℕ) : IntOp.addi (BitVec.ofNat 32 (q * 128)) (BitVec.ofNat 32 l) = BitVec.ofNat 32 (q * 128 + l) := by
  show BitVec.ofNat 32 (q * 128) + BitVec.ofNat 32 l = _
  rw [BitVec.ofNat_add]

theorem here_word : ∀ q : Fin 16, IntOp.muli (BitVec.ofNat 32 q.val) 128#32 = BitVec.ofNat 32 (q.val * 128) := by decide +kernel
theorem before_word : ∀ q : Fin 16, Scalar.muli (Scalar.minsi 15#32 (Scalar.maxsi 0#32 (Scalar.subi (BitVec.ofNat 32 q.val) 1#32))) 128#32
    = BitVec.ofNat 32 ((q.val - 1) * 128) := by decide +kernel
theorem after_word : ∀ q : Fin 16, Scalar.muli (Scalar.minsi 15#32 (Scalar.maxsi 0#32 (Scalar.addi (BitVec.ofNat 32 q.val) 1#32))) 128#32
    = BitVec.ofNat 32 (min 15 (q.val + 1) * 128) := by decide +kernel
theorem before_four : ∀ q : Fin 16, Scalar.muli (Scalar.minsi 3#32 (Scalar.maxsi 0#32 (Scalar.subi (BitVec.ofNat 32 q.val) 1#32))) 128#32
    = BitVec.ofNat 32 (min 3 (q.val - 1) * 128) := by decide +kernel
theorem here_four : ∀ q : Fin 16, Scalar.muli (Scalar.minsi 3#32 (Scalar.maxsi 0#32 (BitVec.ofNat 32 q.val))) 128#32
    = BitVec.ofNat 32 (min 3 q.val * 128) := by decide +kernel
theorem after_four : ∀ q : Fin 16, Scalar.muli (Scalar.minsi 3#32 (Scalar.maxsi 0#32 (Scalar.addi (BitVec.ofNat 32 q.val) 1#32))) 128#32
    = BitVec.ofNat 32 (min 3 (q.val + 1) * 128) := by decide +kernel
theorem at_least : ∀ q : Fin 16, Scalar.cmpi .sge (BitVec.ofNat 32 q.val) 1#32 = 1#1 ↔ 1 ≤ q.val := by decide +kernel
theorem at_most_14 : ∀ q : Fin 16, Scalar.cmpi .sle (BitVec.ofNat 32 q.val) 14#32 = 1#1 ↔ q.val + 1 < 16 := by decide +kernel
theorem at_most_3 : ∀ q : Fin 16, Scalar.cmpi .sle (BitVec.ofNat 32 q.val) 3#32 = 1#1 ↔ q.val < 4 := by decide +kernel
theorem at_most_2 : ∀ q : Fin 16, Scalar.cmpi .sle (BitVec.ofNat 32 q.val) 2#32 = 1#1 ↔ q.val + 1 < 4 := by decide +kernel

/-- A block's first number, at every lane, plus the lane. -/
theorem numbers (w : BitVec 32) (v : IVec S1x128 32) (l : Fin 128) (hv : v (ix2 0 l) = BitVec.ofNat 32 l.val) (B : ℕ) (hw : w = BitVec.ofNat 32 (B * 128)) :
    addi (broadcast S1x128 w) v (ix2 0 l) = BitVec.ofNat 32 (B * 128 + l.val) := by
  show IntOp.addi w (v (ix2 0 l)) = _
  rw [hv, hw, number]

theorem lanes_apply (l : Fin 128) : iota .tc S1x128 32 [1] iota_S1x128_d1_w32 (ix2 0 l) = BitVec.ofNat 32 l.val := by simp [pointwise]

theorem pay10_apply (r : Fin 128) : k0_pay10 i (ix2 r 0) = BitVec.ofNat 32 ((i 1).val * 128 + r.val) := by
  have h : k0_pay10 i (ix2 r 0) = IntOp.addi (IntOp.muli (BitVec.ofNat 32 (i 1).val) 128#32) (BitVec.ofNat 32 r.val) := by
    simp [k0_pay10, pointwise]
    rfl
  rw [h, here_word (i 1), number]
theorem pay11_apply (l : Fin 128) : k0_pay11 i (ix2 0 l) = BitVec.ofNat 32 (((i 1).val - 1) * 128 + l.val) :=
  numbers _ _ l (lanes_apply l) _ (before_word (i 1))
theorem pay12_apply (l : Fin 128) : k0_pay12 i (ix2 0 l) = BitVec.ofNat 32 ((i 1).val * 128 + l.val) :=
  numbers _ _ l (lanes_apply l) _ (here_word (i 1))
theorem pay13_apply (l : Fin 128) : k0_pay13 i (ix2 0 l) = BitVec.ofNat 32 (min 15 ((i 1).val + 1) * 128 + l.val) :=
  numbers _ _ l (lanes_apply l) _ (after_word (i 1))
theorem pay2_apply (v5 : IVec S1x128 32) (h : ∀ l : Fin 128, v5 (ix2 0 l) = BitVec.ofNat 32 l.val) (l : Fin 128) :
    k0_pay2 (BitVec.ofNat 32 (i 1).val) v5 (ix2 0 l) = BitVec.ofNat 32 (min 3 ((i 1).val - 1) * 128 + l.val) :=
  numbers _ _ l (h l) _ (before_four (i 1))
theorem pay3_apply (v5 : IVec S1x128 32) (h : ∀ l : Fin 128, v5 (ix2 0 l) = BitVec.ofNat 32 l.val) (l : Fin 128) :
    k0_pay3 (BitVec.ofNat 32 (i 1).val) v5 (ix2 0 l) = BitVec.ofNat 32 (min 3 (i 1).val * 128 + l.val) :=
  numbers _ _ l (h l) _ (here_four (i 1))
theorem pay4_apply (v5 : IVec S1x128 32) (h : ∀ l : Fin 128, v5 (ix2 0 l) = BitVec.ofNat 32 l.val) (l : Fin 128) :
    k0_pay4 (BitVec.ofNat 32 (i 1).val) v5 (ix2 0 l) = BitVec.ofNat 32 (min 3 ((i 1).val + 1) * 128 + l.val) :=
  numbers _ _ l (h l) _ (after_four (i 1))
theorem pay6_apply (v4 : IVec S128x1 32) (v5 : IVec S1x128 32) (a : BitVec 32) (r l : Fin 128) :
    k0_pay6 a v4 v5 (ix2 r l) = IntOp.cmpi .sge (k0_pay2 a v5 (ix2 0 l)) (IntOp.subi (v4 (ix2 r 0)) 128#32) := by
  simp [k0_pay6, pointwise]

end Numbers

end Cert.AttendIdeal.Read
-- ==== Proof.AttendValue.lean ====
/-
  The attention call, read: what its result array holds after the run, over the extended reals.
-/
module

public import proofs.«01_k».proof.Proof.AttendFrame
public import proofs.«01_k».proof.Proof.AttendWords
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.AttendIdeal.Read

open Cert.AttendIdeal Cert.AttendIdeal.Gen Cert.Attention

variable (m : (ℓ : Loc nD τ sig) → Buf (Elt Ideal) ℓ) (ρ : Dev nD → PrngReg)

/-! ## What a point's body leaves, as its payloads -/

/-- The window band's share of a point's rows, -/
def wide (c : Dev nD) (t : Fin cfg0.N) : FVec Ideal S128x1024 .f32 :=
  k0_pay21 (F := Ideal) (iblk m c 4 t) (iblk m c 5 t) (iblk m c 6 t)
    (Scalar.cmpi .sle (BitVec.ofNat 32 (grid0.coords t 1).val) 14#32)
    (k0_pay14 (F := Ideal) (iblk m c 0 t) (iblk m c 1 t))
    (k0_pay15 (k0_pay10 (grid0.coords t)) (k0_pay11 (grid0.coords t)) (Scalar.cmpi .sge (BitVec.ofNat 32 (grid0.coords t 1).val) 1#32) 128#32)
    (k0_pay16 (F := Ideal) (iblk m c 0 t) (iblk m c 2 t)) (k0_pay17 (k0_pay10 (grid0.coords t)) (k0_pay12 (grid0.coords t)))
    (k0_pay18 (F := Ideal) (iblk m c 0 t) (iblk m c 3 t)) (k0_pay19 (k0_pay10 (grid0.coords t)) (k0_pay13 (grid0.coords t)))
    (k0_pay20 (k0_pay13 (grid0.coords t))) (iblk m c 15 t)

/-- the selected band's added, -/
def chosen (c : Dev nD) (t : Fin cfg0.N) : FVec Ideal S128x1024 .f32 :=
  k0_pay22 (F := Ideal) (iblk m c 15 t) (iblk m c 10 t) (iblk m c 11 t) (iblk m c 12 t)
    (k0_pay7 (F := Ideal) (iblk m c 0 t) (iblk m c 8 t) (iblk m c 9 t) (k0_pay5 (F := Ideal) (iblk m c 0 t) (iblk m c 7 t)))
    (k0_pay8 (k0_pay10 (grid0.coords t)) (k0_pay2 (BitVec.ofNat 32 (grid0.coords t 1).val) (iota .tc S1x128 32 [1] iota_S1x128_d1_w32))
      (k0_pay3 (BitVec.ofNat 32 (grid0.coords t 1).val) (iota .tc S1x128 32 [1] iota_S1x128_d1_w32))
      (k0_pay4 (BitVec.ofNat 32 (grid0.coords t 1).val) (iota .tc S1x128 32 [1] iota_S1x128_d1_w32))
      (Scalar.cmpi .sge (BitVec.ofNat 32 (grid0.coords t 1).val) 1#32) (Scalar.cmpi .sle (BitVec.ofNat 32 (grid0.coords t 1).val) 3#32)
      (Scalar.cmpi .sle (BitVec.ofNat 32 (grid0.coords t 1).val) 2#32)
      (k0_pay6 (BitVec.ofNat 32 (grid0.coords t 1).val) (k0_pay10 (grid0.coords t)) (iota .tc S1x128 32 [1] iota_S1x128_d1_w32)))
    (wide m c t)

/-- and the compressed band's. -/
def packed (c : Dev nD) (t : Fin cfg0.N) : FVec Ideal S128x1024 .f32 :=
  k0_pay9 (F := Ideal) (iblk m c 0 t) (k0_pay10 (grid0.coords t)) (iblk m c 15 t) (iblk m c 13 t) (iblk m c 14 t) (chosen m c t)

/-! The block that a point leaves, by its query block's number. -/

theorem outsAt0_wide (c : Dev nD) (t : Fin cfg0.N) (h0 : ¬ t.val % 16 ≤ 4) (h1 : ¬ t.val % 16 ≤ 1) :
    outsAt0 m c t = k0_pay1 (F := Ideal) (k0_pay24 (F := Ideal) (wide m c t)) (iblk m c 16 t) (iblk m c 17 t) := by
  rw [outsAt0_C m c t h0 h1]
  frame_out
  rfl

/-- Three blocks side by side, block by block. -/
theorem side_congr {x y z x' y' z' : FVec Ideal S128x128 .f32} (hx : x = x') (hy : y = y') (hz : z = z') :
    concatenate S128x384 1 [⟨S128x128, x⟩, ⟨S128x128, y⟩, ⟨S128x128, z⟩] concatenates_S128x128_S128x128_S128x128_S128x384_d1 = concatenate S128x384 1 [⟨S128x128, x'⟩, ⟨S128x128, y'⟩, ⟨S128x128, z'⟩] concatenates_S128x128_S128x128_S128x128_S128x384_d1 := by
  subst hx; subst hy; subst hz; rfl
theorem outsAt0_chosen (c : Dev nD) (t : Fin cfg0.N) (h0 : t.val % 16 ≤ 4) (h1 : ¬ t.val % 16 ≤ 1) :
    outsAt0 m c t = k0_pay1 (F := Ideal) (k0_pay24 (F := Ideal) (chosen m c t)) (iblk m c 16 t) (iblk m c 17 t) := by
  rw [outsAt0_B m c t h0 h1]
  frame_out
  dsimp only [chosen, wide, k0_pay2, k0_pay3, k0_pay4, k0_pay5, k0_pay6, k0_pay7, k0_pay8]
  refine congrArg (fun z => k0_pay1 (F := Ideal) (k0_pay24 (F := Ideal) z) _ _) ?_
  refine congr (congr (congrArg _ ?_) ?_) ?_
  · refine side_congr ?_ ?_ ?_ <;> simp (disch := decide) only [View.ld_unit_lit', Memref.IsWhole.read_unread]
  · rfl
  · rfl
theorem outsAt0_packed (c : Dev nD) (t : Fin cfg0.N) (h0 : t.val % 16 ≤ 4) (h1 : t.val % 16 ≤ 1) :
    outsAt0 m c t = k0_pay1 (F := Ideal) (k0_pay24 (F := Ideal) (k0_pay23 (F := Ideal) (packed m c t))) (iblk m c 16 t) (iblk m c 17 t) := by
  rw [outsAt0_A m c t h0 h1]
  frame_out
  dsimp only [packed, chosen, wide, k0_pay2, k0_pay3, k0_pay4, k0_pay5, k0_pay6, k0_pay7, k0_pay8]
  refine congrArg (fun z => k0_pay1 (F := Ideal) (k0_pay24 (F := Ideal) (k0_pay23 (F := Ideal) (k0_pay9 (F := Ideal) _ _ _ _ _ z))) _ _) ?_
  refine congr (congr (congrArg _ ?_) ?_) ?_
  · refine side_congr ?_ ?_ ?_ <;> simp (disch := decide) only [View.ld_unit_lit', Memref.IsWhole.read_unread]
  · rfl
  · rfl

/-! ## The points' blocks, at their coordinates in the arrays -/

/-- A point's batch, and its block of queries. -/
def bat (t : Fin cfg0.N) : Fin 2 := grid0.coords t 0
def blo (t : Fin cfg0.N) : Fin 16 := grid0.coords t 1

theorem blo_val : ∀ t : Fin cfg0.N, (blo t).val = t.val % 16 := (by decide +kernel : ∀ t : Fin grid0.N, (blo t).val = t.val % 16)

/-- The number, in its batch, of a point's `r`-th query. -/
def query (t : Fin cfg0.N) (r : Fin 128) : Fin 2048 :=
  ⟨(blo t).val * 128 + r.val, by have := (blo t).isLt; have := r.isLt; omega⟩

theorem index0 : ∀ t : Fin cfg0.N, win0_0.index t = ![(bat t).val * 16 + (blo t).val, 0] := (by decide +kernel : ∀ t : Fin grid0.N, win0_0.index t = ![(bat t).val * 16 + (blo t).val, 0])
theorem index1 : ∀ t : Fin cfg0.N, win0_1.index t = ![(bat t).val * 16 + ((blo t).val - 1), 0] := (by decide +kernel : ∀ t : Fin grid0.N, win0_1.index t = ![(bat t).val * 16 + ((blo t).val - 1), 0])
theorem index2 : ∀ t : Fin cfg0.N, win0_2.index t = ![(bat t).val * 16 + (blo t).val, 0] := (by decide +kernel : ∀ t : Fin grid0.N, win0_2.index t = ![(bat t).val * 16 + (blo t).val, 0])
theorem index3 : ∀ t : Fin cfg0.N, win0_3.index t = ![(bat t).val * 16 + (min 15 ((blo t).val + 1)), 0] := (by decide +kernel : ∀ t : Fin grid0.N, win0_3.index t = ![(bat t).val * 16 + (min 15 ((blo t).val + 1)), 0])
theorem index4 : ∀ t : Fin cfg0.N, win0_4.index t = ![(bat t).val * 16 + ((blo t).val - 1), 0] := (by decide +kernel : ∀ t : Fin grid0.N, win0_4.index t = ![(bat t).val * 16 + ((blo t).val - 1), 0])
theorem index5 : ∀ t : Fin cfg0.N, win0_5.index t = ![(bat t).val * 16 + (blo t).val, 0] := (by decide +kernel : ∀ t : Fin grid0.N, win0_5.index t = ![(bat t).val * 16 + (blo t).val, 0])
theorem index6 : ∀ t : Fin cfg0.N, win0_6.index t = ![(bat t).val * 16 + (min 15 ((blo t).val + 1)), 0] := (by decide +kernel : ∀ t : Fin grid0.N, win0_6.index t = ![(bat t).val * 16 + (min 15 ((blo t).val + 1)), 0])
theorem index7 : ∀ t : Fin cfg0.N, win0_7.index t = ![(bat t).val * 4 + min 3 ((blo t).val - 1), 0] := (by decide +kernel : ∀ t : Fin grid0.N, win0_7.index t = ![(bat t).val * 4 + min 3 ((blo t).val - 1), 0])
theorem index8 : ∀ t : Fin cfg0.N, win0_8.index t = ![(bat t).val * 4 + min 3 (blo t).val, 0] := (by decide +kernel : ∀ t : Fin grid0.N, win0_8.index t = ![(bat t).val * 4 + min 3 (blo t).val, 0])
theorem index9 : ∀ t : Fin cfg0.N, win0_9.index t = ![(bat t).val * 4 + min 3 ((blo t).val + 1), 0] := (by decide +kernel : ∀ t : Fin grid0.N, win0_9.index t = ![(bat t).val * 4 + min 3 ((blo t).val + 1), 0])
theorem index10 : ∀ t : Fin cfg0.N, win0_10.index t = ![(bat t).val * 4 + min 3 ((blo t).val - 1), 0] := (by decide +kernel : ∀ t : Fin grid0.N, win0_10.index t = ![(bat t).val * 4 + min 3 ((blo t).val - 1), 0])
theorem index11 : ∀ t : Fin cfg0.N, win0_11.index t = ![(bat t).val * 4 + min 3 (blo t).val, 0] := (by decide +kernel : ∀ t : Fin grid0.N, win0_11.index t = ![(bat t).val * 4 + min 3 (blo t).val, 0])
theorem index12 : ∀ t : Fin cfg0.N, win0_12.index t = ![(bat t).val * 4 + min 3 ((blo t).val + 1), 0] := (by decide +kernel : ∀ t : Fin grid0.N, win0_12.index t = ![(bat t).val * 4 + min 3 ((blo t).val + 1), 0])
theorem index13 : ∀ t : Fin cfg0.N, win0_13.index t = ![(bat t).val, 0] := (by decide +kernel : ∀ t : Fin grid0.N, win0_13.index t = ![(bat t).val, 0])
theorem index14 : ∀ t : Fin cfg0.N, win0_14.index t = ![(bat t).val, 0] := (by decide +kernel : ∀ t : Fin grid0.N, win0_14.index t = ![(bat t).val, 0])
theorem index15 : ∀ t : Fin cfg0.N, win0_15.index t = ![(bat t).val * 16 + (blo t).val, 0] := (by decide +kernel : ∀ t : Fin grid0.N, win0_15.index t = ![(bat t).val * 16 + (blo t).val, 0])
theorem index16 : ∀ t : Fin cfg0.N, win0_16.index t = ![0, 0] := (by decide +kernel : ∀ t : Fin grid0.N, win0_16.index t = ![0, 0])
theorem index17 : ∀ t : Fin cfg0.N, win0_17.index t = ![0, 0] := (by decide +kernel : ∀ t : Fin grid0.N, win0_17.index t = ![0, 0])
theorem index18 : ∀ t : Fin cfg0.N, win0_18.index t = ![(bat t).val * 16 + (blo t).val, 0] := (by decide +kernel : ∀ t : Fin grid0.N, win0_18.index t = ![(bat t).val * 16 + (blo t).val, 0])

section Blocks

variable (c : Dev nD) (t : Fin cfg0.N)

theorem before_lt : (blo t).val - 1 < 16 := by have := (blo t).isLt; omega
theorem after_lt : min 15 ((blo t).val + 1) < 16 := by omega
theorem four_lt (a : ℕ) : min 3 a < 4 := by omega

theorem iblk0 (r : Fin 128) (e : Fin 1024) :
    iblk m c 0 t (ix2 r e) = m ((c : Thread nD τ).loc main_arg0) (ix2 (slot rfl (bat t) (query t r)) e) := by
  refine Eq.trans ?_ (congrFun (V_main_arg0 m c) _)
  blk_simp [iblk]
  refine congrArg _ ?_
  blk_ext [index0, slot, query]
theorem iblk1 (r : Fin 128) (e : Fin 1024) :
    iblk m c 1 t (ix2 r e) = m ((c : Thread nD τ).loc main_arg1) (ix2 (slot rfl (bat t) (lane (n := 2048) (M := 16) rfl ((blo t).val - 1) (before_lt t) r)) e) := by
  refine Eq.trans ?_ (congrFun (V_main_arg1 m c) _)
  blk_simp [iblk]
  refine congrArg _ ?_
  blk_ext [index1, slot, lane]
theorem iblk2 (r : Fin 128) (e : Fin 1024) :
    iblk m c 2 t (ix2 r e) = m ((c : Thread nD τ).loc main_arg1) (ix2 (slot rfl (bat t) (lane (n := 2048) (M := 16) rfl ((blo t).val) ((blo t).isLt) r)) e) := by
  refine Eq.trans ?_ (congrFun (V_main_arg1 m c) _)
  blk_simp [iblk]
  refine congrArg _ ?_
  blk_ext [index2, slot, lane]
theorem iblk3 (r : Fin 128) (e : Fin 1024) :
    iblk m c 3 t (ix2 r e) = m ((c : Thread nD τ).loc main_arg1) (ix2 (slot rfl (bat t) (lane (n := 2048) (M := 16) rfl (min 15 ((blo t).val + 1)) (after_lt t) r)) e) := by
  refine Eq.trans ?_ (congrFun (V_main_arg1 m c) _)
  blk_simp [iblk]
  refine congrArg _ ?_
  blk_ext [index3, slot, lane]
theorem iblk4 (r : Fin 128) (e : Fin 1024) :
    iblk m c 4 t (ix2 r e) = m ((c : Thread nD τ).loc main_arg2) (ix2 (slot rfl (bat t) (lane (n := 2048) (M := 16) rfl ((blo t).val - 1) (before_lt t) r)) e) := by
  refine Eq.trans ?_ (congrFun (V_main_arg2 m c) _)
  blk_simp [iblk]
  refine congrArg _ ?_
  blk_ext [index4, slot, lane]
theorem iblk5 (r : Fin 128) (e : Fin 1024) :
    iblk m c 5 t (ix2 r e) = m ((c : Thread nD τ).loc main_arg2) (ix2 (slot rfl (bat t) (lane (n := 2048) (M := 16) rfl ((blo t).val) ((blo t).isLt) r)) e) := by
  refine Eq.trans ?_ (congrFun (V_main_arg2 m c) _)
  blk_simp [iblk]
  refine congrArg _ ?_
  blk_ext [index5, slot, lane]
theorem iblk6 (r : Fin 128) (e : Fin 1024) :
    iblk m c 6 t (ix2 r e) = m ((c : Thread nD τ).loc main_arg2) (ix2 (slot rfl (bat t) (lane (n := 2048) (M := 16) rfl (min 15 ((blo t).val + 1)) (after_lt t) r)) e) := by
  refine Eq.trans ?_ (congrFun (V_main_arg2 m c) _)
  blk_simp [iblk]
  refine congrArg _ ?_
  blk_ext [index6, slot, lane]
theorem iblk7 (r : Fin 128) (e : Fin 1024) :
    iblk m c 7 t (ix2 r e) = m ((c : Thread nD τ).loc main_arg4) (ix2 (slot rfl (bat t) (lane (n := 512) (M := 4) rfl (min 3 ((blo t).val - 1)) (four_lt _) r)) e) := by
  refine Eq.trans ?_ (congrFun (V_main_arg4 m c) _)
  blk_simp [iblk]
  refine congrArg _ ?_
  blk_ext [index7, slot, lane]
theorem iblk8 (r : Fin 128) (e : Fin 1024) :
    iblk m c 8 t (ix2 r e) = m ((c : Thread nD τ).loc main_arg4) (ix2 (slot rfl (bat t) (lane (n := 512) (M := 4) rfl (min 3 (blo t).val) (four_lt _) r)) e) := by
  refine Eq.trans ?_ (congrFun (V_main_arg4 m c) _)
  blk_simp [iblk]
  refine congrArg _ ?_
  blk_ext [index8, slot, lane]
theorem iblk9 (r : Fin 128) (e : Fin 1024) :
    iblk m c 9 t (ix2 r e) = m ((c : Thread nD τ).loc main_arg4) (ix2 (slot rfl (bat t) (lane (n := 512) (M := 4) rfl (min 3 ((blo t).val + 1)) (four_lt _) r)) e) := by
  refine Eq.trans ?_ (congrFun (V_main_arg4 m c) _)
  blk_simp [iblk]
  refine congrArg _ ?_
  blk_ext [index9, slot, lane]
theorem iblk10 (r : Fin 128) (e : Fin 1024) :
    iblk m c 10 t (ix2 r e) = m ((c : Thread nD τ).loc main_arg5) (ix2 (slot rfl (bat t) (lane (n := 512) (M := 4) rfl (min 3 ((blo t).val - 1)) (four_lt _) r)) e) := by
  refine Eq.trans ?_ (congrFun (V_main_arg5 m c) _)
  blk_simp [iblk]
  refine congrArg _ ?_
  blk_ext [index10, slot, lane]
theorem iblk11 (r : Fin 128) (e : Fin 1024) :
    iblk m c 11 t (ix2 r e) = m ((c : Thread nD τ).loc main_arg5) (ix2 (slot rfl (bat t) (lane (n := 512) (M := 4) rfl (min 3 (blo t).val) (four_lt _) r)) e) := by
  refine Eq.trans ?_ (congrFun (V_main_arg5 m c) _)
  blk_simp [iblk]
  refine congrArg _ ?_
  blk_ext [index11, slot, lane]
theorem iblk12 (r : Fin 128) (e : Fin 1024) :
    iblk m c 12 t (ix2 r e) = m ((c : Thread nD τ).loc main_arg5) (ix2 (slot rfl (bat t) (lane (n := 512) (M := 4) rfl (min 3 ((blo t).val + 1)) (four_lt _) r)) e) := by
  refine Eq.trans ?_ (congrFun (V_main_arg5 m c) _)
  blk_simp [iblk]
  refine congrArg _ ?_
  blk_ext [index12, slot, lane]
theorem iblk13 (r : Fin 64) (e : Fin 1024) :
    iblk m c 13 t (ix2 r e) = m ((c : Thread nD τ).loc main_arg6) (ix2 (slot (n := 64) (N := 128) rfl (bat t) r) e) := by
  refine Eq.trans ?_ (congrFun (V_main_arg6 m c) _)
  blk_simp [iblk]
  refine congrArg _ ?_
  blk_ext [index13, slot]
theorem iblk14 (r : Fin 64) (e : Fin 1024) :
    iblk m c 14 t (ix2 r e) = m ((c : Thread nD τ).loc main_arg7) (ix2 (slot (n := 64) (N := 128) rfl (bat t) r) e) := by
  refine Eq.trans ?_ (congrFun (V_main_arg7 m c) _)
  blk_simp [iblk]
  refine congrArg _ ?_
  blk_ext [index14, slot]
theorem iblk15 (r : Fin 128) (e : Fin 8) :
    iblk m c 15 t (ix2 r e) = m ((c : Thread nD τ).loc main_arg3) (ix2 (slot rfl (bat t) (query t r)) e) := by
  refine Eq.trans ?_ (congrFun (V_main_arg3 m c) _)
  blk_simp [iblk]
  refine congrArg _ ?_
  blk_ext [index15, slot, query]

theorem iblk16 (r e : Fin 1024) : iblk m c 16 t (ix2 r e) = V m c main_v0 (ix2 r e) := by
  blk_simp [iblk]
  refine congrArg _ ?_
  blk_ext [index16]
theorem iblk17 (e : Fin 1024) : iblk m c 17 t (ix2 0 e) = V m c main_v1 (ix2 0 e) := by
  blk_simp [iblk]
  refine congrArg _ ?_
  blk_ext [index17]
theorem V_v0 (r e : Fin 1024) : V m c main_v0 (ix2 r e) = m ((c : Thread nD τ).loc main_arg8) (ix2 r e) := by
  show StableHlo.after hostOps0 _ _ _ = _
  after_results
  simp [pointwise]
theorem V_v1 (e : Fin 1024) : V m c main_v1 (ix2 0 e) = m ((c : Thread nD τ).loc main_arg9) (ix1 e) := by
  show StableHlo.after hostOps0 _ _ _ = _
  after_results
  simp [pointwise]

end Blocks

/-! ## The bands of a point's rows -/

/-- A row over three blocks, block by block. -/
theorem soft_beside {p p' q q' r r' : Fin 128 → BitVec 1} {f f' g g' h h' u u' v v' w w' : Fin 128 → EReal}
    (hp : ∀ l, p l = p' l) (hq : ∀ l, q l = q' l) (hr : ∀ l, r l = r' l) (hf : ∀ l, f l = f' l) (hg : ∀ l, g l = g' l) (hh : ∀ l, h l = h' l)
    (hu : ∀ l, u l = u' l) (hv : ∀ l, v l = v' l) (hw : ∀ l, w l = w' l) :
    soft (beside p q r) (beside f g h) (beside u v w) = soft (beside p' q' r') (beside f' g' h') (beside u' v' w') := by
  obtain rfl := funext hp; obtain rfl := funext hq; obtain rfl := funext hr
  obtain rfl := funext hf; obtain rfl := funext hg; obtain rfl := funext hh
  obtain rfl := funext hu; obtain rfl := funext hv; obtain rfl := funext hw
  rfl

/-- The arrays of the run's start, over the extended reals. -/
abbrev queries (c : Dev nD) : S4096x1024.Idx → EReal := m ((c : Thread nD τ).loc main_arg0)
abbrev keys (c : Dev nD) : S4096x1024.Idx → EReal := m ((c : Thread nD τ).loc main_arg1)
abbrev values (c : Dev nD) : S4096x1024.Idx → EReal := m ((c : Thread nD τ).loc main_arg2)
abbrev gates (c : Dev nD) : S4096x8.Idx → EReal := m ((c : Thread nD τ).loc main_arg3)
abbrev chosenKeys (c : Dev nD) : S1024x1024.Idx → EReal := m ((c : Thread nD τ).loc main_arg4)
abbrev chosenValues (c : Dev nD) : S1024x1024.Idx → EReal := m ((c : Thread nD τ).loc main_arg5)
abbrev packedKeys (c : Dev nD) : S128x1024.Idx → EReal := m ((c : Thread nD τ).loc main_arg6)
abbrev packedValues (c : Dev nD) : S128x1024.Idx → EReal := m ((c : Thread nD τ).loc main_arg7)
abbrev weights (c : Dev nD) : S1024x1024.Idx → EReal := m ((c : Thread nD τ).loc main_arg8)
abbrev bias (c : Dev nD) : S1024.Idx → EReal := m ((c : Thread nD τ).loc main_arg9)

section Bands

variable (c : Dev nD) (t : Fin cfg0.N) (r : Fin 128)

/-- A query's score of a key, of two blocks' rows. -/
theorem score (a : FVec Ideal S128x1024 .bf16) {N n : ℕ} (k : (⟨2, ![N, 1024]⟩ : Shape).Idx → EReal) (b : FVec Ideal ⟨2, ![n, 1024]⟩ .bf16)
    (q : S4096x1024.Idx → EReal) (i : Fin 4096) (j : Fin N) (l : Fin n) (ha : ∀ e : Fin 1024, a (ix2 r e) = q (ix2 i e))
    (hb : ∀ e : Fin 1024, b (ix2 l e) = k (ix2 j e)) :
    ∑ e : Fin 1024, a (ix2 r e) * b (ix2 l e) = ∑ e : Fin 1024, q (ix2 i e) * k (ix2 j e) :=
  Finset.sum_congr rfl fun e _ => by rw [ha, hb]

theorem wide_apply (d : Fin 1024) : wide m c t (ix2 r d)
    = gates m c (ix2 (slot rfl (bat t) (query t r)) 4)
      * over (n := 2048) rfl (queries m c) (keys m c) (values m c)
          (bat t) (query t r) d := by
  unfold wide over
  refine (pay21_apply _ _ _ _ _ _ _ _ _ _ _ _ r d).trans (congr (congrArg _ (iblk15 m c t r 4)) ?_)
  refine Eq.trans (soft_beside (fun l => ?_) (fun l => ?_) (fun l => ?_) (fun l => ?_) (fun l => ?_) (fun l => ?_) (fun l => iblk4 m c t l d)
      (fun l => iblk5 m c t l d) (fun l => iblk6 m c t l d))
    (band_three (n := 2048) (M := 16) rfl (le_refl _) (blo t).val (blo t).isLt (blo t).isLt.le r ((blo t).val - 1) (blo t).val (min 15 ((blo t).val + 1))
      (before_lt t) (blo t).isLt (after_lt t) (by omega) (fun _ => rfl) (by omega) _ 1#1 _ (at_least (blo t))
      ⟨fun _ => (blo t).isLt, fun _ => rfl⟩ (at_most_14 (blo t))
      (fun j => ∑ e : Fin 1024, queries m c (ix2 (slot rfl (bat t) (query t r)) e)
        * keys m c (ix2 (slot (n := 2048) (N := 4096) rfl (bat t) j) e))
      (fun j => values m c (ix2 (slot (n := 2048) (N := 4096) rfl (bat t) j) d)))
  · rw [pay15_apply, pay10_apply, pay11_apply]
    rfl
  · rw [pay17_apply, pay10_apply, pay12_apply]
    rfl
  · rw [pay19_apply, pay20_apply, pay10_apply, pay13_apply]
    rfl
  · exact (product_apply (iblk m c 0 t) (iblk m c 1 t) r l).trans (score r _ _ _ _ _ _ l (iblk0 m c t r) (iblk1 m c t l))
  · exact (product_apply (iblk m c 0 t) (iblk m c 2 t) r l).trans (score r _ _ _ _ _ _ l (iblk0 m c t r) (iblk2 m c t l))
  · exact (product_apply (iblk m c 0 t) (iblk m c 3 t) r l).trans (score r _ _ _ _ _ _ l (iblk0 m c t r) (iblk3 m c t l))

theorem chosen_apply (h : (blo t).val ≤ 4) (d : Fin 1024) : chosen m c t (ix2 r d)
    = wide m c t (ix2 r d) + gates m c (ix2 (slot rfl (bat t) (query t r)) 3)
      * over (n := 512) rfl (queries m c) (chosenKeys m c) (chosenValues m c)
          (bat t) (query t r) d := by
  unfold chosen over
  refine (pay22_apply _ _ _ _ _ _ _ r d).trans (congrArg _ (congr (congrArg _ (iblk15 m c t r 3)) ?_))
  rw [funext (pay8_apply _ _ _ _ _ _ _ _ r fun l => pay6_apply _ _ _ r l), funext (pay7_apply _ _ _ _ r)]
  refine Eq.trans (soft_beside (fun l => ?_) (fun l => ?_) (fun l => ?_) (fun l => ?_) (fun l => ?_) (fun l => ?_) (fun l => iblk10 m c t l d)
      (fun l => iblk11 m c t l d) (fun l => iblk12 m c t l d))
    (band_three (n := 512) (M := 4) rfl (by decide) (blo t).val (blo t).isLt h r (min 3 ((blo t).val - 1)) (min 3 (blo t).val) (min 3 ((blo t).val + 1))
      (four_lt _) (four_lt _) (four_lt _) (by omega) (by omega) (by omega) _ _ _ (at_least (blo t)) (at_most_3 (blo t)) (at_most_2 (blo t))
      (fun j => ∑ e : Fin 1024, queries m c (ix2 (slot rfl (bat t) (query t r)) e)
        * chosenKeys m c (ix2 (slot (n := 512) (N := 1024) rfl (bat t) j) e))
      (fun j => chosenValues m c (ix2 (slot (n := 512) (N := 1024) rfl (bat t) j) d)))
  · rw [pay10_apply, pay2_apply _ _ lanes_apply]
    rfl
  · rw [pay10_apply, pay3_apply _ _ lanes_apply]
    rfl
  · rw [pay10_apply, pay4_apply _ _ lanes_apply]
    rfl
  · exact score r _ _ _ _ _ _ l (iblk0 m c t r) (iblk7 m c t l)
  · exact score r _ _ _ _ _ _ l (iblk0 m c t r) (iblk8 m c t l)
  · exact score r _ _ _ _ _ _ l (iblk0 m c t r) (iblk9 m c t l)

theorem packed_apply (d : Fin 1024) : packed m c t (ix2 r d)
    = chosen m c t (ix2 r d) + gates m c (ix2 (slot rfl (bat t) (query t r)) 2)
      * over (n := 64) rfl (queries m c) (packedKeys m c) (packedValues m c)
          (bat t) (query t r) d := by
  unfold packed over
  refine (pay9_apply _ _ _ _ _ _ r d).trans (congrArg _ (congr (congrArg _ (iblk15 m c t r 2)) ?_))
  rw [pay10_apply]
  refine Eq.trans ?_ (band_one (n := 64) (by decide) (query t r).val (query t r).isLt _ _)
  refine congr (congrArg _ (funext fun l => ?_)) (funext fun l => iblk14 m c t l d)
  exact score r _ _ _ _ _ _ l (iblk0 m c t r) (iblk13 m c t l)

end Bands

/-! ## The result -/

/-- The three bands together, whichever of them the point computes: those it leaves out have no key. -/
theorem mixed_eq (c : Dev nD) (b : Fin 2) (i : Fin 2048) (d : Fin 1024) :
    mixed (queries m c) (keys m c) (values m c) (gates m c) (chosenKeys m c) (chosenValues m c) (packedKeys m c) (packedValues m c) b i d
      = gates m c (ix2 (slot rfl b i) 4) * over (n := 2048) rfl (queries m c) (keys m c) (values m c) b i d
        + gates m c (ix2 (slot rfl b i) 3) * over (n := 512) rfl (queries m c) (chosenKeys m c) (chosenValues m c) b i d
        + gates m c (ix2 (slot rfl b i) 2) * over (n := 64) rfl (queries m c) (packedKeys m c) (packedValues m c) b i d := by
  unfold mixed
  generalize gates m c (ix2 (slot rfl b i) 2) * over (n := 64) rfl (queries m c) (packedKeys m c) (packedValues m c) b i d = z
  generalize gates m c (ix2 (slot rfl b i) 3) * over (n := 512) rfl (queries m c) (chosenKeys m c) (chosenValues m c) b i d = y
  generalize gates m c (ix2 (slot rfl b i) 4) * over (n := 2048) rfl (queries m c) (keys m c) (values m c) b i d = x
  rw [add_comm x y, add_comm (y + x) z, add_assoc]

/-- A band that no key is near to adds nothing. -/
theorem over_none {n N : ℕ} (hN : 2 * n = N) (hn : n ≤ 2048) (q : S4096x1024.Idx → EReal) (k v : (⟨2, ![N, 1024]⟩ : Shape).Idx → EReal)
    (b : Fin 2) (i : Fin 2048) (h : n + 128 ≤ i.val) (d : Fin 1024) (g : EReal) : g * over hN q k v b i d = 0 := by
  unfold over
  rw [band_none hn i.val i.isLt h, mul_zero]

theorem pay23_eq (x : FVec Ideal S128x1024 .f32) : k0_pay23 (F := Ideal) x = x := by
  funext j
  obtain ⟨r, d, rfl⟩ : ∃ (r : Fin 128) (d : Fin 1024), j = ix2 r d := ⟨j 0, j 1, by funext a; fin_cases a <;> rfl⟩
  simp [k0_pay23, pointwise]

/-- A row of the block that a point leaves, of the mixed row before its projection. -/
theorem projected_row (c : Dev nD) (t : Fin cfg0.N) (x : FVec Ideal S128x1024 .f32) (r : Fin 128) (d : Fin 1024)
    (hx : ∀ e : Fin 1024, x (ix2 r e)
      = mixed (queries m c) (keys m c) (values m c) (gates m c) (chosenKeys m c) (chosenValues m c) (packedKeys m c) (packedValues m c)
          (bat t) (query t r) e) :
    k0_pay1 (F := Ideal) (k0_pay24 (F := Ideal) x) (iblk m c 16 t) (iblk m c 17 t) (ix2 r d)
      = attended (queries m c) (keys m c) (values m c) (gates m c) (chosenKeys m c) (chosenValues m c) (packedKeys m c) (packedValues m c)
          (weights m c) (bias m c) (bat t) (query t r) d := by
  refine (pay1_apply x (iblk m c 16 t) (iblk m c 17 t) r d).trans ?_
  unfold attended
  rw [iblk17, V_v1]
  refine congrArg (fun z : EReal => z + bias m c (ix1 d)) (Finset.sum_congr rfl fun e _ => ?_)
  rw [iblk16, V_v0, hx]

theorem row (c : Dev nD) (t : Fin cfg0.N) (r : Fin 128) (d : Fin 1024) : outsAt0 m c t (ix2 r d)
    = attended (queries m c) (keys m c) (values m c) (gates m c) (chosenKeys m c) (chosenValues m c) (packedKeys m c) (packedValues m c)
        (weights m c) (bias m c) (bat t) (query t r) d := by
  have hq : (query t r).val = t.val % 16 * 128 + r.val := by rw [← blo_val]; rfl
  by_cases h0 : t.val % 16 ≤ 4
  · by_cases h1 : t.val % 16 ≤ 1
    · rw [outsAt0_packed m c t h0 h1, pay23_eq]
      refine projected_row m c t _ r d fun e => ?_
      rw [packed_apply, chosen_apply m c t r (by rw [blo_val]; exact h0), wide_apply, mixed_eq]
    · rw [outsAt0_chosen m c t h0 h1]
      refine projected_row m c t _ r d fun e => ?_
      rw [chosen_apply m c t r (by rw [blo_val]; exact h0), wide_apply, mixed_eq,
        over_none (n := 64) rfl (by decide) _ _ _ _ _ (by rw [hq]; omega), add_zero]
  · have h1 : ¬t.val % 16 ≤ 1 := by omega
    rw [outsAt0_wide m c t h0 h1]
    refine projected_row m c t _ r d fun e => ?_
    rw [wide_apply, mixed_eq, over_none (n := 64) rfl (by decide) _ _ _ _ _ (by rw [hq]; omega),
      over_none (n := 512) rfl (by decide) _ _ _ _ _ (by rw [hq]; omega), add_zero, add_zero]

theorem final (c : Dev nD) : (dats m 0 c).arrAt 18 cfg0.N
    = rows (attended (queries m c) (keys m c) (values m c) (gates m c) (chosenKeys m c) (chosenValues m c) (packedKeys m c) (packedValues m c)
        (weights m c) (bias m c)) := by
  refine (dats m 0 c).arrAt_eq_of_covers 18 _ (by decide +kernel) fun t hf y => ?_
  blk_simp
  rw [after0_18]
  obtain ⟨r, d, rfl⟩ : ∃ (r : Fin 128) (d : Fin 1024), y = ix2 r d := ⟨y 0, y 1, by funext a; fin_cases a <;> rfl⟩
  rw [row, show (win0_18.blk t).view.emb (ix2 r d) = ix2 (slot (n := 2048) (N := 4096) rfl (bat t) (query t r)) d by blk_ext [index18, slot, query],
    rows_apply]

end Cert.AttendIdeal.Read

/-! ## The run -/

namespace Cert.AttendIdeal.Gen

variable {F : FTy → Type} [FloatOps F] [Named F] (m : (ℓ : Loc nD τ sig) → Buf (Elt F) ℓ) (ρ : Dev nD → PrngReg)

/-- The run: the result array holds what the points wrote back, and the arguments are as they were. -/
theorem run_blocks : θ_run defs (onTc (τ := τ) (main (F := F))) ⟨m, fun _ => 0, ρ⟩ fun r => ∀ c : Dev nD,
      r.2.mem ((c : Thread nD τ).loc main_v2) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 18,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 6).trans (((dats m 0 c).arrAt_in 6 rfl _).trans ((A_eq m c 6).trans (V_main_arg2 m c))),
      ((h c).1 15).trans (((dats m 0 c).arrAt_in 15 rfl _).trans ((A_eq m c 15).trans (V_main_arg3 m c))),
      ((h c).1 9).trans (((dats m 0 c).arrAt_in 9 rfl _).trans ((A_eq m c 9).trans (V_main_arg4 m c))),
      ((h c).1 12).trans (((dats m 0 c).arrAt_in 12 rfl _).trans ((A_eq m c 12).trans (V_main_arg5 m c))),
      ((h c).1 13).trans (((dats m 0 c).arrAt_in 13 rfl _).trans ((A_eq m c 13).trans (V_main_arg6 m c))),
      ((h c).1 14).trans (((dats m 0 c).arrAt_in 14 rfl _).trans ((A_eq m c 14).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.AttendIdeal.Gen

end
-- ==== Proof.AttendBand.lean ====
/-
  One band of the attention call's reference, for any number of keys: the scores of every query and key, minus infinity outside the
  window, their exponentials less the row's largest, the quotients by the row's sum, and the sum of the values these weigh. Stated
  once and read entry by entry as `Cert.Attention.soft`; the reference's three bands are instances.
-/
module

public import proofs.«01_k».proof.Proof.Gen.AttendReferenceIdeal.Run
public import proofs.«01_k».proof.Proof.AttendRows
public import Idealize.ShloMosaic.Lib.Pointwise.Tactic
public import Idealize.ShloMosaic.Lib.Pointwise.Contract
public import Idealize.ShloMosaic.Lib.Pointwise.Reduce
public import Idealize.ShloMosaic.Lib.Pointwise.Sums
public import Idealize.ShloMosaic.Lib.Tactic

@[expose] public section

noncomputable section

open Idealize.ShloMosaic Idealize.ShloMosaic.TcCoe Idealize.SL.Sem

namespace Cert.AttendReferenceIdeal.Read

open Cert.AttendReferenceIdeal Cert.AttendReferenceIdeal.Gen Cert.Attention

theorem bot_word : Ideal.ofBits FTy.f32 0xFF800000#32 = ⊥ := by simp [Ideal.ofBits, Ideal.ieee]

theorem zero_word : Ideal.ofBits FTy.f32 0x00000000#32 = 0 := by simp [Ideal.ofBits, Ideal.ieee]

/-- A broadcast at an index is the operand at any index that agrees with it on the axes not stretched. -/
theorem spread {s t : Shape} {α : Type} (dims : Fin s.rank → Fin t.rank) (h : s.BroadcastsInDim t dims) (x : s.Idx → α)
    (j : t.Idx) (i : s.Idx) (hi : ∀ a, s.size a ≠ 1 → (i a).val = (j (dims a)).val) : broadcastInDim t dims h x j = x i := by
  refine congrArg x (funext fun a => Fin.ext ?_)
  by_cases h1 : s.size a = 1
  · have := (i a).isLt
    simp only [h1, dite_true]; omega
  · simp only [h1, dite_false]; exact (hi a h1).symm

/-! ## The shapes -/

abbrev Keys (n : ℕ) : Shape := ⟨3, ![2, n, 1024]⟩
abbrev Pairs (n : ℕ) : Shape := ⟨3, ![2, 2048, n]⟩
abbrev Square (n : ℕ) : Shape := ⟨2, ![2048, n]⟩

/-- The scores' product, over the last axis of both, batch by batch, -/
def scoreDot (n : ℕ) : DotDims S2x2048x1024 (Keys n) (Pairs n) where
  lhsContracting := [2]
  rhsContracting := [2]
  lhsNonContracting := [1]
  rhsNonContracting := [1]
  lhsBatch := [0]
  rhsBatch := [0]
  wf := ⟨rfl, by simp, rfl, by simp, by simp, by simp, (by decide : ([0, 1, 2] : List (Fin 3)).Perm (List.finRange 3)),
    (by decide : ([0, 1, 2] : List (Fin 3)).Perm (List.finRange 3)), rfl, Nat.succ_pos 2, fun b => by fin_cases b <;> rfl⟩

/-- and the weighted sum's. -/
def valueDot (n : ℕ) : DotDims (Pairs n) (Keys n) S2x2048x1024 where
  lhsContracting := [2]
  rhsContracting := [1]
  lhsNonContracting := [1]
  rhsNonContracting := [2]
  lhsBatch := [0]
  rhsBatch := [0]
  wf := ⟨rfl, by simp, rfl, by simp, by simp, by simp, (by decide : ([0, 1, 2] : List (Fin 3)).Perm (List.finRange 3)),
    (by decide : ([0, 2, 1] : List (Fin 3)).Perm (List.finRange 3)), rfl, Nat.succ_pos 2, fun b => by fin_cases b <;> rfl⟩

/-- What the operations of a band ask of the shapes. -/
structure Fits (n : ℕ) : Prop where
  row : (⟨1, ![n]⟩ : Shape).BroadcastsInDim ⟨2, ![1, n]⟩ (![1] : Fin 1 → Fin 2)
  rows : (⟨2, ![1, n]⟩ : Shape).BroadcastsInDim (Square n) (![0, 1] : Fin 2 → Fin 2)
  columns : S2048x1.BroadcastsInDim (Square n) (![0, 1] : Fin 2 → Fin 2)
  one : (Square n).BroadcastsInDim ⟨3, ![1, 2048, n]⟩ (![1, 2] : Fin 2 → Fin 3)
  both : (⟨3, ![1, 2048, n]⟩ : Shape).BroadcastsInDim (Pairs n) (![0, 1, 2] : Fin 3 → Fin 3)
  word : S_.BroadcastsInDim (Pairs n) (![] : Fin 0 → Fin 3)
  lanes : S2x2048x1.BroadcastsInDim (Pairs n) (![0, 1, 2] : Fin 3 → Fin 3)
  reduced : (Pairs n).ReducesTo [2] S2x2048

/-! ## The products and the reductions, entry by entry -/

theorem score_sum {n : ℕ} (q : FVec Ideal S2x2048x1024 .f32) (k : FVec Ideal (Keys n) .f32) (b : Fin 2) (i : Fin 2048) (j : Fin n) :
    Host.dotGeneral (scoreDot n) none q k (ix3 b i j) = ∑ e : Fin 1024, q (ix3 b i e) * k (ix3 b j e) := by
  show Ideal.matmul (scoreDot n) q k (fun _ => 0) (ix3 b i j) = _
  rw [Ideal.matmul_apply₁ (scoreDot n) rfl (rfl : S2x2048x1024.size 2 = 1024), zero_add]
  refine Finset.sum_congr rfl fun e _ => congrArg₂ _ (congrArg q ?_) (congrArg k ?_) <;>
    (funext a; apply Fin.ext; fin_cases a <;> rfl)

theorem value_sum {n : ℕ} (p : FVec Ideal (Pairs n) .f32) (v : FVec Ideal (Keys n) .f32) (b : Fin 2) (i : Fin 2048) (d : Fin 1024) :
    Host.dotGeneral (valueDot n) none p v (ix3 b i d) = ∑ j : Fin n, p (ix3 b i j) * v (ix3 b j d) := by
  show Ideal.matmul (valueDot n) p v (fun _ => 0) (ix3 b i d) = _
  rw [Ideal.matmul_apply₁ (valueDot n) rfl (rfl : (Pairs n).size 2 = n), zero_add]
  refine Finset.sum_congr rfl fun e _ => congrArg₂ _ (congrArg p ?_) (congrArg v ?_) <;>
    (funext a; apply Fin.ext; fin_cases a <;> rfl)

theorem row_max {n : ℕ} (h : (Pairs n).ReducesTo [2] S2x2048) (hu : 0 < S_.numel) (s : FVec Ideal (Pairs n) .f32) (x : FVec Ideal S_ .f32)
    (b : Fin 2) (i : Fin 2048) :
    Host.reduce FloatOps.maximumf s x h hu (ix2 b i) = Finset.fold max (x (Shape.Idx.first hu)) (fun j : Fin n => s (ix3 b i j)) Finset.univ :=
  (Host.reduce_eq_fold (FloatOps.maximumf : Ideal .f32 → Ideal .f32 → Ideal .f32) s x h hu (ix2 b i)).trans
    (Shape.ReducesTo.fold_fiber_r3_a2 h (ix2 b i) _ _ s)

theorem row_sum {n : ℕ} (h : (Pairs n).ReducesTo [2] S2x2048) (hu : 0 < S_.numel) (s : FVec Ideal (Pairs n) .f32) (x : FVec Ideal S_ .f32)
    (b : Fin 2) (i : Fin 2048) :
    Host.reduceAdd s x h hu (ix2 b i) = x (Shape.Idx.first hu) + ∑ j : Fin n, s (ix3 b i j) :=
  Ideal.hostReduceAdd_r3_a2 h s (x (Shape.Idx.first hu)) (ix2 b i)

/-! ## The band -/

section Band

variable {n : ℕ} (S : Fits n)

/-- The queries' numbers less, and more, the window. -/
def lows : IVec S2048x1 32 :=
  subi (broadcastInDim S2048x1 ![0] bcast_S2048_S2048x1_0 (iotaInDim S2048 32 0)) (broadcastInDim S2048x1 ![] bcast_S_S2048x1 (constantI S_ 32 128#32))
def highs : IVec S2048x1 32 :=
  addi (broadcastInDim S2048x1 ![0] bcast_S2048_S2048x1_0 (iotaInDim S2048 32 0)) (broadcastInDim S2048x1 ![] bcast_S_S2048x1 (constantI S_ 32 128#32))

/-- The keys' numbers, -/
def keys (S : Fits n) : IVec (Square n) 32 :=
  broadcastInDim (Square n) ![0, 1] S.rows (broadcastInDim ⟨2, ![1, n]⟩ ![1] S.row (iotaInDim ⟨1, ![n]⟩ 32 0))

/-- the words, -/
def marks (S : Fits n) : IVec (Pairs n) 1 :=
  broadcastInDim (Pairs n) ![0, 1, 2] S.both (broadcastInDim ⟨3, ![1, 2048, n]⟩ ![1, 2] S.one
    (andi (cmpi .sge (keys S) (broadcastInDim (Square n) ![0, 1] S.columns lows))
      (cmpi .sle (keys S) (broadcastInDim (Square n) ![0, 1] S.columns highs))))

/-- the scores, minus infinity where a word is clear, -/
def scores (S : Fits n) (q : FVec Ideal S2x2048x1024 .f32) (k : FVec Ideal (Keys n) .f32) : FVec Ideal (Pairs n) .f32 :=
  select (marks S) (Host.dotGeneral (scoreDot n) none q k)
    (broadcastInDim (Pairs n) ![] S.word (id (constant S_ .f32 0xFF800000#32)))

/-- their largest, row by row, -/
def tops (S : Fits n) (s : FVec Ideal (Pairs n) .f32) : FVec Ideal S2x2048 .f32 :=
  maximumf (broadcastInDim S2x2048 ![] bcast_S_S2x2048 (constant S_ .f32 0xFF800000#32))
    (Host.reduce FloatOps.maximumf s (constant S_ .f32 0xFF800000#32) S.reduced h_S_)

/-- one number a row, at every key, -/
def across (S : Fits n) (x : FVec Ideal S2x2048 .f32) : FVec Ideal (Pairs n) .f32 :=
  broadcastInDim (Pairs n) ![0, 1, 2] S.lanes (broadcastInDim S2x2048x1 ![0, 1] bcast_S2x2048_S2x2048x1_0_1 x)

/-- the exponentials, -/
def rises (S : Fits n) (s : FVec Ideal (Pairs n) .f32) : FVec Ideal (Pairs n) .f32 :=
  Host.exp (subf s (across S (tops S s)))

/-- and the band. -/
def band (S : Fits n) (q : FVec Ideal S2x2048x1024 .f32) (k v : FVec Ideal (Keys n) .f32) : FVec Ideal S2x2048x1024 .f32 :=
  Host.dotGeneral (valueDot n) none
    (select (marks S) (Host.divf (rises S (scores S q k))
      (across S (Host.reduceAdd (rises S (scores S q k)) (constant S_ .f32 0x00000000#32) S.reduced h_S_)))
      (broadcastInDim (Pairs n) ![] S.word (id (constant S_ .f32 0x00000000#32)))) v

theorem lows_apply (i : Fin 2048) (z : Fin 1) : lows (ix2 i z) = IntOp.subi (BitVec.ofNat 32 i.val) 128#32 := by
  simp [lows, pointwise]
theorem highs_apply (i : Fin 2048) (z : Fin 1) : highs (ix2 i z) = IntOp.addi (BitVec.ofNat 32 i.val) 128#32 := by
  simp [highs, pointwise]

theorem keys_apply (i : Fin 2048) (j : Fin n) : keys S (ix2 i j) = BitVec.ofNat 32 j.val := by
  refine (spread _ S.rows _ (ix2 i j) (ix2 0 j) fun a h => ?_).trans ((spread _ S.row _ (ix2 0 j) (ix1 j) fun a h => ?_).trans rfl)
  · fin_cases a
    · exact absurd rfl h
    · rfl
  · fin_cases a; rfl

theorem column_apply (x : IVec S2048x1 32) (i : Fin 2048) (j : Fin n) :
    broadcastInDim (Square n) ![0, 1] S.columns x (ix2 i j) = x (ix2 i 0) := by
  refine spread _ S.columns _ (ix2 i j) (ix2 i 0) fun a h => ?_
  fin_cases a
  · rfl
  · exact absurd rfl h

theorem marks_apply (b : Fin 2) (i : Fin 2048) (j : Fin n) : marks S (ix3 b i j) = near i.val j.val := by
  refine (spread _ S.both _ (ix3 b i j) (ix3 0 i j) fun a h => ?_).trans ((spread _ S.one _ (ix3 0 i j) (ix2 i j) fun a h => ?_).trans ?_)
  · fin_cases a
    · exact absurd rfl h
    · rfl
    · rfl
  · fin_cases a <;> rfl
  · show IntOp.andi (IntOp.cmpi .sge (keys S (ix2 i j)) (broadcastInDim (Square n) ![0, 1] S.columns lows (ix2 i j)))
      (IntOp.cmpi .sle (keys S (ix2 i j)) (broadcastInDim (Square n) ![0, 1] S.columns highs (ix2 i j))) = _
    rw [column_apply S, column_apply S, lows_apply, highs_apply, keys_apply S]; rfl

theorem word_apply (w : BitVec 32) (y : (Pairs n).Idx) :
    broadcastInDim (Pairs n) ![] S.word (id (constant (F := Ideal) S_ .f32 w)) y = Ideal.ofBits .f32 w := rfl

theorem scores_apply (q : FVec Ideal S2x2048x1024 .f32) (k : FVec Ideal (Keys n) .f32) (b : Fin 2) (i : Fin 2048) (j : Fin n) :
    scores S q k (ix3 b i j) = Scalar.select (near i.val j.val) (∑ e : Fin 1024, q (ix3 b i e) * k (ix3 b j e)) ⊥ := by
  show Scalar.select (marks S (ix3 b i j)) (Host.dotGeneral (scoreDot n) none q k (ix3 b i j)) (broadcastInDim (Pairs n) ![] S.word (id (constant (F := Ideal) S_ .f32 0xFF800000#32)) (ix3 b i j)) = _
  rw [marks_apply S, score_sum, word_apply S, bot_word]

theorem tops_apply (s : FVec Ideal (Pairs n) .f32) (b : Fin 2) (i : Fin 2048) :
    tops S s (ix2 b i) = Finset.fold max ⊥ (fun j : Fin n => s (ix3 b i j)) Finset.univ := by
  show max (Ideal.ofBits .f32 0xFF800000#32) (Host.reduce FloatOps.maximumf s (constant S_ .f32 0xFF800000#32) S.reduced h_S_ (ix2 b i)) = _
  rw [row_max, bot_word, bot_sup_eq]
  show Finset.fold max (Ideal.ofBits .f32 0xFF800000#32) _ _ = _
  rw [bot_word]

theorem across_apply (x : FVec Ideal S2x2048 .f32) (b : Fin 2) (i : Fin 2048) (j : Fin n) : across S x (ix3 b i j) = x (ix2 b i) := by
  refine (spread _ S.lanes _ (ix3 b i j) (ix3 b i 0) fun a h => ?_).trans ((spread _ bcast_S2x2048_S2x2048x1_0_1 _ (ix3 b i 0) (ix2 b i) fun a h => ?_).trans rfl)
  · fin_cases a
    · rfl
    · rfl
    · exact absurd rfl h
  · fin_cases a <;> rfl

theorem rises_apply (s : FVec Ideal (Pairs n) .f32) (b : Fin 2) (i : Fin 2048) (j : Fin n) :
    rises S s (ix3 b i j) = Ideal.exp (s (ix3 b i j) - tops S s (ix2 b i)) := by
  show Ideal.exp (s (ix3 b i j) - across S (tops S s) (ix3 b i j)) = _
  rw [across_apply S]

/-- A row's exponentials, -/
theorem rise_apply (q : FVec Ideal S2x2048x1024 .f32) (k : FVec Ideal (Keys n) .f32) (b : Fin 2) (i : Fin 2048) (j : Fin n) :
    rises S (scores S q k) (ix3 b i j)
      = rise (fun j : Fin n => near i.val j.val) (fun j => ∑ e : Fin 1024, q (ix3 b i e) * k (ix3 b j e)) j := by
  rw [rises_apply S, tops_apply S]
  simp only [scores_apply S, rise, top]

/-- their sum, -/
theorem total_apply (q : FVec Ideal S2x2048x1024 .f32) (k : FVec Ideal (Keys n) .f32) (b : Fin 2) (i : Fin 2048) (j : Fin n) :
    across S (Host.reduceAdd (rises S (scores S q k)) (constant S_ .f32 0x00000000#32) S.reduced h_S_) (ix3 b i j)
      = ∑ j, rise (fun j : Fin n => near i.val j.val) (fun j => ∑ e : Fin 1024, q (ix3 b i e) * k (ix3 b j e)) j := by
  have hz : (constant (F := Ideal) S_ .f32 0x00000000#32) (Shape.Idx.first h_S_) = 0 := zero_word
  rw [across_apply S, row_sum, hz, zero_add]
  simp only [rise_apply S]

/-- a masked quotient, -/
theorem share_apply {s : Shape} (m : IVec s 1) (x y z : FVec Ideal s .f32) (i : s.Idx) :
    select m (Host.divf x y) z i = Scalar.select (m i) (Ideal.div (x i) (y i)) (z i) := rfl

/-- and the band, as the masked row. -/
theorem band_apply (q : FVec Ideal S2x2048x1024 .f32) (k v : FVec Ideal (Keys n) .f32) (b : Fin 2) (i : Fin 2048) (d : Fin 1024) :
    band S q k v (ix3 b i d) = soft (fun j : Fin n => near i.val j.val) (fun j => ∑ e : Fin 1024, q (ix3 b i e) * k (ix3 b j e)) (fun j => v (ix3 b j d)) := by
  unfold band soft
  rw [value_sum]
  refine Finset.sum_congr rfl fun j _ => congrArg (· * v (ix3 b j d)) ?_
  rw [share_apply, marks_apply S, rise_apply S, total_apply S, word_apply S, zero_word]

end Band

end Cert.AttendReferenceIdeal.Read
-- ==== Proof.AttendReference.lean ====
/-
  The attention call's reference, read over the extended reals: a row of its result is the projection of three masked rows, one over
  the compressed keys, one over the selected keys and one over the keys themselves, each at the row's gate.
-/
module

public import proofs.«01_k».proof.Proof.Gen.AttendReferenceIdeal.Run
public import proofs.«01_k».proof.Proof.AttendBand
public import Idealize.ShloMosaic.Lib.Pipeline.Value
public import Idealize.ShloMosaic.Lib.Pointwise.Reshape

@[expose] public section

noncomputable section

open Idealize.ShloMosaic Idealize.ShloMosaic.TcCoe Idealize.SL.Sem

namespace Cert.AttendReferenceIdeal.Read

open Cert.AttendReferenceIdeal Cert.AttendReferenceIdeal.Gen Cert.Attention

/-- The operations' conditions hold at any number of keys. -/
theorem fits (n : ℕ) : Fits n where
  row := ⟨of_decide_eq_true rfl, fun a => Or.inr (by fin_cases a; rfl)⟩
  rows := ⟨of_decide_eq_true rfl, fun a => by fin_cases a <;> first | exact Or.inl rfl | exact Or.inr rfl⟩
  columns := ⟨of_decide_eq_true rfl, fun a => by fin_cases a <;> first | exact Or.inl rfl | exact Or.inr rfl⟩
  one := ⟨of_decide_eq_true rfl, fun a => Or.inr (by fin_cases a <;> rfl)⟩
  both := ⟨of_decide_eq_true rfl, fun a => by fin_cases a <;> first | exact Or.inl rfl | exact Or.inr rfl⟩
  word := ⟨of_decide_eq_true rfl, fun a => a.elim0⟩
  lanes := ⟨of_decide_eq_true rfl, fun a => by fin_cases a <;> first | exact Or.inl rfl | exact Or.inr rfl⟩
  reduced := ⟨rfl, fun a => by fin_cases a <;> rfl⟩

/-- Two batches of rows, apart and one after the other. -/
theorem batches {n N w : ℕ} (hN : 2 * n = N) {α : Type} (x : (⟨2, ![N, w]⟩ : Shape).Idx → α)
    (h : (⟨2, ![N, w]⟩ : Shape).ShapeCasts ⟨3, ![2, n, w]⟩) (b : Fin 2) (j : Fin n) (e : Fin w) :
    shapeCast ⟨3, ![2, n, w]⟩ x h (ix3 b j e) = x (ix2 (slot hN b j) e) := by
  refine shapeCast_apply x h _ _ ?_
  rw [rowMajor_val2 _ w rfl, rowMajor_val3 _ (n * w) w rfl rfl]
  show (b.val * n + j.val) * w + e.val = b.val * (n * w) + j.val * w + e.val
  ring
theorem joined {n N w : ℕ} (hN : 2 * n = N) {α : Type} (x : (⟨3, ![2, n, w]⟩ : Shape).Idx → α)
    (h : (⟨3, ![2, n, w]⟩ : Shape).ShapeCasts ⟨2, ![N, w]⟩) (b : Fin 2) (j : Fin n) (e : Fin w) :
    shapeCast ⟨2, ![N, w]⟩ x h (ix2 (slot hN b j) e) = x (ix3 b j e) := by
  refine shapeCast_apply x h _ _ ?_
  rw [rowMajor_val2 _ w rfl, rowMajor_val3 _ (n * w) w rfl rfl]
  show b.val * (n * w) + j.val * w + e.val = (b.val * n + j.val) * w + e.val
  ring

/-- A band over keys and values that lie one batch after the other. -/
theorem band_over {n N : ℕ} (hN : 2 * n = N) (q : FVec Ideal S4096x1024 .f32) (k v : FVec Ideal ⟨2, ![N, 1024]⟩ .f32)
    (hq : S4096x1024.ShapeCasts S2x2048x1024) (hk hv : (⟨2, ![N, 1024]⟩ : Shape).ShapeCasts (Keys n))
    (b : Fin 2) (i : Fin 2048) (d : Fin 1024) :
    band (fits n) (shapeCast S2x2048x1024 q hq) (shapeCast (Keys n) k hk) (shapeCast (Keys n) v hv) (ix3 b i d) = over hN q k v b i d := by
  rw [band_apply (fits n)]
  unfold over
  simp only [batches (n := n) hN, batches (n := 2048) (N := 4096) rfl q hq b i]

/-- A gate, at every lane of its row. -/
theorem gate_apply (g : FVec Ideal S4096x8 .f32) (l : Fin 8) (hs : S2x2048x8.Slices ![0, 0, l.val] S2x2048x1) (b : Fin 2) (i : Fin 2048) (d : Fin 1024) :
    broadcastInDim S2x2048x1024 ![0, 1, 2] bcast_S2x2048x1_S2x2048x1024_0_1_2
        (extractStridedSlice S2x2048x1 ![0, 0, l.val] (shapeCast S2x2048x8 g shapeCasts_S4096x8_S2x2048x8) hs) (ix3 b i d)
      = g (ix2 (slot rfl b i) l) := by
  refine (spread _ bcast_S2x2048x1_S2x2048x1024_0_1_2 _ (ix3 b i d) (ix3 b i 0) fun a h => ?_).trans ?_
  · fin_cases a
    · rfl
    · rfl
    · exact absurd rfl h
  · refine Eq.trans (congrArg (shapeCast S2x2048x8 g shapeCasts_S4096x8_S2x2048x8) ?_) (batches (n := 2048) rfl g shapeCasts_S4096x8_S2x2048x8 b i l)
    funext a; apply Fin.ext; fin_cases a
    · exact Nat.zero_add _
    · exact Nat.zero_add _
    · rfl

section Result

variable (q k v : FVec Ideal S4096x1024 .f32) (g : FVec Ideal S4096x8 .f32) (sk sv : FVec Ideal S1024x1024 .f32)
  (ck cv : FVec Ideal S128x1024 .f32) (w : FVec Ideal S1024x1024 .f32) (o : FVec Ideal S1024 .f32)

/-- The gated bands' sum. -/
def gated : FVec Ideal S2x2048x1024 .f32 :=
  addf (addf
    (mulf (broadcastInDim S2x2048x1024 ![0, 1, 2] bcast_S2x2048x1_S2x2048x1024_0_1_2 (extractStridedSlice S2x2048x1 ![0, 0, 2] (shapeCast S2x2048x8 g shapeCasts_S4096x8_S2x2048x8) slices_S2x2048x8_S2x2048x1_0_0_2))
      (band (fits 64) (shapeCast _ q shapeCasts_S4096x1024_S2x2048x1024) (shapeCast _ ck shapeCasts_S128x1024_S2x64x1024) (shapeCast _ cv shapeCasts_S128x1024_S2x64x1024)))
    (mulf (broadcastInDim S2x2048x1024 ![0, 1, 2] bcast_S2x2048x1_S2x2048x1024_0_1_2 (extractStridedSlice S2x2048x1 ![0, 0, 3] (shapeCast S2x2048x8 g shapeCasts_S4096x8_S2x2048x8) slices_S2x2048x8_S2x2048x1_0_0_3))
      (band (fits 512) (shapeCast _ q shapeCasts_S4096x1024_S2x2048x1024) (shapeCast _ sk shapeCasts_S1024x1024_S2x512x1024) (shapeCast _ sv shapeCasts_S1024x1024_S2x512x1024))))
    (mulf (broadcastInDim S2x2048x1024 ![0, 1, 2] bcast_S2x2048x1_S2x2048x1024_0_1_2 (extractStridedSlice S2x2048x1 ![0, 0, 4] (shapeCast S2x2048x8 g shapeCasts_S4096x8_S2x2048x8) slices_S2x2048x8_S2x2048x1_0_0_4))
      (band (fits 2048) (shapeCast _ q shapeCasts_S4096x1024_S2x2048x1024) (shapeCast _ k shapeCasts_S4096x1024_S2x2048x1024) (shapeCast _ v shapeCasts_S4096x1024_S2x2048x1024)))

theorem gated_apply (b : Fin 2) (i : Fin 2048) (d : Fin 1024) : gated q k v g sk sv ck cv (ix3 b i d) = mixed q k v g sk sv ck cv b i d :=
  congrArg₂ (· + ·) (congrArg₂ (· + ·)
    (congrArg₂ (· * ·) (gate_apply g 2 _ b i d) (band_over (n := 64) rfl q ck cv _ _ _ b i d))
    (congrArg₂ (· * ·) (gate_apply g 3 _ b i d) (band_over (n := 512) rfl q sk sv _ _ _ b i d)))
    (congrArg₂ (· * ·) (gate_apply g 4 _ b i d) (band_over (n := 2048) rfl q k v _ _ _ b i d))

/-- The projection, over any rows. -/
def projected (x : FVec Ideal S4096x1024 .f32) : FVec Ideal S4096x1024 .f32 :=
  addf (Host.dotGeneral dot_S4096x1024_S1024x1024_S4096x1024_1_0_0_1_n_n none x (transpose S1024x1024 [1, 0] w transposes_S1024x1024_S1024x1024_1_0))
    (broadcastInDim S4096x1024 ![0, 1] bcast_S1x1024_S4096x1024_0_1 (broadcastInDim S1x1024 ![1] bcast_S1024_S1x1024_1 o))

theorem projected_apply (x : FVec Ideal S4096x1024 .f32) (r : Fin 4096) (d : Fin 1024) :
    projected w o x (ix2 r d) = (∑ e : Fin 1024, x (ix2 r e) * w (ix2 d e)) + o (ix1 d) := by
  simp [projected, pointwise]

/-- An entry of the result. -/
theorem value (b : Fin 2) (i : Fin 2048) (d : Fin 1024) :
    projected w o (shapeCast _ (gated q k v g sk sv ck cv) shapeCasts_S2x2048x1024_S4096x1024) (ix2 (slot rfl b i) d)
      = attended q k v g sk sv ck cv w o b i d := by
  rw [projected_apply]
  unfold attended
  simp only [joined (n := 2048) (N := 4096) rfl, gated_apply]

end Result

/-- The run's result is that. -/
theorem result (m : (l : Loc nD τ sig) → Buf (Elt Ideal) l) (c : Dev nD) :
    Cert.AttendReferenceIdeal.Value.res_out0 (F := Ideal) m c
      = projected (m ((c.tc : Thread nD τ).loc main_arg8)) (m ((c.tc : Thread nD τ).loc main_arg9))
          (shapeCast _ (gated (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))) shapeCasts_S2x2048x1024_S4096x1024) := rfl

end Cert.AttendReferenceIdeal.Read
-- ==== Proof.AttendClaims.lean ====
/-
  The attention call: its claims, from what it leaves (Proof/AttendValue.lean).
-/
module

public import proofs.«01_k».proof.Defs
public import proofs.«01_k».proof.Proof.Gen.Attend
public import proofs.«01_k».proof.Proof.Gen.AttendIdeal
public import proofs.«01_k».proof.Proof.AttendFrame
public import proofs.«01_k».proof.Proof.AttendValue
public import proofs.«01_k».proof.Proof.AttendReference
public import proofs.«01_k».proof.Proof.Gen.AttendReferenceIdeal
public import proofs.«01_k».proof.Proof.Gen.AttendReferenceIdeal.Run
public import Idealize.ShloMosaic.Lib.Quiescent

@[expose] public section

noncomputable section

namespace Cert.Proof.Attend

open Idealize.ShloMosaic Idealize.ShloMosaic.TcCoe Idealize.SL.Sem

/-- At the machine's words a named constant is the word it names. -/
instance : Named Bits := ⟨fun _ _ b => FloatOps.ofBits b⟩

set_option maxHeartbeats 4000000 in
/-- The two printings of the program are one. -/
theorem bodies_eq : Cert.Attend.defs₀ (F := Bits) = Cert.AttendIdeal.defs₀ (F := Bits) := by
  unfold Cert.Attend.defs₀ Cert.AttendIdeal.defs₀
  refine congrArg _ (funext fun l => ?_)
  match l with
  | 0 => rfl
  | ⟨_ + 1, h⟩ => exact absurd h (Nat.not_lt.2 (Nat.le_add_left _ _))

theorem defs_eq : Cert.Attend.defs (F := Bits) = Cert.AttendIdeal.defs (F := Bits) :=
  congrArg (Pipeline.defs (Cert.AttendIdeal.pcfgs (F := Bits))) bodies_eq

/-- The run at the machine's words, -/
theorem frame_bits : Cert.quiescent_Attend := fun m ρ _ =>
  (congrArg (fun δ => θ_run δ (onTc (τ := Cert.AttendIdeal.τ) (Cert.AttendIdeal.main (F := Bits))) ⟨m, fun _ => 0, ρ⟩ _) defs_eq).mpr
    (Cert.AttendIdeal.Gen.frame (F := Bits) m ρ)

/-- and at the extended reals. -/
theorem frame_ideal : Cert.quiescent_AttendIdeal := fun m ρ _ => Cert.AttendIdeal.Gen.frame (F := Ideal) m ρ

theorem frame_reference : Cert.quiescent_AttendReferenceIdeal := fun m ρ _ =>
  (θ_run Cert.AttendReferenceIdeal.defs _ _).mono
    (fun r hr => ⟨fun c => (hr c).2, sem_eq_zero_of_no_sems (by decide) r.2⟩)
    (Cert.AttendReferenceIdeal.Value.run (F := Ideal) m ρ)

/-- The mask is minus infinity. -/
theorem preserves : Cert.preserves_Attend_AttendIdeal := by
  refine ⟨?_, fun s => ?_, ?_⟩
  · rfl
  · rfl
  · rfl

open Cert.AttendIdeal.Read in
theorem algebraic : Cert.algebraic_AttendIdeal_AttendReferenceIdeal := by
  intro m ρ m' ρ' hpre hargs
  refine ⟨fun c => Cert.Attention.rows (Cert.Attention.attended (queries m c) (keys m c) (values m c) (gates m c) (chosenKeys m c)
      (chosenValues m c) (packedKeys m c) (packedValues m c) (weights m c) (bias m c)),
    (θ_run Cert.AttendIdeal.defs _ _).mono (fun _ hr c => ⟨(hr c).1.trans (final m c), (hr c).2⟩)
      (Cert.AttendIdeal.Gen.run_blocks (F := Ideal) m ρ),
    (θ_run Cert.AttendReferenceIdeal.defs _ _).mono (fun _ hr c => ⟨?_, (hr c).2⟩) (Cert.AttendReferenceIdeal.Value.run (F := Ideal) m' ρ')⟩
  obtain ⟨e0, e1, e2, e3, e4, e5, e6, e7, e8, e9⟩ := hargs c
  refine (hr c).1.trans ((Cert.AttendReferenceIdeal.Read.result m' c).trans ?_)
  rw [e0, e1, e2, e3, e4, e5, e6, e7, e8, e9]
  funext y
  obtain ⟨b, i, d, rfl⟩ := Cert.Attention.rows_cover y
  exact (Cert.AttendReferenceIdeal.Read.value _ _ _ _ _ _ _ _ _ _ b i d).trans (Cert.Attention.rows_apply _ b i d).symm

end Cert.Proof.Attend

end
-- ==== Proof.lean ====
/-
  The gather of the selected rows on the SparseCores, and the calls beside it: the claims. The gather's run is Proof/Launch.lean's, what it leaves
  Proof/Values.lean's, the reference's Proof/Taken.lean's; both leave, in every result, the rows of its table that its list of
  indices names.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.ReferenceIdeal.Run
public import proofs.«01_k».proof.Proof.Gen.Compress
public import proofs.«01_k».proof.Proof.Gen.CompressIdeal
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import proofs.«01_k».proof.Proof.Gen.Project
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Select
public import proofs.«01_k».proof.Proof.Gen.SelectIdeal
public import proofs.«01_k».proof.Proof.Gen.SelectIdeal.Frame
public import proofs.«01_k».proof.Proof.Gen.SelectIdeal.Value
public import proofs.«01_k».proof.Proof.Gen.SelectReferenceIdeal
public import proofs.«01_k».proof.Proof.Gen.SelectReferenceIdeal.Run
public import proofs.«01_k».proof.Proof.Gen.Attend
public import proofs.«01_k».proof.Proof.Gen.AttendIdeal
public import proofs.«01_k».proof.Proof.Gen.AttendIdeal.Skeleton
public import proofs.«01_k».proof.Proof.Gen.AttendIdeal.Points
public import proofs.«01_k».proof.Proof.Gen.AttendIdeal.Launch
public import proofs.«01_k».proof.Proof.Gen.AttendIdeal.Frame.Runs
public import proofs.«01_k».proof.Proof.Gen.AttendIdeal.Frame.RunA
public import proofs.«01_k».proof.Proof.Gen.AttendIdeal.Frame.RunB
public import proofs.«01_k».proof.Proof.Gen.AttendIdeal.Frame.RunC
public import proofs.«01_k».proof.Proof.Gen.AttendReferenceIdeal
public import proofs.«01_k».proof.Proof.Gen.AttendReferenceIdeal.Run
public import proofs.«01_k».proof.Proof.Values
public import proofs.«01_k».proof.Proof.Taken
public import proofs.«01_k».proof.Proof.CompressClaims
public import proofs.«01_k».proof.Proof.ProjectClaims
public import proofs.«01_k».proof.Proof.SelectClaims
public import proofs.«01_k».proof.Proof.AttendClaims
public import Idealize.ShloMosaic.Adequacy
public import Idealize.ShloMosaic.Init

@[expose] public section

noncomputable section

namespace Cert.Proof

open Idealize.ShloMosaic Idealize.ShloMosaic.TcCoe Idealize.SL.Sem
open Cert.Proof.Rows

instance preFacts : Cert.Pre_rows_named.Facts := ⟨by decide⟩

/-! ## The program's run, for any float values -/

section
open Cert.KernelIdeal Cert.KernelIdeal.Gen

/-- Both lists name rows of their tables, on every device. -/
def AllNamed {F : FTy → Type} (m : (ℓ : Loc nD τ sig) → Buf (Elt F) ℓ) : Prop :=
  ∀ d : Dev nD, Named (F := F) (m (d, (main_arg2 : DevRef τ sig))) ∧ Named (F := F) (m (d, (main_arg3 : DevRef τ sig)))

/-- What the program leaves: the rows that the indices name, its arguments, every counter zero. -/
theorem run_kernel {F : FTy → Type} [FloatOps F] [∀ e, Nonempty (Elt F e)] (m : (ℓ : Loc nD τ sig) → Buf (Elt F) ℓ) (ρ : Dev nD → PrngReg)
    (h : AllNamed m) :
    θ_run (defs (F := F)) (threads (F := F)) ⟨m, fun _ => 0, ρ⟩ fun r =>
      (∀ c : Dev nD,
        r.2.mem ((c.tc : Thread nD τ).loc main_v23) = taken (F := F) (m ((c.tc : Thread nD τ).loc main_arg0)) (m ((c.tc : Thread nD τ).loc main_arg2))
        ∧ r.2.mem ((c.tc : Thread nD τ).loc main_v24) = taken (F := F) (m ((c.tc : Thread nD τ).loc main_arg1)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r hr =>
      ⟨fun c =>
        ⟨(hr.1 c _ (Finset.mem_filter.mpr ⟨StableHlo.devRef_mem_tcRefs main_v23, by decide⟩)).trans (result_k m c (h c).1),
          (hr.1 c _ (Finset.mem_filter.mpr ⟨StableHlo.devRef_mem_tcRefs main_v24, by decide⟩)).trans (result_v m c (h c).2),
          (hr.1 c _ (Finset.mem_filter.mpr ⟨StableHlo.devRef_mem_tcRefs main_arg0, by decide⟩)).trans (V₃_arg0 m c),
          (hr.1 c _ (Finset.mem_filter.mpr ⟨StableHlo.devRef_mem_tcRefs main_arg1, by decide⟩)).trans (V₃_arg1 m c),
          (hr.1 c _ (Finset.mem_filter.mpr ⟨StableHlo.devRef_mem_tcRefs main_arg2, by decide⟩)).trans (V₃_arg2 m c),
          (hr.1 c _ (Finset.mem_filter.mpr ⟨StableHlo.devRef_mem_tcRefs main_arg3, by decide⟩)).trans (V₃_arg3 m c)⟩,
        hr.2⟩)
    (run_main m ρ (inRange m h))

end

/-! ## The claims -/

theorem named_ideal (m : (ℓ : Loc Cert.KernelIdeal.nD Cert.KernelIdeal.τ Cert.KernelIdeal.sig) → Buf (Elt Ideal) ℓ)
    (h : Cert.Pre_KernelIdeal m) : AllNamed (F := Ideal) m := fun d => named_of_pre (F := Ideal) _ _ _ _ (h d)
theorem named_bits (m : (ℓ : Loc Cert.Kernel.nD Cert.Kernel.τ Cert.Kernel.sig) → Buf (Elt Bits) ℓ)
    (h : Cert.Pre_Kernel m) : AllNamed (F := Bits) m := fun d => named_of_pre (F := Bits) _ _ _ _ (h d)

/-- The run at the machine's words, -/
theorem frame_kernel : Cert.quiescent_Kernel := fun m ρ h =>
  (θ_run Cert.KernelIdeal.defs _ _).mono (fun _ hr => ⟨fun c => (hr.1 c).2.2, hr.2⟩) (run_kernel (F := Bits) m ρ (named_bits m h))

/-- and at the extended reals. -/
theorem frame_ideal : Cert.quiescent_KernelIdeal := fun m ρ h =>
  (θ_run Cert.KernelIdeal.defs _ _).mono (fun _ hr => ⟨fun c => (hr.1 c).2.2, hr.2⟩) (run_kernel (F := Ideal) m ρ (named_ideal m h))

theorem frame_reference_ideal : Cert.quiescent_ReferenceIdeal := fun m ρ _ =>
  (θ_run Cert.ReferenceIdeal.defs _ _).mono (fun _ hr => ⟨fun c => (hr.1 c).2.2, hr.2⟩) (run_reference (F := Ideal) m ρ)

theorem frame_reference_ideal_named : Cert.quiescent_ReferenceIdeal_pre_rows_named := fun m ρ _ => frame_reference_ideal m ρ trivial

theorem frame_reference : Cert.quiescent_Reference := fun m ρ _ =>
  (θ_run Cert.ReferenceIdeal.defs _ _).mono (fun _ hr => ⟨fun c => (hr.1 c).2.2, hr.2⟩) (run_reference (F := Bits) m ρ)

/-- No operation was rewritten. -/
theorem preserves : Cert.preserves_Kernel_KernelIdeal := trivial

theorem algebraic : Cert.algebraic_KernelIdeal_ReferenceIdeal := by
  intro m ρ m' ρ' hpre hargs
  have hn := named_ideal m hpre
  refine ⟨fun c => taken (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => taken (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    (θ_run Cert.KernelIdeal.defs _ _).mono (fun _ hr => hr.1) (run_kernel (F := Ideal) m ρ hn),
    (θ_run Cert.ReferenceIdeal.defs _ _).mono (fun _ hr c => ⟨?_, ?_, (hr.1 c).2.2⟩) (run_reference (F := Ideal) m' ρ')⟩
  · obtain ⟨e₀, e₁, e₂, e₃⟩ := hargs c
    refine ((hr.1 c).1 (by rw [e₂]; exact (hn c).1)).trans ?_
    rw [e₀, e₂]
  · obtain ⟨e₀, e₁, e₂, e₃⟩ := hargs c
    refine ((hr.1 c).2.1 (by rw [e₃]; exact (hn c).2)).trans ?_
    rw [e₁, e₃]

theorem bitexact : Cert.bitexact_Kernel_Reference := by
  intro m ρ m' ρ' hpre hargs
  have hn := named_bits m hpre
  refine ⟨fun c => taken (F := Bits) (m ((c.tc : Thread Cert.Kernel.nD Cert.Kernel.τ).loc Cert.Kernel.main_arg0))
      (m ((c.tc : Thread Cert.Kernel.nD Cert.Kernel.τ).loc Cert.Kernel.main_arg2)),
    fun c => taken (F := Bits) (m ((c.tc : Thread Cert.Kernel.nD Cert.Kernel.τ).loc Cert.Kernel.main_arg1))
      (m ((c.tc : Thread Cert.Kernel.nD Cert.Kernel.τ).loc Cert.Kernel.main_arg3)),
    (θ_run Cert.KernelIdeal.defs _ _).mono (fun _ hr => hr.1) (run_kernel (F := Bits) m ρ hn),
    (θ_run Cert.ReferenceIdeal.defs _ _).mono (fun _ hr c => ⟨?_, ?_, (hr.1 c).2.2⟩) (run_reference (F := Bits) m' ρ')⟩
  · obtain ⟨e₀, e₁, e₂, e₃⟩ := hargs c
    refine ((hr.1 c).1 ?_).trans ?_
    · exact (congrArg (Named (F := Bits)) e₂).mpr (hn c).1
    · exact congr (congrArg (taken (F := Bits)) e₀) e₂
  · obtain ⟨e₀, e₁, e₂, e₃⟩ := hargs c
    refine ((hr.1 c).2.1 ?_).trans ?_
    · exact (congrArg (Named (F := Bits)) e₃).mpr (hn c).2
    · exact congr (congrArg (taken (F := Bits)) e₁) e₃

theorem claim : Cert.Claim :=
  ⟨Cert.Kernel.Gen.facts, Cert.KernelIdeal.Gen.facts, Cert.ReferenceIdeal.Gen.facts, Cert.Reference.Gen.facts,
    Cert.Compress.Gen.facts, Cert.CompressIdeal.Gen.facts, Cert.CompressReferenceIdeal.Gen.facts,
    Cert.Project.Gen.facts, Cert.ProjectIdeal.Gen.facts, Cert.ProjectReferenceIdeal.Gen.facts,
    Cert.Select.Gen.facts, Cert.SelectIdeal.Gen.facts, Cert.SelectReferenceIdeal.Gen.facts,
    Cert.Attend.Gen.facts, Cert.AttendIdeal.Gen.facts, Cert.AttendReferenceIdeal.Gen.facts, preFacts, Select.maskFacts,
    frame_kernel, frame_ideal, frame_reference_ideal, frame_reference_ideal_named, frame_reference,
    Compress.frame_bits, Compress.frame_ideal, Compress.frame_reference,
    Project.frame_bits, Project.frame_ideal, Project.frame_reference,
    Select.frame_bits, Select.frame_ideal, Select.frame_ideal_above, Select.frame_reference, Select.frame_reference_above,
    Attend.frame_bits, Attend.frame_ideal, Attend.frame_reference,
    preserves, algebraic, bitexact, Compress.preserves, Compress.algebraic, Project.preserves, Project.algebraic,
    Select.preserves, Select.algebraic, Attend.preserves, Attend.algebraic⟩

end Cert.Proof

end
